-- ==== Defs.lean ====
def Pre_Kernel (m : (ℓ : Loc Cert.Kernel.nD Cert.Kernel.τ Cert.Kernel.sig) → Buf (Elt Bits) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Vg (m : (ℓ : Loc Cert.Vg.nD Cert.Vg.τ Cert.Vg.sig) → Buf (Elt Bits) ℓ) : Prop :=
  True

def Pre_VgIdeal (m : (ℓ : Loc Cert.VgIdeal.nD Cert.VgIdeal.τ Cert.VgIdeal.sig) → Buf (Elt Ideal) ℓ) : Prop :=
  True

def Pre_VgRefIdeal (m : (ℓ : Loc Cert.VgRefIdeal.nD Cert.VgRefIdeal.τ Cert.VgRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Vg [hVg : Cert.Vg.Facts] : Prop :=
  ∀ (m : (ℓ : Loc Cert.Vg.nD Cert.Vg.τ Cert.Vg.sig) → Buf (Elt Bits) ℓ) (g : Dev Cert.Vg.nD → PrngReg), Pre_Vg m →
    θ_run (Cert.Vg.defs (F := Bits)) (onTc (τ := Cert.Vg.τ) (Cert.Vg.main (F := Bits))) ⟨m, fun _ => 0, g⟩ (fun r => (∀ c : Dev Cert.Vg.nD,
      r.2.mem ((c.tc : Thread Cert.Vg.nD Cert.Vg.τ).loc Cert.Vg.main_arg0) = m ((c.tc : Thread Cert.Vg.nD Cert.Vg.τ).loc Cert.Vg.main_arg0)
      ∧ r.2.mem ((c.tc : Thread Cert.Vg.nD Cert.Vg.τ).loc Cert.Vg.main_arg1) = m ((c.tc : Thread Cert.Vg.nD Cert.Vg.τ).loc Cert.Vg.main_arg1))
      ∧ r.2.sem = fun _ => 0)

def quiescent_VgIdeal [hVgIdeal : Cert.VgIdeal.Facts] : Prop :=
  ∀ (m : (ℓ : Loc Cert.VgIdeal.nD Cert.VgIdeal.τ Cert.VgIdeal.sig) → Buf (Elt Ideal) ℓ) (g : Dev Cert.VgIdeal.nD → PrngReg), Pre_VgIdeal m →
    θ_run (Cert.VgIdeal.defs (F := Ideal)) (onTc (τ := Cert.VgIdeal.τ) (Cert.VgIdeal.main (F := Ideal))) ⟨m, fun _ => 0, g⟩ (fun r => (∀ c : Dev Cert.VgIdeal.nD,
      r.2.mem ((c.tc : Thread Cert.VgIdeal.nD Cert.VgIdeal.τ).loc Cert.VgIdeal.main_arg0) = m ((c.tc : Thread Cert.VgIdeal.nD Cert.VgIdeal.τ).loc Cert.VgIdeal.main_arg0)
      ∧ r.2.mem ((c.tc : Thread Cert.VgIdeal.nD Cert.VgIdeal.τ).loc Cert.VgIdeal.main_arg1) = m ((c.tc : Thread Cert.VgIdeal.nD Cert.VgIdeal.τ).loc Cert.VgIdeal.main_arg1))
      ∧ r.2.sem = fun _ => 0)

def quiescent_VgRefIdeal [hVgRefIdeal : Cert.VgRefIdeal.Facts] : Prop :=
  ∀ (m : (ℓ : Loc Cert.VgRefIdeal.nD Cert.VgRefIdeal.τ Cert.VgRefIdeal.sig) → Buf (Elt Ideal) ℓ) (g : Dev Cert.VgRefIdeal.nD → PrngReg), Pre_VgRefIdeal m →
    θ_run (Cert.VgRefIdeal.defs (F := Ideal)) (onTc (τ := Cert.VgRefIdeal.τ) (Cert.VgRefIdeal.main (F := Ideal))) ⟨m, fun _ => 0, g⟩ (fun r => (∀ c : Dev Cert.VgRefIdeal.nD,
      r.2.mem ((c.tc : Thread Cert.VgRefIdeal.nD Cert.VgRefIdeal.τ).loc Cert.VgRefIdeal.main_arg0) = m ((c.tc : Thread Cert.VgRefIdeal.nD Cert.VgRefIdeal.τ).loc Cert.VgRefIdeal.main_arg0)
      ∧ r.2.mem ((c.tc : Thread Cert.VgRefIdeal.nD Cert.VgRefIdeal.τ).loc Cert.VgRefIdeal.main_arg1) = m ((c.tc : Thread Cert.VgRefIdeal.nD Cert.VgRefIdeal.τ).loc Cert.VgRefIdeal.main_arg1))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Vg_VgIdeal : Prop :=
  True

def algebraic_VgIdeal_VgRefIdeal [hVgIdeal : Cert.VgIdeal.Facts] [hVgRefIdeal : Cert.VgRefIdeal.Facts] : Prop :=
  ∀ (m : (ℓ : Loc Cert.VgIdeal.nD Cert.VgIdeal.τ Cert.VgIdeal.sig) → Buf (Elt Ideal) ℓ) (g : Dev Cert.VgIdeal.nD → PrngReg)
    (m' : (ℓ : Loc Cert.VgRefIdeal.nD Cert.VgRefIdeal.τ Cert.VgRefIdeal.sig) → Buf (Elt Ideal) ℓ) (g' : Dev Cert.VgRefIdeal.nD → PrngReg), Pre_VgIdeal m →
    (∀ c : Dev Cert.VgIdeal.nD,
      m' ((c.tc : Thread Cert.VgRefIdeal.nD Cert.VgRefIdeal.τ).loc Cert.VgRefIdeal.main_arg0) = m ((c.tc : Thread Cert.VgIdeal.nD Cert.VgIdeal.τ).loc Cert.VgIdeal.main_arg0)
      ∧ m' ((c.tc : Thread Cert.VgRefIdeal.nD Cert.VgRefIdeal.τ).loc Cert.VgRefIdeal.main_arg1) = m ((c.tc : Thread Cert.VgIdeal.nD Cert.VgIdeal.τ).loc Cert.VgIdeal.main_arg1)) →
    ∃ (v0 : (c : Dev Cert.VgIdeal.nD) → Buf (Elt Ideal) ((c.tc : Thread Cert.VgIdeal.nD Cert.VgIdeal.τ).loc Cert.VgIdeal.main_v8)),
      θ_run (Cert.VgIdeal.defs (F := Ideal)) (onTc (τ := Cert.VgIdeal.τ) (Cert.VgIdeal.main (F := Ideal))) ⟨m, fun _ => 0, g⟩ (fun r => ∀ c : Dev Cert.VgIdeal.nD,
          r.2.mem ((c.tc : Thread Cert.VgIdeal.nD Cert.VgIdeal.τ).loc Cert.VgIdeal.main_v8) = v0 c
          ∧ r.2.mem ((c.tc : Thread Cert.VgIdeal.nD Cert.VgIdeal.τ).loc Cert.VgIdeal.main_arg0) = m ((c.tc : Thread Cert.VgIdeal.nD Cert.VgIdeal.τ).loc Cert.VgIdeal.main_arg0)
          ∧ r.2.mem ((c.tc : Thread Cert.VgIdeal.nD Cert.VgIdeal.τ).loc Cert.VgIdeal.main_arg1) = m ((c.tc : Thread Cert.VgIdeal.nD Cert.VgIdeal.τ).loc Cert.VgIdeal.main_arg1))
      ∧ θ_run (Cert.VgRefIdeal.defs (F := Ideal)) (onTc (τ := Cert.VgRefIdeal.τ) (Cert.VgRefIdeal.main (F := Ideal))) ⟨m', fun _ => 0, g'⟩ (fun r => ∀ c : Dev Cert.VgRefIdeal.nD,
          r.2.mem ((c.tc : Thread Cert.VgRefIdeal.nD Cert.VgRefIdeal.τ).loc Cert.VgRefIdeal.main_v23) = v0 c
          ∧ r.2.mem ((c.tc : Thread Cert.VgRefIdeal.nD Cert.VgRefIdeal.τ).loc Cert.VgRefIdeal.main_arg0) = m' ((c.tc : Thread Cert.VgRefIdeal.nD Cert.VgRefIdeal.τ).loc Cert.VgRefIdeal.main_arg0)
          ∧ r.2.mem ((c.tc : Thread Cert.VgRefIdeal.nD Cert.VgRefIdeal.τ).loc Cert.VgRefIdeal.main_arg1) = m' ((c.tc : Thread Cert.VgRefIdeal.nD Cert.VgRefIdeal.τ).loc Cert.VgRefIdeal.main_arg1))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)
      ∧ m' ((c.tc : Thread Cert.QkRefIdeal.nD Cert.QkRefIdeal.τ).loc Cert.QkRefIdeal.main_arg5) = m ((c.tc : Thread Cert.QkIdeal.nD Cert.QkIdeal.τ).loc Cert.QkIdeal.main_arg5)
      ∧ m' ((c.tc : Thread Cert.QkRefIdeal.nD Cert.QkRefIdeal.τ).loc Cert.QkRefIdeal.main_arg6) = m ((c.tc : Thread Cert.QkIdeal.nD Cert.QkIdeal.τ).loc Cert.QkIdeal.main_arg6)) →
    ∃ (v0 : (c : Dev Cert.QkIdeal.nD) → Buf (Elt Ideal) ((c.tc : Thread Cert.QkIdeal.nD Cert.QkIdeal.τ).loc Cert.QkIdeal.main_v45)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v45) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v141) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5)
          ∧ r.2.mem ((c.tc : Thread Cert.QkRefIdeal.nD Cert.QkRefIdeal.τ).loc Cert.QkRefIdeal.main_arg6) = m' ((c.tc : Thread Cert.QkRefIdeal.nD Cert.QkRefIdeal.τ).loc Cert.QkRefIdeal.main_arg6))

def preserves_Diff_DiffIdeal : Prop :=
  IdealRules.named_const.Statement Cert.DiffIdeal.κ "mask" .f32 0xF149F2CA#32 ⊥

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v5)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v5) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v64) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v11) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def Claim : Prop :=
  ∃ (hKernel : Cert.Kernel.Facts) (hNorm : Cert.Norm.Facts) (hNormIdeal : Cert.NormIdeal.Facts) (hNormRefIdeal : Cert.NormRefIdeal.Facts) (hVg : Cert.Vg.Facts) (hVgIdeal : Cert.VgIdeal.Facts) (hVgRefIdeal : Cert.VgRefIdeal.Facts) (hQk : Cert.Qk.Facts) (hQkIdeal : Cert.QkIdeal.Facts) (hQkRefIdeal : Cert.QkRefIdeal.Facts) (hDiff : Cert.Diff.Facts) (hDiffIdeal : Cert.DiffIdeal.Facts) (hDiffRefIdeal : Cert.DiffRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hPre_finite : Cert.Pre_finite.Facts),
    quiescent_Kernel (hKernel := hKernel)
    ∧ quiescent_Norm (hNorm := hNorm)
    ∧ quiescent_NormIdeal (hNormIdeal := hNormIdeal)
    ∧ quiescent_NormRefIdeal (hNormRefIdeal := hNormRefIdeal)
    ∧ quiescent_Vg (hVg := hVg)
    ∧ quiescent_VgIdeal (hVgIdeal := hVgIdeal)
    ∧ quiescent_VgRefIdeal (hVgRefIdeal := hVgRefIdeal)
    ∧ quiescent_Qk (hQk := hQk)
    ∧ quiescent_QkIdeal (hQkIdeal := hQkIdeal)
    ∧ quiescent_QkRefIdeal (hQkRefIdeal := hQkRefIdeal)
    ∧ quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ preserves_Norm_NormIdeal
    ∧ algebraic_NormIdeal_NormRefIdeal (hNormIdeal := hNormIdeal) (hNormRefIdeal := hNormRefIdeal)
    ∧ preserves_Vg_VgIdeal
    ∧ algebraic_VgIdeal_VgRefIdeal (hVgIdeal := hVgIdeal) (hVgRefIdeal := hVgRefIdeal)
    ∧ preserves_Qk_QkIdeal
    ∧ algebraic_QkIdeal_QkRefIdeal (hQkIdeal := hQkIdeal) (hQkRefIdeal := hQkRefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
-- ==== Pre_finite.lean ====
abbrev S32768x4096 : Shape := ⟨2, ![32768, 4096]⟩
abbrev S32768x8192 : Shape := ⟨2, ![32768, 8192]⟩
abbrev S256 : Shape := ⟨1, ![256]⟩
abbrev S128 : Shape := ⟨1, ![128]⟩
abbrev S32768x2048 : Shape := ⟨2, ![32768, 2048]⟩
abbrev S32768x1024 : Shape := ⟨2, ![32768, 1024]⟩
abbrev S_ : Shape := ⟨0, ![]⟩

class Facts : Prop where
  slices_S32768x4096_S32768x2048_0_2048 : S32768x4096.Slices ![0, 2048] S32768x2048
  bitsLt_bf16_f32 : FTy.bits .bf16 < FTy.bits .f32
  slices_S32768x8192_S32768x1024_0_1024 : S32768x8192.Slices ![0, 1024] S32768x1024
  bcast_S_S32768x2048 : S_.BroadcastsInDim S32768x2048 (![] : Fin 0 → Fin S32768x2048.rank)
  bcast_S_S32768x1024 : S_.BroadcastsInDim S32768x1024 (![] : Fin 0 → Fin S32768x1024.rank)
  bcast_S_S128 : S_.BroadcastsInDim S128 (![] : Fin 0 → Fin S128.rank)

variable [Facts]

def fn_part1 {F : FTy → Type} [FloatOps F] (main_arg6 : FVec F S128 .f32) (main_v6 : IVec S32768x2048 1) (main_v9 : IVec S32768x1024 1) (main_v12 : IVec S128 1) (main_v15 : IVec S128 1) (main_v18 : IVec S128 1) : IVec S32768x2048 1 × IVec S32768x1024 1 × IVec S128 1 × IVec S128 1 × IVec S128 1 × IVec S128 1 :=
  let main_v19 : FVec F S128 .f32 := Host.absf main_arg6
  let main_cst_4 : FVec F S_ .f32 := constant S_ .f32 0x7F800000#32
  let main_v20 : FVec F S128 .f32 := broadcastInDim S128 ![] bcast_S_S128 main_cst_4
  let main_v21 : IVec S128 1 := cmpf .olt main_v19 main_v20
  (main_v6, main_v9, main_v12, main_v15, main_v18, main_v21)

def fn {F : FTy → Type} [FloatOps F] (main_arg0 : FVec F S32768x4096 .bf16) (main_arg1 : FVec F S32768x8192 .bf16) (main_arg2 : FVec F S256 .f32) (main_arg3 : FVec F S128 .f32) (main_arg4 : FVec F S128 .f32) (main_arg5 : FVec F S128 .f32) (main_arg6 : FVec F S128 .f32) : IVec S32768x2048 1 × IVec S32768x1024 1 × IVec S128 1 × IVec S128 1 × IVec S128 1 × IVec S128 1 :=
  let main_v0 : FVec F S32768x2048 .bf16 := (extractStridedSlice S32768x2048 ![0, 2048] · slices_S32768x4096_S32768x2048_0_2048) main_arg0
  let main_v1 : FVec F S32768x2048 .f32 := (extf .f32 · bitsLt_bf16_f32) main_v0
  let main_v2 : FVec F S32768x1024 .bf16 := (extractStridedSlice S32768x1024 ![0, 1024] · slices_S32768x8192_S32768x1024_0_1024) main_arg1
  let main_v3 : FVec F S32768x1024 .f32 := (extf .f32 · bitsLt_bf16_f32) main_v2
  let main_v4 : FVec F S32768x2048 .f32 := Host.absf main_v1
  let main_cst : FVec F S_ .f32 := constant S_ .f32 0x7F800000#32
  let main_v5 : FVec F S32768x2048 .f32 := broadcastInDim S32768x2048 ![] bcast_S_S32768x2048 main_cst
  let main_v6 : IVec S32768x2048 1 := cmpf .olt main_v4 main_v5
  let main_v7 : FVec F S32768x1024 .f32 := Host.absf main_v3
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_v10 : FVec F S128 .f32 := Host.absf main_arg3
  let main_cst_1 : FVec F S_ .f32 := constant S_ .f32 0x7F800000#32
  let main_v11 : FVec F S128 .f32 := broadcastInDim S128 ![] bcast_S_S128 main_cst_1
  let main_v12 : IVec S128 1 := cmpf .olt main_v10 main_v11
  let main_v13 : FVec F S128 .f32 := Host.absf main_arg4
  let main_cst_2 : FVec F S_ .f32 := constant S_ .f32 0x7F800000#32
  let main_v14 : FVec F S128 .f32 := broadcastInDim S128 ![] bcast_S_S128 main_cst_2
  let main_v15 : IVec S128 1 := cmpf .olt main_v13 main_v14
  let main_v16 : FVec F S128 .f32 := Host.absf main_arg5
  let main_cst_3 : FVec F S_ .f32 := constant S_ .f32 0x7F800000#32
  let main_v17 : FVec F S128 .f32 := broadcastInDim S128 ![] bcast_S_S128 main_cst_3
  let main_v18 : IVec S128 1 := cmpf .olt main_v16 main_v17
  fn_part1 (F := F) main_arg6 main_v6 main_v9 main_v12 main_v15 main_v18
-- ==== Kernel.lean ====
abbrev S8x32768x128 : Shape := ⟨3, ![8, 32768, 128]⟩
abbrev S32768x128 : Shape := ⟨2, ![32768, 128]⟩
abbrev S2x32768x128 : Shape := ⟨3, ![2, 32768, 128]⟩
abbrev S32768x4096 : Shape := ⟨2, ![32768, 4096]⟩
abbrev S32768x8192 : Shape := ⟨2, ![32768, 8192]⟩
abbrev S1056 : Shape := ⟨1, ![1056]⟩
abbrev S32768x1024 : Shape := ⟨2, ![32768, 1024]⟩
abbrev S8x256x128 : Shape := ⟨3, ![8, 256, 128]⟩
abbrev S1 : Shape := ⟨1, ![1]⟩
abbrev S256x128 : Shape := ⟨2, ![256, 128]⟩
abbrev S2x16384x128 : Shape := ⟨3, ![2, 16384, 128]⟩
abbrev S256x1024 : Shape := ⟨2, ![256, 1024]⟩
abbrev S512x1024 : Shape := ⟨2, ![512, 1024]⟩
abbrev S32x256x512 : Shape := ⟨3, ![32, 256, 512]⟩
abbrev S2x256x128 : Shape := ⟨3, ![2, 256, 128]⟩
abbrev S256x512 : Shape := ⟨2, ![256, 512]⟩
abbrev S1x512x128 : Shape := ⟨3, ![1, 512, 128]⟩
abbrev S512x128 : Shape := ⟨2, ![512, 128]⟩
abbrev S1x256x128 : Shape := ⟨3, ![1, 256, 128]⟩
abbrev S256x1 : Shape := ⟨2, ![256, 1]⟩
abbrev S1x256x512 : Shape := ⟨3, ![1, 256, 512]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x1x1 : Shape := ⟨3, ![1, 1, 1]⟩
abbrev S1x64x512 : Shape := ⟨3, ![1, 64, 512]⟩
abbrev S64x512 : Shape := ⟨2, ![64, 512]⟩
abbrev S256 : Shape := ⟨1, ![256]⟩

abbrev nBuf : Space → Nat
  | .hbm => 6
  | .vmem => 23
  | .smem => 2
  | _ => 0

abbrev bufTy : (tb : Table) → Fin (tcTables nBuf tb) → BufTy
  | .hbm, ⟨0, _⟩ => ⟨S8x32768x128, .bf16⟩
  | .hbm, ⟨1, _⟩ => ⟨S32768x128, .f32⟩
  | .hbm, ⟨2, _⟩ => ⟨S2x32768x128, .bf16⟩
  | .hbm, ⟨3, _⟩ => ⟨S32768x4096, .bf16⟩
  | .hbm, ⟨4, _⟩ => ⟨S32768x8192, .bf16⟩
  | .hbm, ⟨5, _⟩ => ⟨S32768x1024, .bf16⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S2x16384x128, .bf16⟩
  | .local _ .vmem, ⟨5, _⟩ => ⟨S2x16384x128, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S32x256x512, .i32⟩
  | .local _ .vmem, ⟨17, _⟩ => ⟨S2x256x128, .f32⟩
  | .local _ .vmem, ⟨18, _⟩ => ⟨S256x128, .i32⟩
  | .local _ .vmem, ⟨19, _⟩ => ⟨S256x512, .f32⟩
  | .local _ .vmem, ⟨20, _⟩ => ⟨S8x256x128, .f32⟩
  | .local _ .vmem, ⟨21, _⟩ => ⟨S8x256x128, .f32⟩
  | .local _ .vmem, ⟨22, _⟩ => ⟨S8x256x128, .f32⟩
  | .local _ .smem, ⟨0, _⟩ => ⟨S1056, .i32⟩
  | .local _ .smem, ⟨1, _⟩ => ⟨S1056, .i32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![2, 1056], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop (v1 : BitVec 32) : Scf.Loop 32 :=
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let c1_i32_252 : BitVec 32 := 1#32
  ⟨c0_i32_250, v369, c1_i32_252⟩
def k0_cond1 (v3 : BitVec 32) : BitVec 1 :=
  let c0_i32_6 : BitVec 32 := 0#32
  let v24 : BitVec 1 := Scalar.cmpi .eq v3 c0_i32_6
  let v25 : BitVec 32 := Scalar.extui v24
  let c0_i32_7 : BitVec 32 := 0#32
  let v26 : BitVec 1 := Scalar.cmpi .ne v25 c0_i32_7
  v26

def k0_mult1 (v1 : BitVec 32) (k0_t1 : Fin (k0_t1_loop v1).trips) : BitVec 32 :=
  let c0_i32_250 : BitVec 32 := 0#32
  let c1_i32_252 : BitVec 32 := 1#32
  let arg19 : BitVec 32 := Scf.iv c0_i32_250 c1_i32_252 k0_t1
  let c512_i32_399 : BitVec 32 := 512#32
  let v694 : BitVec 32 := Scalar.muli arg19 c512_i32_399
  v694
def k0_off2 (v1 : BitVec 32) (k0_t1 : Fin (k0_t1_loop v1).trips) : Fin 3 → Nat :=
  let c0_400 : Index := 0#32
  let c0_i32_250 : BitVec 32 := 0#32
  let c1_i32_252 : BitVec 32 := 1#32
  let arg19 : BitVec 32 := Scf.iv c0_i32_250 c1_i32_252 k0_t1
  let c512_i32_399 : BitVec 32 := 512#32
  let v694 : BitVec 32 := Scalar.muli arg19 c512_i32_399
  let v695 : BitVec 32 := v694
  let v696 : Index := Scalar.indexCast v695
  let c0_401 : Index := 0#32
  ![0, v696.toNat, 0]
def k0_off3 (v1 : BitVec 32) (k0_t1 : Fin (k0_t1_loop v1).trips) : Fin 3 → Nat :=
  let c1_402 : Index := 1#32
  let c0_i32_250 : BitVec 32 := 0#32
  let c1_i32_252 : BitVec 32 := 1#32
  let arg19 : BitVec 32 := Scf.iv c0_i32_250 c1_i32_252 k0_t1
  let c512_i32_399 : BitVec 32 := 512#32
  let v694 : BitVec 32 := Scalar.muli arg19 c512_i32_399
  let v695 : BitVec 32 := v694
  let v699 : Index := Scalar.indexCast v695
  let c0_403 : Index := 0#32
  ![1, v699.toNat, 0]
def k0_off4 (v1 : BitVec 32) (k0_t1 : Fin (k0_t1_loop v1).trips) : Fin 3 → Nat :=
  let c0_i32_250 : BitVec 32 := 0#32
  let c1_i32_252 : BitVec 32 := 1#32
  let arg19 : BitVec 32 := Scf.iv c0_i32_250 c1_i32_252 k0_t1
  let v843 : Index := Scalar.indexCast arg19
  let c0_465 : Index := 0#32
  let c0_466 : Index := 0#32
  ![v843.toNat, 0, 0]
@[reducible] def k0_t2_loop (v1 : BitVec 32) : Scf.Loop 32 :=
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let v366 : BitVec 32 := Scalar.addi c0_i32_250 v365
  let c1_i32_253 : BitVec 32 := 1#32
  ⟨v369, v366, c1_i32_253⟩
def k0_mult2 (v1 : BitVec 32) (k0_t2 : Fin (k0_t2_loop v1).trips) : BitVec 32 :=
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let c1_i32_253 : BitVec 32 := 1#32
  let arg19 : BitVec 32 := Scf.iv v369 c1_i32_253 k0_t2
  let c512_i32_399 : BitVec 32 := 512#32
  let v694 : BitVec 32 := Scalar.muli arg19 c512_i32_399
  v694
def k0_off5 (v1 : BitVec 32) (k0_t2 : Fin (k0_t2_loop v1).trips) : Fin 3 → Nat :=
  let c0_400 : Index := 0#32
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let c1_i32_253 : BitVec 32 := 1#32
  let arg19 : BitVec 32 := Scf.iv v369 c1_i32_253 k0_t2
  let c512_i32_399 : BitVec 32 := 512#32
  let v694 : BitVec 32 := Scalar.muli arg19 c512_i32_399
  let v695 : BitVec 32 := v694
  let v696 : Index := Scalar.indexCast v695
  let c0_401 : Index := 0#32
  ![0, v696.toNat, 0]
def k0_off6 (v1 : BitVec 32) (k0_t2 : Fin (k0_t2_loop v1).trips) : Fin 3 → Nat :=
  let c1_402 : Index := 1#32
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let c1_i32_253 : BitVec 32 := 1#32
  let arg19 : BitVec 32 := Scf.iv v369 c1_i32_253 k0_t2
  let c512_i32_399 : BitVec 32 := 512#32
  let v694 : BitVec 32 := Scalar.muli arg19 c512_i32_399
  let v695 : BitVec 32 := v694
  let v699 : Index := Scalar.indexCast v695
  let c0_403 : Index := 0#32
  ![1, v699.toNat, 0]
def k0_off7 (v1 : BitVec 32) (k0_t2 : Fin (k0_t2_loop v1).trips) : Fin 3 → Nat :=
  let c0_i32_250 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_248 : BitVec 32 := 1#32
  let v364 : BitVec 32 := Scalar.addi v23 c1_i32_248
  let v365 : BitVec 32 := Scalar.subi v364 c0_i32_250
  let c1_i32_251 : BitVec 32 := 1#32
  let v367 : BitVec 32 := Scalar.divsi v365 c1_i32_251
  let v368 : BitVec 32 := Scalar.muli v367 c1_i32_251
  let v369 : BitVec 32 := Scalar.addi c0_i32_250 v368
  let c1_i32_253 : BitVec 32 := 1#32
  let arg19 : BitVec 32 := Scf.iv v369 c1_i32_253 k0_t2
  let v843 : Index := Scalar.indexCast arg19
  let c0_465 : Index := 0#32
  let c0_466 : Index := 0#32
  ![v843.toNat, 0, 0]
@[reducible] def k0_t3_loop (v431 : BitVec 32) : Scf.Loop 32 :=
  let c0_i32_273 : BitVec 32 := 0#32
  let c1_i32_271 : BitVec 32 := 1#32
  let v432 : BitVec 32 := Scalar.subi v431 c1_i32_271
  let c1_i32_272 : BitVec 32 := 1#32
  let v433 : BitVec 32 := Scalar.addi v432 c1_i32_272
  let v434 : BitVec 32 := Scalar.subi v433 c0_i32_273
  let c1_i32_275 : BitVec 32 := 1#32
  let v436 : BitVec 32 := Scalar.divsi v434 c1_i32_275
  let v437 : BitVec 32 := Scalar.muli v436 c1_i32_275
  let v438 : BitVec 32 := Scalar.addi c0_i32_273 v437
  let c1_i32_276 : BitVec 32 := 1#32
  ⟨c0_i32_273, v438, c1_i32_276⟩

@[reducible] def k0_t4_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off8 (v1 : BitVec 32) (k0_t4 : Fin (k0_t4_loop v1).trips) : Fin 3 → Nat :=
  let c0_i32_407 : BitVec 32 := 0#32
  let c1_i32_409 : BitVec 32 := 1#32
  let arg24 : BitVec 32 := Scf.iv c0_i32_407 c1_i32_409 k0_t4
  let v741 : Index := Scalar.indexCast arg24
  let c0_418 : Index := 0#32
  let c0_419 : Index := 0#32
  ![v741.toNat, 0, 0]
@[reducible] def k0_t5_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off9 (v1 : BitVec 32) (k0_t5 : Fin (k0_t5_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t5
  let v741 : Index := Scalar.indexCast arg24
  let c0_418 : Index := 0#32
  let c0_419 : Index := 0#32
  ![v741.toNat, 0, 0]
@[reducible] def k0_t6_loop (v431 : BitVec 32) : Scf.Loop 32 :=
  let c0_i32_273 : BitVec 32 := 0#32
  let c1_i32_271 : BitVec 32 := 1#32
  let v432 : BitVec 32 := Scalar.subi v431 c1_i32_271
  let c1_i32_272 : BitVec 32 := 1#32
  let v433 : BitVec 32 := Scalar.addi v432 c1_i32_272
  let v434 : BitVec 32 := Scalar.subi v433 c0_i32_273
  let c1_i32_275 : BitVec 32 := 1#32
  let v436 : BitVec 32 := Scalar.divsi v434 c1_i32_275
  let v437 : BitVec 32 := Scalar.muli v436 c1_i32_275
  let v438 : BitVec 32 := Scalar.addi c0_i32_273 v437
  let v435 : BitVec 32 := Scalar.addi c0_i32_273 v434
  let c1_i32_277 : BitVec 32 := 1#32
  ⟨v438, v435, c1_i32_277⟩
@[reducible] def k0_t7_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off10 (v1 : BitVec 32) (k0_t7 : Fin (k0_t7_loop v1).trips) : Fin 3 → Nat :=
  let c0_i32_407 : BitVec 32 := 0#32
  let c1_i32_409 : BitVec 32 := 1#32
  let arg24 : BitVec 32 := Scf.iv c0_i32_407 c1_i32_409 k0_t7
  let v741 : Index := Scalar.indexCast arg24
  let c0_418 : Index := 0#32
  let c0_419 : Index := 0#32
  ![v741.toNat, 0, 0]
@[reducible] def k0_t8_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off11 (v1 : BitVec 32) (k0_t8 : Fin (k0_t8_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t8
  let v741 : Index := Scalar.indexCast arg24
  let c0_418 : Index := 0#32
  let c0_419 : Index := 0#32
  ![v741.toNat, 0, 0]

def k0_chk2 (v1 : BitVec 32) (v3 : BitVec 32) (v431 : BitVec 32) : Prop :=
  (∀ (k0_h1 : k0_cond1 v3 = 1#1), (k0_t3_loop v431).OK) ∧
  (∀ k0_t3 : Fin (k0_t3_loop v431).trips, ∀ (k0_h1 : k0_cond1 v3 = 1#1), (k0_t4_loop v1).OK) ∧
  (∀ (k0_t3 : Fin (k0_t3_loop v431).trips) (k0_t4 : Fin (k0_t4_loop v1).trips), ∀ (k0_h1 : k0_cond1 v3 = 1#1), ∀ a, (k0_off8 v1 k0_t4) a + S1x64x512.size a ≤ S32x256x512.size a) ∧
  (∀ k0_t3 : Fin (k0_t3_loop v431).trips, ∀ (k0_h1 : k0_cond1 v3 = 1#1), (k0_t5_loop v1).OK) ∧
  (∀ (k0_t3 : Fin (k0_t3_loop v431).trips) (k0_t5 : Fin (k0_t5_loop v1).trips), ∀ (k0_h1 : k0_cond1 v3 = 1#1), ∀ a, (k0_off9 v1 k0_t5) a + S1x64x512.size a ≤ S32x256x512.size a) ∧
  (∀ (k0_h1 : k0_cond1 v3 = 1#1), (k0_t6_loop v431).OK) ∧
  (∀ k0_t6 : Fin (k0_t6_loop v431).trips, ∀ (k0_h1 : k0_cond1 v3 = 1#1), (k0_t7_loop v1).OK) ∧
  (∀ (k0_t6 : Fin (k0_t6_loop v431).trips) (k0_t7 : Fin (k0_t7_loop v1).trips), ∀ (k0_h1 : k0_cond1 v3 = 1#1), ∀ a, (k0_off10 v1 k0_t7) a + S1x64x512.size a ≤ S32x256x512.size a) ∧
  (∀ k0_t6 : Fin (k0_t6_loop v431).trips, ∀ (k0_h1 : k0_cond1 v3 = 1#1), (k0_t8_loop v1).OK) ∧
  (∀ (k0_t6 : Fin (k0_t6_loop v431).trips) (k0_t8 : Fin (k0_t8_loop v1).trips), ∀ (k0_h1 : k0_cond1 v3 = 1#1), ∀ a, (k0_off11 v1 k0_t8) a + S1x64x512.size a ≤ S32x256x512.size a)
theorem k0_t3_ok : ∀ (v1 : BitVec 32) (v3 : BitVec 32) (v431 : BitVec 32) (k0_hw2 : k0_chk2 v1 v3 v431), ∀ (k0_h1 : k0_cond1 v3 = 1#1), (k0_t3_loop v431).OK := fun v1 v3 v431 k0_hw2 k0_h1 => k0_hw2.1 k0_h1
theorem k0_t4_ok : ∀ (v1 : BitVec 32) (v3 : BitVec 32) (v431 : BitVec 32) (k0_hw2 : k0_chk2 v1 v3 v431) (k0_t3 : Fin (k0_t3_loop v431).trips), ∀ (k0_h1 : k0_cond1 v3 = 1#1), (k0_t4_loop v1).OK := fun v1 v3 v431 k0_hw2 k0_t3 k0_h1 => k0_hw2.2.1 k0_t3 k0_h1
theorem k0_off8_inb : ∀ (v1 : BitVec 32) (v3 : BitVec 32) (v431 : BitVec 32) (k0_hw2 : k0_chk2 v1 v3 v431) (k0_t3 : Fin (k0_t3_loop v431).trips) (k0_t4 : Fin (k0_t4_loop v1).trips), ∀ (k0_h1 : k0_cond1 v3 = 1#1), ∀ a, (k0_off8 v1 k0_t4) a + S1x64x512.size a ≤ S32x256x512.size a := fun v1 v3 v431 k0_hw2 k0_t3 k0_t4 k0_h1 => k0_hw2.2.2.1 k0_t3 k0_t4 k0_h1
theorem k0_t5_ok : ∀ (v1 : BitVec 32) (v3 : BitVec 32) (v431 : BitVec 32) (k0_hw2 : k0_chk2 v1 v3 v431) (k0_t3 : Fin (k0_t3_loop v431).trips), ∀ (k0_h1 : k0_cond1 v3 = 1#1), (k0_t5_loop v1).OK := fun v1 v3 v431 k0_hw2 k0_t3 k0_h1 => k0_hw2.2.2.2.1 k0_t3 k0_h1
theorem k0_off9_inb : ∀ (v1 : BitVec 32) (v3 : BitVec 32) (v431 : BitVec 32) (k0_hw2 : k0_chk2 v1 v3 v431) (k0_t3 : Fin (k0_t3_loop v431).trips) (k0_t5 : Fin (k0_t5_loop v1).trips), ∀ (k0_h1 : k0_cond1 v3 = 1#1), ∀ a, (k0_off9 v1 k0_t5) a + S1x64x512.size a ≤ S32x256x512.size a := fun v1 v3 v431 k0_hw2 k0_t3 k0_t5 k0_h1 => k0_hw2.2.2.2.2.1 k0_t3 k0_t5 k0_h1
theorem k0_t6_ok : ∀ (v1 : BitVec 32) (v3 : BitVec 32) (v431 : BitVec 32) (k0_hw2 : k0_chk2 v1 v3 v431), ∀ (k0_h1 : k0_cond1 v3 = 1#1), (k0_t6_loop v431).OK := fun v1 v3 v431 k0_hw2 k0_h1 => k0_hw2.2.2.2.2.2.1 k0_h1
theorem k0_t7_ok : ∀ (v1 : BitVec 32) (v3 : BitVec 32) (v431 : BitVec 32) (k0_hw2 : k0_chk2 v1 v3 v431) (k0_t6 : Fin (k0_t6_loop v431).trips), ∀ (k0_h1 : k0_cond1 v3 = 1#1), (k0_t7_loop v1).OK := fun v1 v3 v431 k0_hw2 k0_t6 k0_h1 => k0_hw2.2.2.2.2.2.2.1 k0_t6 k0_h1
theorem k0_off10_inb : ∀ (v1 : BitVec 32) (v3 : BitVec 32) (v431 : BitVec 32) (k0_hw2 : k0_chk2 v1 v3 v431) (k0_t6 : Fin (k0_t6_loop v431).trips) (k0_t7 : Fin (k0_t7_loop v1).trips), ∀ (k0_h1 : k0_cond1 v3 = 1#1), ∀ a, (k0_off10 v1 k0_t7) a + S1x64x512.size a ≤ S32x256x512.size a := fun v1 v3 v431 k0_hw2 k0_t6 k0_t7 k0_h1 => k0_hw2.2.2.2.2.2.2.2.1 k0_t6 k0_t7 k0_h1
theorem k0_t8_ok : ∀ (v1 : BitVec 32) (v3 : BitVec 32) (v431 : BitVec 32) (k0_hw2 : k0_chk2 v1 v3 v431) (k0_t6 : Fin (k0_t6_loop v431).trips), ∀ (k0_h1 : k0_cond1 v3 = 1#1), (k0_t8_loop v1).OK := fun v1 v3 v431 k0_hw2 k0_t6 k0_h1 => k0_hw2.2.2.2.2.2.2.2.2.1 k0_t6 k0_h1
theorem k0_off11_inb : ∀ (v1 : BitVec 32) (v3 : BitVec 32) (v431 : BitVec 32) (k0_hw2 : k0_chk2 v1 v3 v431) (k0_t6 : Fin (k0_t6_loop v431).trips) (k0_t8 : Fin (k0_t8_loop v1).trips), ∀ (k0_h1 : k0_cond1 v3 = 1#1), ∀ a, (k0_off11 v1 k0_t8) a + S1x64x512.size a ≤ S32x256x512.size a := fun v1 v3 v431 k0_hw2 k0_t6 k0_t8 k0_h1 => k0_hw2.2.2.2.2.2.2.2.2.2 k0_t6 k0_t8 k0_h1

@[reducible] def k0_t9_loop (v509 : BitVec 32) : Scf.Loop 32 :=
  let c0_i32_307 : BitVec 32 := 0#32
  let c1_i32_305 : BitVec 32 := 1#32
  let v510 : BitVec 32 := Scalar.subi v509 c1_i32_305
  let c1_i32_306 : BitVec 32 := 1#32
  let v511 : BitVec 32 := Scalar.addi v510 c1_i32_306
  let v512 : BitVec 32 := Scalar.subi v511 c0_i32_307
  let c1_i32_309 : BitVec 32 := 1#32
  let v514 : BitVec 32 := Scalar.divsi v512 c1_i32_309
  let v515 : BitVec 32 := Scalar.muli v514 c1_i32_309
  let v516 : BitVec 32 := Scalar.addi c0_i32_307 v515
  let c1_i32_310 : BitVec 32 := 1#32
  ⟨c0_i32_307, v516, c1_i32_310⟩

@[reducible] def k0_t10_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off12 (v1 : BitVec 32) (k0_t10 : Fin (k0_t10_loop v1).trips) : Fin 3 → Nat :=
  let c0_i32_407 : BitVec 32 := 0#32
  let c1_i32_409 : BitVec 32 := 1#32
  let arg24 : BitVec 32 := Scf.iv c0_i32_407 c1_i32_409 k0_t10
  let v741 : Index := Scalar.indexCast arg24
  let c64_418 : Index := 64#32
  let c0_419 : Index := 0#32
  ![v741.toNat, 64, 0]
@[reducible] def k0_t11_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off13 (v1 : BitVec 32) (k0_t11 : Fin (k0_t11_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t11
  let v741 : Index := Scalar.indexCast arg24
  let c64_418 : Index := 64#32
  let c0_419 : Index := 0#32
  ![v741.toNat, 64, 0]
@[reducible] def k0_t12_loop (v509 : BitVec 32) : Scf.Loop 32 :=
  let c0_i32_307 : BitVec 32 := 0#32
  let c1_i32_305 : BitVec 32 := 1#32
  let v510 : BitVec 32 := Scalar.subi v509 c1_i32_305
  let c1_i32_306 : BitVec 32 := 1#32
  let v511 : BitVec 32 := Scalar.addi v510 c1_i32_306
  let v512 : BitVec 32 := Scalar.subi v511 c0_i32_307
  let c1_i32_309 : BitVec 32 := 1#32
  let v514 : BitVec 32 := Scalar.divsi v512 c1_i32_309
  let v515 : BitVec 32 := Scalar.muli v514 c1_i32_309
  let v516 : BitVec 32 := Scalar.addi c0_i32_307 v515
  let v513 : BitVec 32 := Scalar.addi c0_i32_307 v512
  let c1_i32_311 : BitVec 32 := 1#32
  ⟨v516, v513, c1_i32_311⟩
@[reducible] def k0_t13_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off14 (v1 : BitVec 32) (k0_t13 : Fin (k0_t13_loop v1).trips) : Fin 3 → Nat :=
  let c0_i32_407 : BitVec 32 := 0#32
  let c1_i32_409 : BitVec 32 := 1#32
  let arg24 : BitVec 32 := Scf.iv c0_i32_407 c1_i32_409 k0_t13
  let v741 : Index := Scalar.indexCast arg24
  let c64_418 : Index := 64#32
  let c0_419 : Index := 0#32
  ![v741.toNat, 64, 0]
@[reducible] def k0_t14_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off15 (v1 : BitVec 32) (k0_t14 : Fin (k0_t14_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t14
  let v741 : Index := Scalar.indexCast arg24
  let c64_418 : Index := 64#32
  let c0_419 : Index := 0#32
  ![v741.toNat, 64, 0]

def k0_chk3 (v1 : BitVec 32) (v3 : BitVec 32) (v509 : BitVec 32) : Prop :=
  (∀ (k0_h1 : k0_cond1 v3 = 1#1), (k0_t9_loop v509).OK) ∧
  (∀ k0_t9 : Fin (k0_t9_loop v509).trips, ∀ (k0_h1 : k0_cond1 v3 = 1#1), (k0_t10_loop v1).OK) ∧
  (∀ (k0_t9 : Fin (k0_t9_loop v509).trips) (k0_t10 : Fin (k0_t10_loop v1).trips), ∀ (k0_h1 : k0_cond1 v3 = 1#1), ∀ a, (k0_off12 v1 k0_t10) a + S1x64x512.size a ≤ S32x256x512.size a) ∧
  (∀ k0_t9 : Fin (k0_t9_loop v509).trips, ∀ (k0_h1 : k0_cond1 v3 = 1#1), (k0_t11_loop v1).OK) ∧
  (∀ (k0_t9 : Fin (k0_t9_loop v509).trips) (k0_t11 : Fin (k0_t11_loop v1).trips), ∀ (k0_h1 : k0_cond1 v3 = 1#1), ∀ a, (k0_off13 v1 k0_t11) a + S1x64x512.size a ≤ S32x256x512.size a) ∧
  (∀ (k0_h1 : k0_cond1 v3 = 1#1), (k0_t12_loop v509).OK) ∧
  (∀ k0_t12 : Fin (k0_t12_loop v509).trips, ∀ (k0_h1 : k0_cond1 v3 = 1#1), (k0_t13_loop v1).OK) ∧
  (∀ (k0_t12 : Fin (k0_t12_loop v509).trips) (k0_t13 : Fin (k0_t13_loop v1).trips), ∀ (k0_h1 : k0_cond1 v3 = 1#1), ∀ a, (k0_off14 v1 k0_t13) a + S1x64x512.size a ≤ S32x256x512.size a) ∧
  (∀ k0_t12 : Fin (k0_t12_loop v509).trips, ∀ (k0_h1 : k0_cond1 v3 = 1#1), (k0_t14_loop v1).OK) ∧
  (∀ (k0_t12 : Fin (k0_t12_loop v509).trips) (k0_t14 : Fin (k0_t14_loop v1).trips), ∀ (k0_h1 : k0_cond1 v3 = 1#1), ∀ a, (k0_off15 v1 k0_t14) a + S1x64x512.size a ≤ S32x256x512.size a)
theorem k0_t9_ok : ∀ (v1 : BitVec 32) (v3 : BitVec 32) (v509 : BitVec 32) (k0_hw3 : k0_chk3 v1 v3 v509), ∀ (k0_h1 : k0_cond1 v3 = 1#1), (k0_t9_loop v509).OK := fun v1 v3 v509 k0_hw3 k0_h1 => k0_hw3.1 k0_h1
theorem k0_t10_ok : ∀ (v1 : BitVec 32) (v3 : BitVec 32) (v509 : BitVec 32) (k0_hw3 : k0_chk3 v1 v3 v509) (k0_t9 : Fin (k0_t9_loop v509).trips), ∀ (k0_h1 : k0_cond1 v3 = 1#1), (k0_t10_loop v1).OK := fun v1 v3 v509 k0_hw3 k0_t9 k0_h1 => k0_hw3.2.1 k0_t9 k0_h1
theorem k0_off12_inb : ∀ (v1 : BitVec 32) (v3 : BitVec 32) (v509 : BitVec 32) (k0_hw3 : k0_chk3 v1 v3 v509) (k0_t9 : Fin (k0_t9_loop v509).trips) (k0_t10 : Fin (k0_t10_loop v1).trips), ∀ (k0_h1 : k0_cond1 v3 = 1#1), ∀ a, (k0_off12 v1 k0_t10) a + S1x64x512.size a ≤ S32x256x512.size a := fun v1 v3 v509 k0_hw3 k0_t9 k0_t10 k0_h1 => k0_hw3.2.2.1 k0_t9 k0_t10 k0_h1
theorem k0_t11_ok : ∀ (v1 : BitVec 32) (v3 : BitVec 32) (v509 : BitVec 32) (k0_hw3 : k0_chk3 v1 v3 v509) (k0_t9 : Fin (k0_t9_loop v509).trips), ∀ (k0_h1 : k0_cond1 v3 = 1#1), (k0_t11_loop v1).OK := fun v1 v3 v509 k0_hw3 k0_t9 k0_h1 => k0_hw3.2.2.2.1 k0_t9 k0_h1
theorem k0_off13_inb : ∀ (v1 : BitVec 32) (v3 : BitVec 32) (v509 : BitVec 32) (k0_hw3 : k0_chk3 v1 v3 v509) (k0_t9 : Fin (k0_t9_loop v509).trips) (k0_t11 : Fin (k0_t11_loop v1).trips), ∀ (k0_h1 : k0_cond1 v3 = 1#1), ∀ a, (k0_off13 v1 k0_t11) a + S1x64x512.size a ≤ S32x256x512.size a := fun v1 v3 v509 k0_hw3 k0_t9 k0_t11 k0_h1 => k0_hw3.2.2.2.2.1 k0_t9 k0_t11 k0_h1
theorem k0_t12_ok : ∀ (v1 : BitVec 32) (v3 : BitVec 32) (v509 : BitVec 32) (k0_hw3 : k0_chk3 v1 v3 v509), ∀ (k0_h1 : k0_cond1 v3 = 1#1), (k0_t12_loop v509).OK := fun v1 v3 v509 k0_hw3 k0_h1 => k0_hw3.2.2.2.2.2.1 k0_h1
theorem k0_t13_ok : ∀ (v1 : BitVec 32) (v3 : BitVec 32) (v509 : BitVec 32) (k0_hw3 : k0_chk3 v1 v3 v509) (k0_t12 : Fin (k0_t12_loop v509).trips), ∀ (k0_h1 : k0_cond1 v3 = 1#1), (k0_t13_loop v1).OK := fun v1 v3 v509 k0_hw3 k0_t12 k0_h1 => k0_hw3.2.2.2.2.2.2.1 k0_t12 k0_h1
theorem k0_off14_inb : ∀ (v1 : BitVec 32) (v3 : BitVec 32) (v509 : BitVec 32) (k0_hw3 : k0_chk3 v1 v3 v509) (k0_t12 : Fin (k0_t12_loop v509).trips) (k0_t13 : Fin (k0_t13_loop v1).trips), ∀ (k0_h1 : k0_cond1 v3 = 1#1), ∀ a, (k0_off14 v1 k0_t13) a + S1x64x512.size a ≤ S32x256x512.size a := fun v1 v3 v509 k0_hw3 k0_t12 k0_t13 k0_h1 => k0_hw3.2.2.2.2.2.2.2.1 k0_t12 k0_t13 k0_h1
theorem k0_t14_ok : ∀ (v1 : BitVec 32) (v3 : BitVec 32) (v509 : BitVec 32) (k0_hw3 : k0_chk3 v1 v3 v509) (k0_t12 : Fin (k0_t12_loop v509).trips), ∀ (k0_h1 : k0_cond1 v3 = 1#1), (k0_t14_loop v1).OK := fun v1 v3 v509 k0_hw3 k0_t12 k0_h1 => k0_hw3.2.2.2.2.2.2.2.2.1 k0_t12 k0_h1
theorem k0_off15_inb : ∀ (v1 : BitVec 32) (v3 : BitVec 32) (v509 : BitVec 32) (k0_hw3 : k0_chk3 v1 v3 v509) (k0_t12 : Fin (k0_t12_loop v509).trips) (k0_t14 : Fin (k0_t14_loop v1).trips), ∀ (k0_h1 : k0_cond1 v3 = 1#1), ∀ a, (k0_off15 v1 k0_t14) a + S1x64x512.size a ≤ S32x256x512.size a := fun v1 v3 v509 k0_hw3 k0_t12 k0_t14 k0_h1 => k0_hw3.2.2.2.2.2.2.2.2.2 k0_t12 k0_t14 k0_h1

@[reducible] def k0_t15_loop (v587 : BitVec 32) : Scf.Loop 32 :=
  let c0_i32_343 : BitVec 32 := 0#32
  let c1_i32_341 : BitVec 32 := 1#32
  let v588 : BitVec 32 := Scalar.subi v587 c1_i32_341
  let c1_i32_342 : BitVec 32 := 1#32
  let v589 : BitVec 32 := Scalar.addi v588 c1_i32_342
  let v590 : BitVec 32 := Scalar.subi v589 c0_i32_343
  let c1_i32_345 : BitVec 32 := 1#32
  let v592 : BitVec 32 := Scalar.divsi v590 c1_i32_345
  let v593 : BitVec 32 := Scalar.muli v592 c1_i32_345
  let v594 : BitVec 32 := Scalar.addi c0_i32_343 v593
  let c1_i32_346 : BitVec 32 := 1#32
  ⟨c0_i32_343, v594, c1_i32_346⟩

@[reducible] def k0_t16_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off16 (v1 : BitVec 32) (k0_t16 : Fin (k0_t16_loop v1).trips) : Fin 3 → Nat :=
  let c0_i32_407 : BitVec 32 := 0#32
  let c1_i32_409 : BitVec 32 := 1#32
  let arg24 : BitVec 32 := Scf.iv c0_i32_407 c1_i32_409 k0_t16
  let v741 : Index := Scalar.indexCast arg24
  let c128_418 : Index := 128#32
  let c0_419 : Index := 0#32
  ![v741.toNat, 128, 0]
@[reducible] def k0_t17_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off17 (v1 : BitVec 32) (k0_t17 : Fin (k0_t17_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t17
  let v741 : Index := Scalar.indexCast arg24
  let c128_418 : Index := 128#32
  let c0_419 : Index := 0#32
  ![v741.toNat, 128, 0]
@[reducible] def k0_t18_loop (v587 : BitVec 32) : Scf.Loop 32 :=
  let c0_i32_343 : BitVec 32 := 0#32
  let c1_i32_341 : BitVec 32 := 1#32
  let v588 : BitVec 32 := Scalar.subi v587 c1_i32_341
  let c1_i32_342 : BitVec 32 := 1#32
  let v589 : BitVec 32 := Scalar.addi v588 c1_i32_342
  let v590 : BitVec 32 := Scalar.subi v589 c0_i32_343
  let c1_i32_345 : BitVec 32 := 1#32
  let v592 : BitVec 32 := Scalar.divsi v590 c1_i32_345
  let v593 : BitVec 32 := Scalar.muli v592 c1_i32_345
  let v594 : BitVec 32 := Scalar.addi c0_i32_343 v593
  let v591 : BitVec 32 := Scalar.addi c0_i32_343 v590
  let c1_i32_347 : BitVec 32 := 1#32
  ⟨v594, v591, c1_i32_347⟩
@[reducible] def k0_t19_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off18 (v1 : BitVec 32) (k0_t19 : Fin (k0_t19_loop v1).trips) : Fin 3 → Nat :=
  let c0_i32_407 : BitVec 32 := 0#32
  let c1_i32_409 : BitVec 32 := 1#32
  let arg24 : BitVec 32 := Scf.iv c0_i32_407 c1_i32_409 k0_t19
  let v741 : Index := Scalar.indexCast arg24
  let c128_418 : Index := 128#32
  let c0_419 : Index := 0#32
  ![v741.toNat, 128, 0]
@[reducible] def k0_t20_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off19 (v1 : BitVec 32) (k0_t20 : Fin (k0_t20_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t20
  let v741 : Index := Scalar.indexCast arg24
  let c128_418 : Index := 128#32
  let c0_419 : Index := 0#32
  ![v741.toNat, 128, 0]

def k0_chk4 (v1 : BitVec 32) (v3 : BitVec 32) (v587 : BitVec 32) : Prop :=
  (∀ (k0_h1 : k0_cond1 v3 = 1#1), (k0_t15_loop v587).OK) ∧
  (∀ k0_t15 : Fin (k0_t15_loop v587).trips, ∀ (k0_h1 : k0_cond1 v3 = 1#1), (k0_t16_loop v1).OK) ∧
  (∀ (k0_t15 : Fin (k0_t15_loop v587).trips) (k0_t16 : Fin (k0_t16_loop v1).trips), ∀ (k0_h1 : k0_cond1 v3 = 1#1), ∀ a, (k0_off16 v1 k0_t16) a + S1x64x512.size a ≤ S32x256x512.size a) ∧
  (∀ k0_t15 : Fin (k0_t15_loop v587).trips, ∀ (k0_h1 : k0_cond1 v3 = 1#1), (k0_t17_loop v1).OK) ∧
  (∀ (k0_t15 : Fin (k0_t15_loop v587).trips) (k0_t17 : Fin (k0_t17_loop v1).trips), ∀ (k0_h1 : k0_cond1 v3 = 1#1), ∀ a, (k0_off17 v1 k0_t17) a + S1x64x512.size a ≤ S32x256x512.size a) ∧
  (∀ (k0_h1 : k0_cond1 v3 = 1#1), (k0_t18_loop v587).OK) ∧
  (∀ k0_t18 : Fin (k0_t18_loop v587).trips, ∀ (k0_h1 : k0_cond1 v3 = 1#1), (k0_t19_loop v1).OK) ∧
  (∀ (k0_t18 : Fin (k0_t18_loop v587).trips) (k0_t19 : Fin (k0_t19_loop v1).trips), ∀ (k0_h1 : k0_cond1 v3 = 1#1), ∀ a, (k0_off18 v1 k0_t19) a + S1x64x512.size a ≤ S32x256x512.size a) ∧
  (∀ k0_t18 : Fin (k0_t18_loop v587).trips, ∀ (k0_h1 : k0_cond1 v3 = 1#1), (k0_t20_loop v1).OK) ∧
  (∀ (k0_t18 : Fin (k0_t18_loop v587).trips) (k0_t20 : Fin (k0_t20_loop v1).trips), ∀ (k0_h1 : k0_cond1 v3 = 1#1), ∀ a, (k0_off19 v1 k0_t20) a + S1x64x512.size a ≤ S32x256x512.size a)
theorem k0_t15_ok : ∀ (v1 : BitVec 32) (v3 : BitVec 32) (v587 : BitVec 32) (k0_hw4 : k0_chk4 v1 v3 v587), ∀ (k0_h1 : k0_cond1 v3 = 1#1), (k0_t15_loop v587).OK := fun v1 v3 v587 k0_hw4 k0_h1 => k0_hw4.1 k0_h1
theorem k0_t16_ok : ∀ (v1 : BitVec 32) (v3 : BitVec 32) (v587 : BitVec 32) (k0_hw4 : k0_chk4 v1 v3 v587) (k0_t15 : Fin (k0_t15_loop v587).trips), ∀ (k0_h1 : k0_cond1 v3 = 1#1), (k0_t16_loop v1).OK := fun v1 v3 v587 k0_hw4 k0_t15 k0_h1 => k0_hw4.2.1 k0_t15 k0_h1
theorem k0_off16_inb : ∀ (v1 : BitVec 32) (v3 : BitVec 32) (v587 : BitVec 32) (k0_hw4 : k0_chk4 v1 v3 v587) (k0_t15 : Fin (k0_t15_loop v587).trips) (k0_t16 : Fin (k0_t16_loop v1).trips), ∀ (k0_h1 : k0_cond1 v3 = 1#1), ∀ a, (k0_off16 v1 k0_t16) a + S1x64x512.size a ≤ S32x256x512.size a := fun v1 v3 v587 k0_hw4 k0_t15 k0_t16 k0_h1 => k0_hw4.2.2.1 k0_t15 k0_t16 k0_h1
theorem k0_t17_ok : ∀ (v1 : BitVec 32) (v3 : BitVec 32) (v587 : BitVec 32) (k0_hw4 : k0_chk4 v1 v3 v587) (k0_t15 : Fin (k0_t15_loop v587).trips), ∀ (k0_h1 : k0_cond1 v3 = 1#1), (k0_t17_loop v1).OK := fun v1 v3 v587 k0_hw4 k0_t15 k0_h1 => k0_hw4.2.2.2.1 k0_t15 k0_h1
theorem k0_off17_inb : ∀ (v1 : BitVec 32) (v3 : BitVec 32) (v587 : BitVec 32) (k0_hw4 : k0_chk4 v1 v3 v587) (k0_t15 : Fin (k0_t15_loop v587).trips) (k0_t17 : Fin (k0_t17_loop v1).trips), ∀ (k0_h1 : k0_cond1 v3 = 1#1), ∀ a, (k0_off17 v1 k0_t17) a + S1x64x512.size a ≤ S32x256x512.size a := fun v1 v3 v587 k0_hw4 k0_t15 k0_t17 k0_h1 => k0_hw4.2.2.2.2.1 k0_t15 k0_t17 k0_h1
theorem k0_t18_ok : ∀ (v1 : BitVec 32) (v3 : BitVec 32) (v587 : BitVec 32) (k0_hw4 : k0_chk4 v1 v3 v587), ∀ (k0_h1 : k0_cond1 v3 = 1#1), (k0_t18_loop v587).OK := fun v1 v3 v587 k0_hw4 k0_h1 => k0_hw4.2.2.2.2.2.1 k0_h1
theorem k0_t19_ok : ∀ (v1 : BitVec 32) (v3 : BitVec 32) (v587 : BitVec 32) (k0_hw4 : k0_chk4 v1 v3 v587) (k0_t18 : Fin (k0_t18_loop v587).trips), ∀ (k0_h1 : k0_cond1 v3 = 1#1), (k0_t19_loop v1).OK := fun v1 v3 v587 k0_hw4 k0_t18 k0_h1 => k0_hw4.2.2.2.2.2.2.1 k0_t18 k0_h1
theorem k0_off18_inb : ∀ (v1 : BitVec 32) (v3 : BitVec 32) (v587 : BitVec 32) (k0_hw4 : k0_chk4 v1 v3 v587) (k0_t18 : Fin (k0_t18_loop v587).trips) (k0_t19 : Fin (k0_t19_loop v1).trips), ∀ (k0_h1 : k0_cond1 v3 = 1#1), ∀ a, (k0_off18 v1 k0_t19) a + S1x64x512.size a ≤ S32x256x512.size a := fun v1 v3 v587 k0_hw4 k0_t18 k0_t19 k0_h1 => k0_hw4.2.2.2.2.2.2.2.1 k0_t18 k0_t19 k0_h1
theorem k0_t20_ok : ∀ (v1 : BitVec 32) (v3 : BitVec 32) (v587 : BitVec 32) (k0_hw4 : k0_chk4 v1 v3 v587) (k0_t18 : Fin (k0_t18_loop v587).trips), ∀ (k0_h1 : k0_cond1 v3 = 1#1), (k0_t20_loop v1).OK := fun v1 v3 v587 k0_hw4 k0_t18 k0_h1 => k0_hw4.2.2.2.2.2.2.2.2.1 k0_t18 k0_h1
theorem k0_off19_inb : ∀ (v1 : BitVec 32) (v3 : BitVec 32) (v587 : BitVec 32) (k0_hw4 : k0_chk4 v1 v3 v587) (k0_t18 : Fin (k0_t18_loop v587).trips) (k0_t20 : Fin (k0_t20_loop v1).trips), ∀ (k0_h1 : k0_cond1 v3 = 1#1), ∀ a, (k0_off19 v1 k0_t20) a + S1x64x512.size a ≤ S32x256x512.size a := fun v1 v3 v587 k0_hw4 k0_t18 k0_t20 k0_h1 => k0_hw4.2.2.2.2.2.2.2.2.2 k0_t18 k0_t20 k0_h1

@[reducible] def k0_t21_loop (v665 : BitVec 32) : Scf.Loop 32 :=
  let c0_i32_378 : BitVec 32 := 0#32
  let c1_i32_376 : BitVec 32 := 1#32
  let v666 : BitVec 32 := Scalar.subi v665 c1_i32_376
  let c1_i32_377 : BitVec 32 := 1#32
  let v667 : BitVec 32 := Scalar.addi v666 c1_i32_377
  let v668 : BitVec 32 := Scalar.subi v667 c0_i32_378
  let c1_i32_380 : BitVec 32 := 1#32
  let v670 : BitVec 32 := Scalar.divsi v668 c1_i32_380
  let v671 : BitVec 32 := Scalar.muli v670 c1_i32_380
  let v672 : BitVec 32 := Scalar.addi c0_i32_378 v671
  let c1_i32_381 : BitVec 32 := 1#32
  ⟨c0_i32_378, v672, c1_i32_381⟩

@[reducible] def k0_t22_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off20 (v1 : BitVec 32) (k0_t22 : Fin (k0_t22_loop v1).trips) : Fin 3 → Nat :=
  let c0_i32_407 : BitVec 32 := 0#32
  let c1_i32_409 : BitVec 32 := 1#32
  let arg24 : BitVec 32 := Scf.iv c0_i32_407 c1_i32_409 k0_t22
  let v741 : Index := Scalar.indexCast arg24
  let c192_418 : Index := 192#32
  let c0_419 : Index := 0#32
  ![v741.toNat, 192, 0]
@[reducible] def k0_t23_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off21 (v1 : BitVec 32) (k0_t23 : Fin (k0_t23_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t23
  let v741 : Index := Scalar.indexCast arg24
  let c192_418 : Index := 192#32
  let c0_419 : Index := 0#32
  ![v741.toNat, 192, 0]
@[reducible] def k0_t24_loop (v665 : BitVec 32) : Scf.Loop 32 :=
  let c0_i32_378 : BitVec 32 := 0#32
  let c1_i32_376 : BitVec 32 := 1#32
  let v666 : BitVec 32 := Scalar.subi v665 c1_i32_376
  let c1_i32_377 : BitVec 32 := 1#32
  let v667 : BitVec 32 := Scalar.addi v666 c1_i32_377
  let v668 : BitVec 32 := Scalar.subi v667 c0_i32_378
  let c1_i32_380 : BitVec 32 := 1#32
  let v670 : BitVec 32 := Scalar.divsi v668 c1_i32_380
  let v671 : BitVec 32 := Scalar.muli v670 c1_i32_380
  let v672 : BitVec 32 := Scalar.addi c0_i32_378 v671
  let v669 : BitVec 32 := Scalar.addi c0_i32_378 v668
  let c1_i32_382 : BitVec 32 := 1#32
  ⟨v672, v669, c1_i32_382⟩
@[reducible] def k0_t25_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_409 : BitVec 32 := 1#32
  ⟨c0_i32_407, v718, c1_i32_409⟩
def k0_off22 (v1 : BitVec 32) (k0_t25 : Fin (k0_t25_loop v1).trips) : Fin 3 → Nat :=
  let c0_i32_407 : BitVec 32 := 0#32
  let c1_i32_409 : BitVec 32 := 1#32
  let arg24 : BitVec 32 := Scf.iv c0_i32_407 c1_i32_409 k0_t25
  let v741 : Index := Scalar.indexCast arg24
  let c192_418 : Index := 192#32
  let c0_419 : Index := 0#32
  ![v741.toNat, 192, 0]
@[reducible] def k0_t26_loop (v1 : BitVec 32) : Scf.Loop 32 :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let v715 : BitVec 32 := Scalar.addi c0_i32_407 v714
  let c1_i32_410 : BitVec 32 := 1#32
  ⟨v718, v715, c1_i32_410⟩
def k0_off23 (v1 : BitVec 32) (k0_t26 : Fin (k0_t26_loop v1).trips) : Fin 3 → Nat :=
  let c0_i32_407 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let c1_i32_405 : BitVec 32 := 1#32
  let v712 : BitVec 32 := Scalar.addi v23 c1_i32_405
  let v714 : BitVec 32 := Scalar.subi v712 c0_i32_407
  let c1_i32_408 : BitVec 32 := 1#32
  let v716 : BitVec 32 := Scalar.divsi v714 c1_i32_408
  let v717 : BitVec 32 := Scalar.muli v716 c1_i32_408
  let v718 : BitVec 32 := Scalar.addi c0_i32_407 v717
  let c1_i32_410 : BitVec 32 := 1#32
  let arg24 : BitVec 32 := Scf.iv v718 c1_i32_410 k0_t26
  let v741 : Index := Scalar.indexCast arg24
  let c192_418 : Index := 192#32
  let c0_419 : Index := 0#32
  ![v741.toNat, 192, 0]

def k0_chk5 (v1 : BitVec 32) (v3 : BitVec 32) (v665 : BitVec 32) : Prop :=
  (∀ (k0_h1 : k0_cond1 v3 = 1#1), (k0_t21_loop v665).OK) ∧
  (∀ k0_t21 : Fin (k0_t21_loop v665).trips, ∀ (k0_h1 : k0_cond1 v3 = 1#1), (k0_t22_loop v1).OK) ∧
  (∀ (k0_t21 : Fin (k0_t21_loop v665).trips) (k0_t22 : Fin (k0_t22_loop v1).trips), ∀ (k0_h1 : k0_cond1 v3 = 1#1), ∀ a, (k0_off20 v1 k0_t22) a + S1x64x512.size a ≤ S32x256x512.size a) ∧
  (∀ k0_t21 : Fin (k0_t21_loop v665).trips, ∀ (k0_h1 : k0_cond1 v3 = 1#1), (k0_t23_loop v1).OK) ∧
  (∀ (k0_t21 : Fin (k0_t21_loop v665).trips) (k0_t23 : Fin (k0_t23_loop v1).trips), ∀ (k0_h1 : k0_cond1 v3 = 1#1), ∀ a, (k0_off21 v1 k0_t23) a + S1x64x512.size a ≤ S32x256x512.size a) ∧
  (∀ (k0_h1 : k0_cond1 v3 = 1#1), (k0_t24_loop v665).OK) ∧
  (∀ k0_t24 : Fin (k0_t24_loop v665).trips, ∀ (k0_h1 : k0_cond1 v3 = 1#1), (k0_t25_loop v1).OK) ∧
  (∀ (k0_t24 : Fin (k0_t24_loop v665).trips) (k0_t25 : Fin (k0_t25_loop v1).trips), ∀ (k0_h1 : k0_cond1 v3 = 1#1), ∀ a, (k0_off22 v1 k0_t25) a + S1x64x512.size a ≤ S32x256x512.size a) ∧
  (∀ k0_t24 : Fin (k0_t24_loop v665).trips, ∀ (k0_h1 : k0_cond1 v3 = 1#1), (k0_t26_loop v1).OK) ∧
  (∀ (k0_t24 : Fin (k0_t24_loop v665).trips) (k0_t26 : Fin (k0_t26_loop v1).trips), ∀ (k0_h1 : k0_cond1 v3 = 1#1), ∀ a, (k0_off23 v1 k0_t26) a + S1x64x512.size a ≤ S32x256x512.size a)
theorem k0_t21_ok : ∀ (v1 : BitVec 32) (v3 : BitVec 32) (v665 : BitVec 32) (k0_hw5 : k0_chk5 v1 v3 v665), ∀ (k0_h1 : k0_cond1 v3 = 1#1), (k0_t21_loop v665).OK := fun v1 v3 v665 k0_hw5 k0_h1 => k0_hw5.1 k0_h1
theorem k0_t22_ok : ∀ (v1 : BitVec 32) (v3 : BitVec 32) (v665 : BitVec 32) (k0_hw5 : k0_chk5 v1 v3 v665) (k0_t21 : Fin (k0_t21_loop v665).trips), ∀ (k0_h1 : k0_cond1 v3 = 1#1), (k0_t22_loop v1).OK := fun v1 v3 v665 k0_hw5 k0_t21 k0_h1 => k0_hw5.2.1 k0_t21 k0_h1
theorem k0_off20_inb : ∀ (v1 : BitVec 32) (v3 : BitVec 32) (v665 : BitVec 32) (k0_hw5 : k0_chk5 v1 v3 v665) (k0_t21 : Fin (k0_t21_loop v665).trips) (k0_t22 : Fin (k0_t22_loop v1).trips), ∀ (k0_h1 : k0_cond1 v3 = 1#1), ∀ a, (k0_off20 v1 k0_t22) a + S1x64x512.size a ≤ S32x256x512.size a := fun v1 v3 v665 k0_hw5 k0_t21 k0_t22 k0_h1 => k0_hw5.2.2.1 k0_t21 k0_t22 k0_h1
theorem k0_t23_ok : ∀ (v1 : BitVec 32) (v3 : BitVec 32) (v665 : BitVec 32) (k0_hw5 : k0_chk5 v1 v3 v665) (k0_t21 : Fin (k0_t21_loop v665).trips), ∀ (k0_h1 : k0_cond1 v3 = 1#1), (k0_t23_loop v1).OK := fun v1 v3 v665 k0_hw5 k0_t21 k0_h1 => k0_hw5.2.2.2.1 k0_t21 k0_h1
theorem k0_off21_inb : ∀ (v1 : BitVec 32) (v3 : BitVec 32) (v665 : BitVec 32) (k0_hw5 : k0_chk5 v1 v3 v665) (k0_t21 : Fin (k0_t21_loop v665).trips) (k0_t23 : Fin (k0_t23_loop v1).trips), ∀ (k0_h1 : k0_cond1 v3 = 1#1), ∀ a, (k0_off21 v1 k0_t23) a + S1x64x512.size a ≤ S32x256x512.size a := fun v1 v3 v665 k0_hw5 k0_t21 k0_t23 k0_h1 => k0_hw5.2.2.2.2.1 k0_t21 k0_t23 k0_h1
theorem k0_t24_ok : ∀ (v1 : BitVec 32) (v3 : BitVec 32) (v665 : BitVec 32) (k0_hw5 : k0_chk5 v1 v3 v665), ∀ (k0_h1 : k0_cond1 v3 = 1#1), (k0_t24_loop v665).OK := fun v1 v3 v665 k0_hw5 k0_h1 => k0_hw5.2.2.2.2.2.1 k0_h1
theorem k0_t25_ok : ∀ (v1 : BitVec 32) (v3 : BitVec 32) (v665 : BitVec 32) (k0_hw5 : k0_chk5 v1 v3 v665) (k0_t24 : Fin (k0_t24_loop v665).trips), ∀ (k0_h1 : k0_cond1 v3 = 1#1), (k0_t25_loop v1).OK := fun v1 v3 v665 k0_hw5 k0_t24 k0_h1 => k0_hw5.2.2.2.2.2.2.1 k0_t24 k0_h1
theorem k0_off22_inb : ∀ (v1 : BitVec 32) (v3 : BitVec 32) (v665 : BitVec 32) (k0_hw5 : k0_chk5 v1 v3 v665) (k0_t24 : Fin (k0_t24_loop v665).trips) (k0_t25 : Fin (k0_t25_loop v1).trips), ∀ (k0_h1 : k0_cond1 v3 = 1#1), ∀ a, (k0_off22 v1 k0_t25) a + S1x64x512.size a ≤ S32x256x512.size a := fun v1 v3 v665 k0_hw5 k0_t24 k0_t25 k0_h1 => k0_hw5.2.2.2.2.2.2.2.1 k0_t24 k0_t25 k0_h1
theorem k0_t26_ok : ∀ (v1 : BitVec 32) (v3 : BitVec 32) (v665 : BitVec 32) (k0_hw5 : k0_chk5 v1 v3 v665) (k0_t24 : Fin (k0_t24_loop v665).trips), ∀ (k0_h1 : k0_cond1 v3 = 1#1), (k0_t26_loop v1).OK := fun v1 v3 v665 k0_hw5 k0_t24 k0_h1 => k0_hw5.2.2.2.2.2.2.2.2.1 k0_t24 k0_h1
theorem k0_off23_inb : ∀ (v1 : BitVec 32) (v3 : BitVec 32) (v665 : BitVec 32) (k0_hw5 : k0_chk5 v1 v3 v665) (k0_t24 : Fin (k0_t24_loop v665).trips) (k0_t26 : Fin (k0_t26_loop v1).trips), ∀ (k0_h1 : k0_cond1 v3 = 1#1), ∀ a, (k0_off23 v1 k0_t26) a + S1x64x512.size a ≤ S32x256x512.size a := fun v1 v3 v665 k0_hw5 k0_t24 k0_t26 k0_h1 => k0_hw5.2.2.2.2.2.2.2.2.2 k0_t24 k0_t26 k0_h1

def k0_off24 (v3 : BitVec 32) : Fin 3 → Nat :=
  let v27 : Index := Scalar.indexCast v3
  let c0 : Index := 0#32
  let c0_8 : Index := 0#32
  ![v27.toNat, 0, 0]

def k0_chk1 (v1 : BitVec 32) (v3 : BitVec 32) : Prop :=
  (∀ (k0_h1 : k0_cond1 v3 = 1#1), (k0_t1_loop v1).OK) ∧
  (∀ k0_t1 : Fin (k0_t1_loop v1).trips, ∀ (k0_h1 : k0_cond1 v3 = 1#1), 512 ∣ (k0_mult1 v1 k0_t1).toNat) ∧
  (∀ k0_t1 : Fin (k0_t1_loop v1).trips, ∀ (k0_h1 : k0_cond1 v3 = 1#1), ∀ a, (k0_off2 v1 k0_t1) a + S1x512x128.size a ≤ S2x16384x128.size a) ∧
  (∀ k0_t1 : Fin (k0_t1_loop v1).trips, ∀ (k0_h1 : k0_cond1 v3 = 1#1), ∀ a, (k0_off3 v1 k0_t1) a + S1x512x128.size a ≤ S2x16384x128.size a) ∧
  (∀ k0_t1 : Fin (k0_t1_loop v1).trips, ∀ (k0_h1 : k0_cond1 v3 = 1#1), ∀ a, (k0_off4 v1 k0_t1) a + S1x256x512.size a ≤ S32x256x512.size a) ∧
  (∀ (k0_h1 : k0_cond1 v3 = 1#1), (k0_t2_loop v1).OK) ∧
  (∀ k0_t2 : Fin (k0_t2_loop v1).trips, ∀ (k0_h1 : k0_cond1 v3 = 1#1), 512 ∣ (k0_mult2 v1 k0_t2).toNat) ∧
  (∀ k0_t2 : Fin (k0_t2_loop v1).trips, ∀ (k0_h1 : k0_cond1 v3 = 1#1), ∀ a, (k0_off5 v1 k0_t2) a + S1x512x128.size a ≤ S2x16384x128.size a) ∧
  (∀ k0_t2 : Fin (k0_t2_loop v1).trips, ∀ (k0_h1 : k0_cond1 v3 = 1#1), ∀ a, (k0_off6 v1 k0_t2) a + S1x512x128.size a ≤ S2x16384x128.size a) ∧
  (∀ k0_t2 : Fin (k0_t2_loop v1).trips, ∀ (k0_h1 : k0_cond1 v3 = 1#1), ∀ a, (k0_off7 v1 k0_t2) a + S1x256x512.size a ≤ S32x256x512.size a) ∧
  (∀ a, (k0_off24 v3) a + S1x256x512.size a ≤ S32x256x512.size a)
theorem k0_t1_ok : ∀ (v1 : BitVec 32) (v3 : BitVec 32) (k0_hw1 : k0_chk1 v1 v3), ∀ (k0_h1 : k0_cond1 v3 = 1#1), (k0_t1_loop v1).OK := fun v1 v3 k0_hw1 k0_h1 => k0_hw1.1 k0_h1
theorem k0_mult1_dvd : ∀ (v1 : BitVec 32) (v3 : BitVec 32) (k0_hw1 : k0_chk1 v1 v3) (k0_t1 : Fin (k0_t1_loop v1).trips), ∀ (k0_h1 : k0_cond1 v3 = 1#1), 512 ∣ (k0_mult1 v1 k0_t1).toNat := fun v1 v3 k0_hw1 k0_t1 k0_h1 => k0_hw1.2.1 k0_t1 k0_h1
theorem k0_off2_inb : ∀ (v1 : BitVec 32) (v3 : BitVec 32) (k0_hw1 : k0_chk1 v1 v3) (k0_t1 : Fin (k0_t1_loop v1).trips), ∀ (k0_h1 : k0_cond1 v3 = 1#1), ∀ a, (k0_off2 v1 k0_t1) a + S1x512x128.size a ≤ S2x16384x128.size a := fun v1 v3 k0_hw1 k0_t1 k0_h1 => k0_hw1.2.2.1 k0_t1 k0_h1
theorem k0_off3_inb : ∀ (v1 : BitVec 32) (v3 : BitVec 32) (k0_hw1 : k0_chk1 v1 v3) (k0_t1 : Fin (k0_t1_loop v1).trips), ∀ (k0_h1 : k0_cond1 v3 = 1#1), ∀ a, (k0_off3 v1 k0_t1) a + S1x512x128.size a ≤ S2x16384x128.size a := fun v1 v3 k0_hw1 k0_t1 k0_h1 => k0_hw1.2.2.2.1 k0_t1 k0_h1
theorem k0_off4_inb : ∀ (v1 : BitVec 32) (v3 : BitVec 32) (k0_hw1 : k0_chk1 v1 v3) (k0_t1 : Fin (k0_t1_loop v1).trips), ∀ (k0_h1 : k0_cond1 v3 = 1#1), ∀ a, (k0_off4 v1 k0_t1) a + S1x256x512.size a ≤ S32x256x512.size a := fun v1 v3 k0_hw1 k0_t1 k0_h1 => k0_hw1.2.2.2.2.1 k0_t1 k0_h1
theorem k0_t2_ok : ∀ (v1 : BitVec 32) (v3 : BitVec 32) (k0_hw1 : k0_chk1 v1 v3), ∀ (k0_h1 : k0_cond1 v3 = 1#1), (k0_t2_loop v1).OK := fun v1 v3 k0_hw1 k0_h1 => k0_hw1.2.2.2.2.2.1 k0_h1
theorem k0_mult2_dvd : ∀ (v1 : BitVec 32) (v3 : BitVec 32) (k0_hw1 : k0_chk1 v1 v3) (k0_t2 : Fin (k0_t2_loop v1).trips), ∀ (k0_h1 : k0_cond1 v3 = 1#1), 512 ∣ (k0_mult2 v1 k0_t2).toNat := fun v1 v3 k0_hw1 k0_t2 k0_h1 => k0_hw1.2.2.2.2.2.2.1 k0_t2 k0_h1
theorem k0_off5_inb : ∀ (v1 : BitVec 32) (v3 : BitVec 32) (k0_hw1 : k0_chk1 v1 v3) (k0_t2 : Fin (k0_t2_loop v1).trips), ∀ (k0_h1 : k0_cond1 v3 = 1#1), ∀ a, (k0_off5 v1 k0_t2) a + S1x512x128.size a ≤ S2x16384x128.size a := fun v1 v3 k0_hw1 k0_t2 k0_h1 => k0_hw1.2.2.2.2.2.2.2.1 k0_t2 k0_h1
theorem k0_off6_inb : ∀ (v1 : BitVec 32) (v3 : BitVec 32) (k0_hw1 : k0_chk1 v1 v3) (k0_t2 : Fin (k0_t2_loop v1).trips), ∀ (k0_h1 : k0_cond1 v3 = 1#1), ∀ a, (k0_off6 v1 k0_t2) a + S1x512x128.size a ≤ S2x16384x128.size a := fun v1 v3 k0_hw1 k0_t2 k0_h1 => k0_hw1.2.2.2.2.2.2.2.2.1 k0_t2 k0_h1
theorem k0_off7_inb : ∀ (v1 : BitVec 32) (v3 : BitVec 32) (k0_hw1 : k0_chk1 v1 v3) (k0_t2 : Fin (k0_t2_loop v1).trips), ∀ (k0_h1 : k0_cond1 v3 = 1#1), ∀ a, (k0_off7 v1 k0_t2) a + S1x256x512.size a ≤ S32x256x512.size a := fun v1 v3 k0_hw1 k0_t2 k0_h1 => k0_hw1.2.2.2.2.2.2.2.2.2.1 k0_t2 k0_h1
theorem k0_off24_inb : ∀ (v1 : BitVec 32) (v3 : BitVec 32) (k0_hw1 : k0_chk1 v1 v3), ∀ a, (k0_off24 v3) a + S1x256x512.size a ≤ S32x256x512.size a := fun v1 v3 k0_hw1 => k0_hw1.2.2.2.2.2.2.2.2.2.2

def k0_cond2 (v1 : BitVec 32) (v3 : BitVec 32) : BitVec 1 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let v351 : BitVec 1 := Scalar.cmpi .eq v3 v23
  let v352 : BitVec 32 := Scalar.extui v351
  let c0_i32_240 : BitVec 32 := 0#32
  let v353 : BitVec 1 := Scalar.cmpi .ne v352 c0_i32_240
  v353

def cc0_transform_0 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S1056) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S1056) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S1056) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 1 (Rect.unit (s := S1056) ![v1.toNat] S1.size (k0_off1_inb i)) numel1_S1
  let v3 : BitVec 32 := Scalar.addi v0 v2
  let c1_i32 : BitVec 32 := 1#32
  let c0_i32 : BitVec 32 := 0#32
  ![v3.toNat, c1_i32.toNat]

def cc0_transform_5 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 1 (Rect.unit (s := S1056) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_6 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S1056) ![v1.toNat] S1.size (k0_off1_inb i)) numel1_S1
  let v3 : BitVec 32 := Scalar.addi v0 v2
  let c2_i32 : BitVec 32 := 2#32
  let c0_i32 : BitVec 32 := 0#32
  ![v3.toNat, c2_i32.toNat]

def cc0_transform_7 (k0_off1_inb : ∀ i : grid0.Coords, ∀ a, (k0_off1 i) a + S1.size a ≤ S1056.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S1056) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Vg.lean ====
abbrev S32768x2048 : Shape := ⟨2, ![32768, 2048]⟩
abbrev S2048x13392 : Shape := ⟨2, ![2048, 13392]⟩
abbrev S2048x1024 : Shape := ⟨2, ![2048, 1024]⟩
abbrev S2048x2048 : Shape := ⟨2, ![2048, 2048]⟩
abbrev S2048x8192 : Shape := ⟨2, ![2048, 8192]⟩
abbrev S32768x8192 : Shape := ⟨2, ![32768, 8192]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 11
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x13392, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S2048x8192, .bf16⟩
  | .hbm, ⟨10, _⟩ => ⟨S32768x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 32], ![false, false]⟩

def k0_cond1 (i : grid0.Coords) : BitVec 1 :=
  let arg1 : BitVec 32 := BitVec.ofNat 32 (i 1).val
  let c8_i32 : BitVec 32 := 8#32
  let v4 : BitVec 1 := Scalar.cmpi .slt arg1 c8_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c8_i32_3 : BitVec 32 := 8#32
  let v7 : BitVec 1 := Scalar.cmpi .sge arg1 c8_i32_3
  let c16_i32 : BitVec 32 := 16#32
  let v8 : BitVec 1 := Scalar.cmpi .slt arg1 c16_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c16_i32_5 : BitVec 32 := 16#32
  let v12 : BitVec 1 := Scalar.cmpi .sge arg1 c16_i32_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VgRefIdeal.lean ====
abbrev S32768x2048 : Shape := ⟨2, ![32768, 2048]⟩
abbrev S2048x13392 : Shape := ⟨2, ![2048, 13392]⟩
abbrev S32768x13392 : Shape := ⟨2, ![32768, 13392]⟩
abbrev S32768x1024 : Shape := ⟨2, ![32768, 1024]⟩
abbrev S_ : Shape := ⟨0, ![]⟩
abbrev S32768x8192 : Shape := ⟨2, ![32768, 8192]⟩

abbrev nBuf : Space → Nat
  | .hbm => 46
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x13392, .f32⟩
  | .hbm, ⟨2, _⟩ => ⟨S32768x2048, .f32⟩
  | .hbm, ⟨3, _⟩ => ⟨S32768x13392, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S32768x8192, .f32⟩
  | .hbm, ⟨45, _⟩ => ⟨S32768x8192, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Qk.lean ====
abbrev S32768x2048 : Shape := ⟨2, ![32768, 2048]⟩
abbrev S2048x13392 : Shape := ⟨2, ![2048, 13392]⟩
abbrev S128 : Shape := ⟨1, ![128]⟩
abbrev S2x16384 : Shape := ⟨2, ![2, 16384]⟩
abbrev S32768x1 : Shape := ⟨2, ![32768, 1]⟩
abbrev S64 : Shape := ⟨1, ![64]⟩
abbrev S_ : Shape := ⟨0, ![]⟩
abbrev S1x64 : Shape := ⟨2, ![1, 64]⟩
abbrev S32768x64 : Shape := ⟨2, ![32768, 64]⟩
abbrev S32768x128 : Shape := ⟨2, ![32768, 128]⟩
abbrev S2048x1024 : Shape := ⟨2, ![2048, 1024]⟩
abbrev S2048x4096 : Shape := ⟨2, ![2048, 4096]⟩
abbrev S1x128 : Shape := ⟨2, ![1, 128]⟩
abbrev S8x128 : Shape := ⟨2, ![8, 128]⟩
abbrev S1024 : Shape := ⟨1, ![1024]⟩
abbrev S4096 : Shape := ⟨1, ![4096]⟩
abbrev S1x4096 : Shape := ⟨2, ![1, 4096]⟩
abbrev S32768x4096 : Shape := ⟨2, ![32768, 4096]⟩
abbrev S1024x2048 : Shape := ⟨2, ![1024, 2048]⟩
abbrev S2048x256 : Shape := ⟨2, ![2048, 256]⟩
abbrev S1x256 : Shape := ⟨2, ![1, 256]⟩
abbrev S1024x128 : Shape := ⟨2, ![1024, 128]⟩
abbrev S1024x256 : Shape := ⟨2, ![1024, 256]⟩
abbrev S1024x1 : Shape := ⟨2, ![1024, 1]⟩

abbrev nBuf : Space → Nat
  | .hbm => 59
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S2048x13392, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x16384, .i32⟩
  | .hbm, ⟨7, _⟩ => ⟨S2x16384, .f32⟩
  | .hbm, ⟨8, _⟩ => ⟨S32768x1, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S32768x64, .f32⟩
  | .hbm, ⟨25, _⟩ => ⟨S32768x64, .f32⟩
  | .hbm, ⟨26, _⟩ => ⟨S32768x64, .f32⟩
  | .hbm, ⟨27, _⟩ => ⟨S32768x64, .f32⟩
  | .hbm, ⟨28, _⟩ => ⟨S32768x64, .f32⟩
  | .hbm, ⟨29, _⟩ => ⟨S32768x128, .f32⟩
  | .hbm, ⟨30, _⟩ => ⟨S32768x64, .f32⟩
  | .hbm, ⟨31, _⟩ => ⟨S32768x128, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x4096, .f32⟩
  | .hbm, ⟨37, _⟩ => ⟨S2048x4096, .bf16⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S8x128, .f32⟩
  | .hbm, ⟨43, _⟩ => ⟨S1024, .f32⟩
  | .hbm, ⟨44, _⟩ => ⟨S1x128, .f32⟩
  | .hbm, ⟨45, _⟩ => ⟨S8x128, .f32⟩
  | .hbm, ⟨46, _⟩ => ⟨S1024, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S8x128, .f32⟩
  | .hbm, ⟨52, _⟩ => ⟨S1024, .f32⟩
  | .hbm, ⟨53, _⟩ => ⟨S1x128, .f32⟩
  | .hbm, ⟨54, _⟩ => ⟨S8x128, .f32⟩
  | .hbm, ⟨55, _⟩ => ⟨S1024, .f32⟩
  | .hbm, ⟨56, _⟩ => ⟨S4096, .f32⟩
  | .hbm, ⟨57, _⟩ => ⟨S1x4096, .f32⟩
  | .hbm, ⟨58, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkRefIdeal.lean ====
abbrev S32768x2048 : Shape := ⟨2, ![32768, 2048]⟩
abbrev S2048x13392 : Shape := ⟨2, ![2048, 13392]⟩
abbrev S128 : Shape := ⟨1, ![128]⟩
abbrev S2x16384 : Shape := ⟨2, ![2, 16384]⟩
abbrev S64 : Shape := ⟨1, ![64]⟩
abbrev S_ : Shape := ⟨0, ![]⟩
abbrev S32768x1x1 : Shape := ⟨3, ![32768, 1, 1]⟩
abbrev S1x1x64 : Shape := ⟨3, ![1, 1, 64]⟩
abbrev S32768x1x64 : Shape := ⟨3, ![32768, 1, 64]⟩
abbrev S32768x13392 : Shape := ⟨2, ![32768, 13392]⟩
abbrev S32768x1024 : Shape := ⟨2, ![32768, 1024]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x8x64 : Shape := ⟨3, ![32768, 8, 64]⟩
abbrev S32768x4096 : Shape := ⟨2, ![32768, 4096]⟩

abbrev nBuf : Space → Nat
  | .hbm => 167
  | .vmem => 0
  | .smem => 0
  | _ => 0

abbrev hbmTy0_0 (i : Nat) : BufTy := match i % 128 with
  | 0 => ⟨S32768x2048, .bf16⟩
  | 1 => ⟨S2048x13392, .f32⟩
  | 2 => ⟨S128, .f32⟩
  | 3 => ⟨S128, .f32⟩
  | 4 => ⟨S128, .f32⟩
  | 5 => ⟨S128, .f32⟩
  | 6 => ⟨S2x16384, .i32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S2x16384, .f32⟩
  | 22 => ⟨S32768x1x1, .f32⟩
  | 23 => ⟨S1x1x64, .f32⟩
  | 24 => ⟨S32768x1x64, .f32⟩
  | 25 => ⟨S32768x1x64, .f32⟩
  | 26 => ⟨S32768x1x64, .f32⟩
  | 27 => ⟨S32768x1x64, .f32⟩
  | 28 => ⟨S32768x1x64, .f32⟩
  | 29 => ⟨S32768x2048, .f32⟩
  | 30 => ⟨S32768x13392, .f32⟩
  | 31 => ⟨S32768x1024, .f32⟩
  | 32 => ⟨S32768x8x128, .f32⟩
  | 33 => ⟨S32768x8x128, .f32⟩
  | 34 => ⟨S_, .f32⟩
  | 35 => ⟨S32768x8, .f32⟩
  | 36 => ⟨S32768x8x1, .f32⟩
  | 37 => ⟨S_, .f32⟩
  | 38 => ⟨S32768x8x1, .f32⟩
  | 39 => ⟨S32768x8x1, .f32⟩
  | 40 => ⟨S_, .f32⟩
  | 41 => ⟨S32768x8x1, .f32⟩
  | 42 => ⟨S32768x8x1, .f32⟩
  | 43 => ⟨S32768x8x1, .f32⟩
  | 44 => ⟨S32768x8x128, .f32⟩
  | 45 => ⟨S32768x8x128, .f32⟩
  | 46 => ⟨S1x1x128, .f32⟩
  | 47 => ⟨S32768x8x128, .f32⟩
  | 48 => ⟨S32768x8x128, .f32⟩
  | 49 => ⟨S32768x8x64, .f32⟩
  | 50 => ⟨S32768x8x64, .f32⟩
  | 51 => ⟨S32768x8x64, .f32⟩
  | 52 => ⟨S32768x8x64, .f32⟩
  | 53 => ⟨S32768x8x64, .f32⟩
  | 54 => ⟨S32768x8x64, .f32⟩
  | 55 => ⟨S32768x8x64, .f32⟩
  | 56 => ⟨S32768x8x64, .f32⟩
  | 57 => ⟨S32768x8x64, .f32⟩
  | 58 => ⟨S32768x8x64, .f32⟩
  | 59 => ⟨S32768x8x64, .f32⟩
  | 60 => ⟨S32768x8x64, .f32⟩
  | 61 => ⟨S32768x8x128, .f32⟩
  | 62 => ⟨S32768x1024, .f32⟩
  | 63 => ⟨S32768x1024, .f32⟩
  | 64 => ⟨S32768x8x128, .f32⟩
  | 65 => ⟨S32768x8x128, .f32⟩
  | 66 => ⟨S_, .f32⟩
  | 67 => ⟨S32768x8, .f32⟩
  | 68 => ⟨S32768x8x1, .f32⟩
  | 69 => ⟨S_, .f32⟩
  | 70 => ⟨S32768x8x1, .f32⟩
  | 71 => ⟨S32768x8x1, .f32⟩
  | 72 => ⟨S_, .f32⟩
  | 73 => ⟨S32768x8x1, .f32⟩
  | 74 => ⟨S32768x8x1, .f32⟩
  | 75 => ⟨S32768x8x1, .f32⟩
  | 76 => ⟨S32768x8x128, .f32⟩
  | 77 => ⟨S32768x8x128, .f32⟩
  | 78 => ⟨S1x1x128, .f32⟩
  | 79 => ⟨S32768x8x128, .f32⟩
  | 80 => ⟨S32768x8x128, .f32⟩
  | 81 => ⟨S32768x8x64, .f32⟩
  | 82 => ⟨S32768x8x64, .f32⟩
  | 83 => ⟨S32768x8x64, .f32⟩
  | 84 => ⟨S32768x8x64, .f32⟩
  | 85 => ⟨S32768x8x64, .f32⟩
  | 86 => ⟨S32768x8x64, .f32⟩
  | 87 => ⟨S32768x8x64, .f32⟩
  | 88 => ⟨S32768x8x64, .f32⟩
  | 89 => ⟨S32768x8x64, .f32⟩
  | 90 => ⟨S32768x8x64, .f32⟩
  | 91 => ⟨S32768x8x64, .f32⟩
  | 92 => ⟨S32768x8x64, .f32⟩
  | 93 => ⟨S32768x8x128, .f32⟩
  | 94 => ⟨S32768x1024, .f32⟩
  | 95 => ⟨S32768x1024, .f32⟩
  | 96 => ⟨S32768x8x128, .f32⟩
  | 97 => ⟨S32768x8x128, .f32⟩
  | 98 => ⟨S_, .f32⟩
  | 99 => ⟨S32768x8, .f32⟩
  | 100 => ⟨S32768x8x1, .f32⟩
  | 101 => ⟨S_, .f32⟩
  | 102 => ⟨S32768x8x1, .f32⟩
  | 103 => ⟨S32768x8x1, .f32⟩
  | 104 => ⟨S_, .f32⟩
  | 105 => ⟨S32768x8x1, .f32⟩
  | 106 => ⟨S32768x8x1, .f32⟩
  | 107 => ⟨S32768x8x1, .f32⟩
  | 108 => ⟨S32768x8x128, .f32⟩
  | 109 => ⟨S32768x8x128, .f32⟩
  | 110 => ⟨S1x1x128, .f32⟩
  | 111 => ⟨S32768x8x128, .f32⟩
  | 112 => ⟨S32768x8x128, .f32⟩
  | 113 => ⟨S32768x8x64, .f32⟩
  | 114 => ⟨S32768x8x64, .f32⟩
  | 115 => ⟨S32768x8x64, .f32⟩
  | 116 => ⟨S32768x8x64, .f32⟩
  | 117 => ⟨S32768x8x64, .f32⟩
  | 118 => ⟨S32768x8x64, .f32⟩
  | 119 => ⟨S32768x8x64, .f32⟩
  | 120 => ⟨S32768x8x64, .f32⟩
  | 121 => ⟨S32768x8x64, .f32⟩
  | 122 => ⟨S32768x8x64, .f32⟩
  | 123 => ⟨S32768x8x64, .f32⟩
  | 124 => ⟨S32768x8x64, .f32⟩
  | 125 => ⟨S32768x8x128, .f32⟩
  | 126 => ⟨S32768x1024, .f32⟩
  | 127 => ⟨S32768x1024, .f32⟩
  | _ => ⟨S32768x2048, .bf16⟩

abbrev hbmTy0_1 (i : Nat) : BufTy := match i % 128 with
  | 0 => ⟨S32768x8x128, .f32⟩
  | 1 => ⟨S32768x8x128, .f32⟩
  | 2 => ⟨S_, .f32⟩
  | 3 => ⟨S32768x8, .f32⟩
  | 4 => ⟨S32768x8x1, .f32⟩
  | 5 => ⟨S_, .f32⟩
  | 6 => ⟨S32768x8x1, .f32⟩
  | 7 => ⟨S32768x8x1, .f32⟩
  | 8 => ⟨S_, .f32⟩
  | 9 => ⟨S32768x8x1, .f32⟩
  | 10 => ⟨S32768x8x1, .f32⟩
  | 11 => ⟨S32768x8x1, .f32⟩
  | 12 => ⟨S32768x8x128, .f32⟩
  | 13 => ⟨S32768x8x128, .f32⟩
  | 14 => ⟨S1x1x128, .f32⟩
  | 15 => ⟨S32768x8x128, .f32⟩
  | 16 => ⟨S32768x8x128, .f32⟩
  | 17 => ⟨S32768x8x64, .f32⟩
  | 18 => ⟨S32768x8x64, .f32⟩
  | 19 => ⟨S32768x8x64, .f32⟩
  | 20 => ⟨S32768x8x64, .f32⟩
  | 21 => ⟨S32768x8x64, .f32⟩
  | 22 => ⟨S32768x8x64, .f32⟩
  | 23 => ⟨S32768x8x64, .f32⟩
  | 24 => ⟨S32768x8x64, .f32⟩
  | 25 => ⟨S32768x8x64, .f32⟩
  | 26 => ⟨S32768x8x64, .f32⟩
  | 27 => ⟨S32768x8x64, .f32⟩
  | 28 => ⟨S32768x8x64, .f32⟩
  | 29 => ⟨S32768x8x128, .f32⟩
  | 30 => ⟨S32768x1024, .f32⟩
  | 31 => ⟨S_, .f32⟩
  | 32 => ⟨S32768x1024, .f32⟩
  | 33 => ⟨S32768x1024, .f32⟩
  | 34 => ⟨S_, .f32⟩
  | 35 => ⟨S32768x1024, .f32⟩
  | 36 => ⟨S32768x1024, .f32⟩
  | 37 => ⟨S32768x4096, .f32⟩
  | 38 => ⟨S32768x4096, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_cst_13 : Ref sig .tc := ⟨.hbm, 133, rfl⟩
abbrev main_v112 : Ref sig .tc := ⟨.hbm, 134, rfl⟩
abbrev main_v113 : Ref sig .tc := ⟨.hbm, 135, rfl⟩
abbrev main_cst_14 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_15 : Ref sig .tc := ⟨.hbm, 159, rfl⟩
abbrev main_v136 : Ref sig .tc := ⟨.hbm, 160, rfl⟩
abbrev main_v137 : Ref sig .tc := ⟨.hbm, 161, rfl⟩
abbrev main_cst_16 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩

abbrev nD : Nat := 1
abbrev τ : Topo := Topo.v7x

variable {F : FTy → Type} [FloatOps F]
-- ==== Diff.lean ====
abbrev S32768x4096 : Shape := ⟨2, ![32768, 4096]⟩
abbrev S32768x8192 : Shape := ⟨2, ![32768, 8192]⟩
abbrev S256 : Shape := ⟨1, ![256]⟩
abbrev S128 : Shape := ⟨1, ![128]⟩
abbrev S528 : Shape := ⟨1, ![528]⟩
abbrev S1x256 : Shape := ⟨2, ![1, 256]⟩
abbrev S1x128 : Shape := ⟨2, ![1, 128]⟩
abbrev S32768x1024 : Shape := ⟨2, ![32768, 1024]⟩
abbrev S512x256 : Shape := ⟨2, ![512, 256]⟩
abbrev S1 : Shape := ⟨1, ![1]⟩
abbrev S2x512x128 : Shape := ⟨3, ![2, 512, 128]⟩
abbrev S2x512x256 : Shape := ⟨3, ![2, 512, 256]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S1x1 : Shape := ⟨2, ![1, 1]⟩

abbrev nBuf : Space → Nat
  | .hbm => 13
  | .vmem => 18
  | .smem => 2
  | _ => 0

abbrev bufTy : (tb : Table) → Fin (tcTables nBuf tb) → BufTy
  | .hbm, ⟨0, _⟩ => ⟨S32768x4096, .bf16⟩
  | .hbm, ⟨1, _⟩ => ⟨S32768x8192, .bf16⟩
  | .hbm, ⟨2, _⟩ => ⟨S256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S32768x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S512x256, .bf16⟩
  | .local _ .vmem, ⟨14, _⟩ => ⟨S512x256, .bf16⟩
  | .local _ .vmem, ⟨15, _⟩ => ⟨S2x512x128, .f32⟩
  | .local _ .vmem, ⟨16, _⟩ => ⟨S2x512x128, .f32⟩
  | .local _ .vmem, ⟨17, _⟩ => ⟨S2x512x256, .f32⟩
  | .local _ .smem, ⟨0, _⟩ => ⟨S528, .i32⟩
  | .local _ .smem, ⟨1, _⟩ => ⟨S528, .i32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 528], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c8_i32 : BitVec 32 := 8#32
  let v4 : BitVec 32 := Scalar.addi c8_i32 arg1
  let c0_i32 : BitVec 32 := 0#32
  ![v3.toNat, v4.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c12_i32 : BitVec 32 := 12#32
  let v4 : BitVec 32 := Scalar.addi c12_i32 arg1
  let c0_i32 : BitVec 32 := 0#32
  ![v3.toNat, v4.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c4_i32 : BitVec 32 := 4#32
  let v4 : BitVec 32 := Scalar.addi c4_i32 arg1
  let c0_i32 : BitVec 32 := 0#32
  ![v3.toNat, v4.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c12_i32 : BitVec 32 := 12#32
  let v4 : BitVec 32 := Scalar.addi c12_i32 arg1
  let c0_i32 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S32768x4096 : Shape := ⟨2, ![32768, 4096]⟩
abbrev S32768x8192 : Shape := ⟨2, ![32768, 8192]⟩
abbrev S256 : Shape := ⟨1, ![256]⟩
abbrev S128 : Shape := ⟨1, ![128]⟩
abbrev S_ : Shape := ⟨0, ![]⟩
abbrev S32768x1024 : Shape := ⟨2, ![32768, 1024]⟩
abbrev S2x16384x4x2x128 : Shape := ⟨5, ![2, 16384, 4, 2, 128]⟩
abbrev S2x16384x4x256 : Shape := ⟨4, ![2, 16384, 4, 256]⟩
abbrev S2x4x2x16384x16384 : Shape := ⟨5, ![2, 4, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x256x16384 : Shape := ⟨4, ![2, 4, 256, 16384]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩

abbrev nBuf : Space → Nat
  | .hbm => 86
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x8192, .bf16⟩
  | .hbm, ⟨2, _⟩ => ⟨S256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32768x1024, .bf16⟩
  | .hbm, ⟨19, _⟩ => ⟨S32768x1024, .f32⟩
  | .hbm, ⟨20, _⟩ => ⟨S2x16384x4x2x128, .f32⟩
  | .hbm, ⟨21, _⟩ => ⟨S32768x1024, .bf16⟩
  | .hbm, ⟨22, _⟩ => ⟨S32768x1024, .f32⟩
  | .hbm, ⟨23, _⟩ => ⟨S2x16384x4x2x128, .f32⟩
  | .hbm, ⟨24, _⟩ => ⟨S32768x1024, .bf16⟩
  | .hbm, ⟨25, _⟩ => ⟨S32768x1024, .f32⟩
  | .hbm, ⟨26, _⟩ => ⟨S2x16384x4x256, .f32⟩
  | .hbm, ⟨27, _⟩ => ⟨S2x4x2x16384x16384, .f32⟩
  | .hbm, ⟨28, _⟩ => ⟨S16384, .i32⟩
  | .hbm, ⟨29, _⟩ => ⟨S1x16384, .i32⟩
  | .hbm, ⟨30, _⟩ => ⟨S16384, .i32⟩
  | .hbm, ⟨31, _⟩ => ⟨S16384x1, .i32⟩
  | .hbm, ⟨32, _⟩ => ⟨S16384x16384, .i32⟩
  | .hbm, ⟨33, _⟩ => ⟨S16384x16384, .i32⟩
  | .hbm, ⟨34, _⟩ => ⟨S16384x16384, .i1⟩
  | .hbm, ⟨35, _⟩ => ⟨S_, .f32⟩
  | .hbm, ⟨36, _⟩ => ⟨S_, .f32⟩
  | .hbm, ⟨37, _⟩ => ⟨S2x4x2x16384x16384, .i1⟩
  | .hbm, ⟨38, _⟩ => ⟨S2x4x2x16384x16384, .f32⟩
  | .hbm, ⟨39, _⟩ => ⟨S2x4x2x16384x16384, .f32⟩
  | .hbm, ⟨40, _⟩ => ⟨S_, .f32⟩
  | .hbm, ⟨41, _⟩ => ⟨S2x4x2x16384x16384, .f32⟩
  | .hbm, ⟨42, _⟩ => ⟨S_, .f32⟩
  | .hbm, ⟨43, _⟩ => ⟨S2x4x2x16384, .f32⟩
  | .hbm, ⟨44, _⟩ => ⟨S2x4x2x16384x1, .f32⟩
  | .hbm, ⟨45, _⟩ => ⟨S2x4x2x16384x16384, .f32⟩
  | .hbm, ⟨46, _⟩ => ⟨S2x4x2x16384x16384, .f32⟩
  | .hbm, ⟨47, _⟩ => ⟨S2x4x2x16384x16384, .f32⟩
  | .hbm, ⟨48, _⟩ => ⟨S_, .f32⟩
  | .hbm, ⟨49, _⟩ => ⟨S2x4x2x16384, .f32⟩
  | .hbm, ⟨50, _⟩ => ⟨S2x4x2x16384x1, .f32⟩
  | .hbm, ⟨51, _⟩ => ⟨S2x4x2x16384x16384, .f32⟩
  | .hbm, ⟨52, _⟩ => ⟨S2x4x2x16384x16384, .f32⟩
  | .hbm, ⟨53, _⟩ => ⟨S2x4x1x16384x16384, .f32⟩
  | .hbm, ⟨54, _⟩ => ⟨S2x4x16384x16384, .f32⟩
  | .hbm, ⟨55, _⟩ => ⟨S2x4x1x16384x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S2x4x16384x16384, .f32⟩
  | .hbm, ⟨60, _⟩ => ⟨S2x4x256x16384, .f32⟩
  | .hbm, ⟨61, _⟩ => ⟨S2x16384x4x256, .f32⟩
  | .hbm, ⟨62, _⟩ => ⟨S2x16384x4x256, .f32⟩
  | .hbm, ⟨63, _⟩ => ⟨S_, .f32⟩
  | .hbm, ⟨64, _⟩ => ⟨S2x16384x4, .f32⟩
  | .hbm, ⟨65, _⟩ => ⟨S2x16384x4x1, .f32⟩
  | .hbm, ⟨66, _⟩ => ⟨S_, .f32⟩
  | .hbm, ⟨67, _⟩ => ⟨S2x16384x4x1, .f32⟩
  | .hbm, ⟨68, _⟩ => ⟨S2x16384x4x1, .f32⟩
  | .hbm, ⟨69, _⟩ => ⟨S_, .f32⟩
  | .hbm, ⟨70, _⟩ => ⟨S2x16384x4x1, .f32⟩
  | .hbm, ⟨71, _⟩ => ⟨S2x16384x4x1, .f32⟩
  | .hbm, ⟨72, _⟩ => ⟨S2x16384x4x1, .f32⟩
  | .hbm, ⟨73, _⟩ => ⟨S2x16384x4x256, .f32⟩
  | .hbm, ⟨74, _⟩ => ⟨S2x16384x4x256, .f32⟩
  | .hbm, ⟨75, _⟩ => ⟨S1x1x1x256, .f32⟩
  | .hbm, ⟨76, _⟩ => ⟨S2x16384x4x256, .f32⟩
  | .hbm, ⟨77, _⟩ => ⟨S2x16384x4x256, .f32⟩
  | .hbm, ⟨78, _⟩ => ⟨S_, .f32⟩
  | .hbm, ⟨79, _⟩ => ⟨S2x16384x4x256, .f32⟩
  | .hbm, ⟨80, _⟩ => ⟨S2x16384x4x256, .f32⟩
  | .hbm, ⟨81, _⟩ => ⟨S32768x1024, .f32⟩
  | .hbm, ⟨82, _⟩ => ⟨S32768x1024, .bf16⟩
  | .hbm, ⟨83, _⟩ => ⟨S32768x1024, .f32⟩
  | .hbm, ⟨84, _⟩ => ⟨S32768x1024, .f32⟩
  | .hbm, ⟨85, _⟩ => ⟨S32768x1024, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Merge.lean ====
abbrev S32768x1024 : Shape := ⟨2, ![32768, 1024]⟩
abbrev S1024x2048 : Shape := ⟨2, ![1024, 2048]⟩
abbrev S32768x8192 : Shape := ⟨2, ![32768, 8192]⟩
abbrev S32768x2048 : Shape := ⟨2, ![32768, 2048]⟩
abbrev S1024x1024 : Shape := ⟨2, ![1024, 1024]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .f32⟩
  | .hbm, ⟨3, _⟩ => ⟨S1024x2048, .f32⟩
  | .hbm, ⟨4, _⟩ => ⟨S32768x8192, .bf16⟩
  | .hbm, ⟨5, _⟩ => ⟨S1024x2048, .bf16⟩
  | .hbm, ⟨6, _⟩ => ⟨S1024x2048, .bf16⟩
  | .hbm, ⟨7, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S32768x1024 : Shape := ⟨2, ![32768, 1024]⟩
abbrev S1024x2048 : Shape := ⟨2, ![1024, 2048]⟩
abbrev S32768x8192 : Shape := ⟨2, ![32768, 8192]⟩
abbrev S32768x2048 : Shape := ⟨2, ![32768, 2048]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .f32⟩
  | .hbm, ⟨3, _⟩ => ⟨S1024x2048, .f32⟩
  | .hbm, ⟨4, _⟩ => ⟨S32768x8192, .bf16⟩
  | .hbm, ⟨5, _⟩ => ⟨S32768x1024, .f32⟩
  | .hbm, ⟨6, _⟩ => ⟨S32768x2048, .f32⟩
  | .hbm, ⟨7, _⟩ => ⟨S32768x1024, .f32⟩
  | .hbm, ⟨8, _⟩ => ⟨S32768x2048, .f32⟩
  | .hbm, ⟨9, _⟩ => ⟨S32768x2048, .bf16⟩
  | .hbm, ⟨10, _⟩ => ⟨S32768x2048, .f32⟩
  | .hbm, ⟨11, _⟩ => ⟨S32768x2048, .f32⟩
  | .hbm, ⟨12, _⟩ => ⟨S32768x2048, .bf16⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S32768x2048 : Shape := ⟨2, ![32768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .f32⟩
  | .hbm, ⟨5, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Words.lean ====
/- The side conditions the body computes from the words it reads: the two tables' words are a query tile below 64
   and a key tile below 32, and every loop whose bound comes from the scores counts by one. -/
module

public import proofs.«01_k».proof.Proof.Gen.Kernel
public import Idealize.ShloMosaic.Lib.Exec

@[expose] public section

set_option maxRecDepth 16384

noncomputable section

namespace Cert.Proof.Kernel

open Cert.Kernel Cert.Kernel.Gen
open Idealize.ShloMosaic

/-- A loop that counts by one always has a meaning: it stops at the larger of its two bounds. -/
theorem ok_of_step_one (lb ub : BitVec 32) : Scf.OK lb ub 1#32 := by
  have e : (1#32).toInt = 1 := by decide
  have h1 := lb.toInt_lt (w := 32)
  have h2 := ub.toInt_lt (w := 32)
  refine ⟨by rw [e]; decide, ?_⟩
  unfold Scf.trips
  rw [e]
  simp only [Int.mul_one, Int.ediv_one]
  rw [show (2 : Int) ^ (32 - 1) = 2147483648 from by decide] at h1 h2 ⊢
  omega

/-- What the score loops and the searches' inner loops owe at query tile `n`. -/
def TileOk (n : Fin 64) : Prop :=
  let v1 := BitVec.ofNat 32 n.val
  (∀ t : Fin (k0_t1_loop v1).trips, 512 ∣ (k0_mult1 v1 t).toNat ∧
    (∀ a, k0_off2 v1 t a + S1x512x128.size a ≤ S2x16384x128.size a) ∧
    (∀ a, k0_off3 v1 t a + S1x512x128.size a ≤ S2x16384x128.size a) ∧
    (∀ a, k0_off4 v1 t a + S1x256x512.size a ≤ S32x256x512.size a)) ∧
  (∀ t : Fin (k0_t2_loop v1).trips, 512 ∣ (k0_mult2 v1 t).toNat ∧
    (∀ a, k0_off5 v1 t a + S1x512x128.size a ≤ S2x16384x128.size a) ∧
    (∀ a, k0_off6 v1 t a + S1x512x128.size a ≤ S2x16384x128.size a) ∧
    (∀ a, k0_off7 v1 t a + S1x256x512.size a ≤ S32x256x512.size a)) ∧
  (∀ t : Fin (k0_t4_loop v1).trips, ∀ a, k0_off8 v1 t a + S1x64x512.size a ≤ S32x256x512.size a) ∧
  (∀ t : Fin (k0_t5_loop v1).trips, ∀ a, k0_off9 v1 t a + S1x64x512.size a ≤ S32x256x512.size a) ∧
  (∀ t : Fin (k0_t10_loop v1).trips, ∀ a, k0_off12 v1 t a + S1x64x512.size a ≤ S32x256x512.size a) ∧
  (∀ t : Fin (k0_t11_loop v1).trips, ∀ a, k0_off13 v1 t a + S1x64x512.size a ≤ S32x256x512.size a) ∧
  (∀ t : Fin (k0_t16_loop v1).trips, ∀ a, k0_off16 v1 t a + S1x64x512.size a ≤ S32x256x512.size a) ∧
  (∀ t : Fin (k0_t17_loop v1).trips, ∀ a, k0_off17 v1 t a + S1x64x512.size a ≤ S32x256x512.size a) ∧
  (∀ t : Fin (k0_t22_loop v1).trips, ∀ a, k0_off20 v1 t a + S1x64x512.size a ≤ S32x256x512.size a) ∧
  (∀ t : Fin (k0_t23_loop v1).trips, ∀ a, k0_off21 v1 t a + S1x64x512.size a ≤ S32x256x512.size a)

instance (n : Fin 64) : Decidable (TileOk n) := by unfold TileOk; infer_instance

set_option maxHeartbeats 0 in
theorem tileOk : ∀ n : Fin 64, TileOk n := by decide +kernel

/-- The offsets of the key tile's score slab. -/
theorem slab_inb (n : Fin 32) : ∀ a, k0_off24 (BitVec.ofNat 32 n.val) a + S1x256x512.size a ≤ S32x256x512.size a := by
  revert n; decide +kernel

variable {v1 v3 : BitVec 32} (h1 : v1.toNat < 64) (h3 : v3.toNat < 32)

include h1 in
theorem tile_ok : ∃ n : Fin 64, v1 = BitVec.ofNat 32 n.val :=
  ⟨⟨v1.toNat, h1⟩, by simp⟩

include h1 h3 in
theorem chk1_of : k0_chk1 v1 v3 := by
  obtain ⟨n, rfl⟩ := tile_ok h1
  have hs := slab_inb ⟨v3.toNat, h3⟩
  simp only [BitVec.ofNat_toNat, BitVec.setWidth_eq] at hs
  have h := tileOk n
  exact ⟨fun _ => ok_of_step_one _ _, fun t _ => (h.1 t).1, fun t _ => (h.1 t).2.1, fun t _ => (h.1 t).2.2.1,
    fun t _ => (h.1 t).2.2.2, fun _ => ok_of_step_one _ _, fun t _ => (h.2.1 t).1, fun t _ => (h.2.1 t).2.1,
    fun t _ => (h.2.1 t).2.2.1, fun t _ => (h.2.1 t).2.2.2, hs⟩

include h1 in
theorem chk2_of (v : BitVec 32) : k0_chk2 v1 v3 v := by
  obtain ⟨n, rfl⟩ := tile_ok h1
  have h := tileOk n
  exact ⟨fun _ => ok_of_step_one _ _, fun _ _ => ok_of_step_one _ _, fun _ t _ => h.2.2.1 t,
    fun _ _ => ok_of_step_one _ _, fun _ t _ => h.2.2.2.1 t, fun _ => ok_of_step_one _ _,
    fun _ _ => ok_of_step_one _ _, fun _ t _ => h.2.2.1 t, fun _ _ => ok_of_step_one _ _, fun _ t _ => h.2.2.2.1 t⟩

include h1 in
theorem chk3_of (v : BitVec 32) : k0_chk3 v1 v3 v := by
  obtain ⟨n, rfl⟩ := tile_ok h1
  have h := tileOk n
  exact ⟨fun _ => ok_of_step_one _ _, fun _ _ => ok_of_step_one _ _, fun _ t _ => h.2.2.2.2.1 t,
    fun _ _ => ok_of_step_one _ _, fun _ t _ => h.2.2.2.2.2.1 t, fun _ => ok_of_step_one _ _,
    fun _ _ => ok_of_step_one _ _, fun _ t _ => h.2.2.2.2.1 t, fun _ _ => ok_of_step_one _ _, fun _ t _ => h.2.2.2.2.2.1 t⟩

include h1 in
theorem chk4_of (v : BitVec 32) : k0_chk4 v1 v3 v := by
  obtain ⟨n, rfl⟩ := tile_ok h1
  have h := tileOk n
  exact ⟨fun _ => ok_of_step_one _ _, fun _ _ => ok_of_step_one _ _, fun _ t _ => h.2.2.2.2.2.2.1 t,
    fun _ _ => ok_of_step_one _ _, fun _ t _ => h.2.2.2.2.2.2.2.1 t, fun _ => ok_of_step_one _ _,
    fun _ _ => ok_of_step_one _ _, fun _ t _ => h.2.2.2.2.2.2.1 t, fun _ _ => ok_of_step_one _ _, fun _ t _ => h.2.2.2.2.2.2.2.1 t⟩

include h1 in
theorem chk5_of (v : BitVec 32) : k0_chk5 v1 v3 v := by
  obtain ⟨n, rfl⟩ := tile_ok h1
  have h := tileOk n
  exact ⟨fun _ => ok_of_step_one _ _, fun _ _ => ok_of_step_one _ _, fun _ t _ => h.2.2.2.2.2.2.2.2.1 t,
    fun _ _ => ok_of_step_one _ _, fun _ t _ => h.2.2.2.2.2.2.2.2.2 t, fun _ => ok_of_step_one _ _,
    fun _ _ => ok_of_step_one _ _, fun _ t _ => h.2.2.2.2.2.2.2.2.1 t, fun _ _ => ok_of_step_one _ _, fun _ t _ => h.2.2.2.2.2.2.2.2.2 t⟩

/-- The tables' words. -/
theorem words_lt : ∀ n : Fin 1056, (lit0 n).toNat < 64 ∧ (lit1 n).toNat < 32 := by decide +kernel

end Cert.Proof.Kernel

end
-- ==== Proof.Tables.lean ====
/- The call's launch state: what the host writes before the region (the two tables), the tables' words, and the side
   condition the schedule makes of them: every block that a table's word places lies inside its array. -/
module

public import proofs.«01_k».proof.Proof.Words
public import proofs.«01_k».proof.Proof.Gen.Kernel.Launch
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch memory after the two tables are written. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- What neither table's constant writes is as it was launched. -/
theorem V_of_ne (c : Dev nD) {r : Ref sig .tc} (hr : r ∉ [main_c, main_c_0]) : V m c r = m ((c : Thread nD τ).loc r) :=
  StableHlo.after_of_writes_sub hostOps0 (fun b => m (c, b))
    (StableHlo.forall_writes_sub_of_map (W := [main_c, main_c_0]) rfl) hr

theorem V_main_c (c : Dev nD) : V m c main_c = fun i => lit0 (S1056.rowMajor i) := by
  show StableHlo.after _ _ (Proc.devRef .tc main_c) = _
  rw [StableHlo.after_cons, StableHlo.after_cons, StableHlo.after_nil, StableHlo.nullary_result_ne' _ _ _ (by decide),
    StableHlo.nullary_result']
  rfl

theorem V_main_c_0 (c : Dev nD) : V m c main_c_0 = fun i => lit1 (S1056.rowMajor i) := by
  show StableHlo.after _ _ (Proc.devRef .tc main_c_0) = _
  rw [StableHlo.after_cons, StableHlo.after_cons, StableHlo.after_nil, StableHlo.nullary_result']
  rfl

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem tbl_q (y : S1056.Idx) : (show BitVec 32 from tbl m 0 y).toNat < 64 := by
  have e : tbl m 0 = fun i => lit0 (S1056.rowMajor i) := V_main_c m 0
  rw [e]; exact (words_lt _).1

theorem tbl_k (y : S1056.Idx) : (show BitVec 32 from tbl m 1 y).toNat < 32 := by
  have e : tbl m 1 = fun i => lit1 (S1056.rowMajor i) := V_main_c_0 m 0
  rw [e]; exact (words_lt _).2

/-- A block's row in units of its height: `b` of the batch's rows and `w` of the table's word. -/
theorem row_lt {n : Nat} (hn : n ≤ 64) {b : Nat} (hb : b < 2) (w : BitVec 32) (hw : w.toNat < n) :
    (Scalar.addi (Scalar.muli (BitVec.ofNat 32 b) (BitVec.ofNat 32 n)) w).toNat < 2 * n := by
  unfold Scalar.addi Scalar.muli IntOp.addi IntOp.muli
  rw [BitVec.toNat_add, BitVec.toNat_mul, BitVec.toNat_ofNat, BitVec.toNat_ofNat, Nat.mod_eq_of_lt (by omega : b < 2 ^ 32),
    Nat.mod_eq_of_lt (by omega : n < 2 ^ 32)]
  have : b * n ≤ n := by
    rcases (by omega : b = 0 ∨ b = 1) with h | h <;> subst h <;> omega
  omega

theorem batch_lt (i : grid0.Coords) : (i 0).val < 2 := (i 0).isLt

theorem block_inb3 {x : Nat} (h : x < 2 * 64) (a : Fin 3) : (![0, x, 0] a + 1) * S8x256x128.size a ≤ S8x32768x128.size a :=
  match a with
  | ⟨0, _⟩ => (by decide : (0 + 1) * 8 ≤ 8)
  | ⟨1, _⟩ => (by omega : (x + 1) * 256 ≤ 32768)
  | ⟨2, _⟩ => (by decide : (0 + 1) * 128 ≤ 128)

theorem block_inb2 {n h w H W x j : Nat} (hH : H = 2 * n * h)
    (hW : (j + 1) * w ≤ W) (hx : x < 2 * n) (a : Fin 2) :
    (![x, j] a + 1) * ![h, w] a ≤ ![H, W] a :=
  match a with
  | ⟨0, _⟩ => hH ▸ Nat.mul_le_mul_right h hx
  | ⟨1, _⟩ => hW

/-- Every block a table's word places lies inside its array and is whole words. -/
theorem ok : ok0 (F := F) (tbl m) := by
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · exact block_inb3 (row_lt (by decide) (batch_lt i) _ (tbl_q m _)) a
  · exact block_inb2 rfl (by decide) (row_lt (by decide) (batch_lt i) _ (tbl_q m _)) a
  · exact block_inb2 rfl (by decide) (row_lt (by decide) (batch_lt i) _ (tbl_q m _)) a
  · exact block_inb2 rfl (by decide) (row_lt (by decide) (batch_lt i) _ (tbl_k m _)) a
  · exact block_inb2 rfl (by decide) (row_lt (by decide) (batch_lt i) _ (tbl_k m _)) a
  · exact block_inb2 rfl (by decide) (row_lt (by decide) (batch_lt i) _ (tbl_q m _)) a
  · exact block_inb2 rfl (by decide) (row_lt (by decide) (batch_lt i) _ (tbl_q m _)) a

end Cert.Proof.Kernel

end
-- ==== Proof.Scan.lean ====
/- The bisection of the score threshold, chunk by chunk of 64 query rows: its outer loops only READ the
   score buffer, so what each keeps from trip to trip is that buffer. -/
module

public import proofs.«01_k».proof.Proof.Gen.Kernel.Skeleton
public import proofs.«01_k».proof.Proof.Gen.Kernel.Loops
public import proofs.«01_k».proof.Proof.Gen.Kernel.Launch
public import Idealize.ShloMosaic.Lib.Tactic

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords)
  (arg2 : Memref sig .tc .smem S1056 .i32)
  (harg2 : arg2.IsWhole)
  (arg3 : Memref sig .tc .smem S1056 .i32)
  (harg3 : arg3.IsWhole)
  (arg4 : Memref sig .tc .vmem S8x256x128 .bf16)
  (harg4 : arg4.IsWhole)
  (arg5 : Memref sig .tc .vmem S256x128 .f32)
  (harg5 : arg5.IsWhole)
  (arg6 : Memref sig .tc .vmem S2x16384x128 .bf16)
  (harg6 : arg6.IsWhole)
  (arg7 : Memref sig .tc .vmem S256x1024 .bf16)
  (harg7 : arg7.IsWhole)
  (arg8 : Memref sig .tc .vmem S512x1024 .bf16)
  (harg8 : arg8.IsWhole)
  (arg9 : Memref sig .tc .vmem S512x1024 .bf16)
  (harg9 : arg9.IsWhole)
  (arg10 : Memref sig .tc .vmem S256x1024 .bf16)
  (harg10 : arg10.IsWhole)
  (arg11 : Memref sig .tc .vmem S256x1024 .bf16)
  (harg11 : arg11.IsWhole)
  (arg12 : Memref sig .tc .vmem S32x256x512 .i32)
  (harg12 : arg12.IsWhole)
  (arg13 : Memref sig .tc .vmem S2x256x128 .f32)
  (harg13 : arg13.IsWhole)
  (arg14 : Memref sig .tc .vmem S256x128 .i32)
  (harg14 : arg14.IsWhole)
  (arg15 : Memref sig .tc .vmem S256x512 .f32)
  (harg15 : arg15.IsWhole)
  (arg16 : Memref sig .tc .vmem S8x256x128 .f32)
  (harg16 : arg16.IsWhole)
  (arg17 : Memref sig .tc .vmem S8x256x128 .f32)
  (harg17 : arg17.IsWhole)
  (arg18 : Memref sig .tc .vmem S8x256x128 .f32)
  (harg18 : arg18.IsWhole)

set_option warn.classDefReducibility false in
/-- The score buffer through loop 3. -/
@[sl_loop] def scanInv3 (E : Set ℕ) (X : BufTy.Contents (Elt F) arg12.view.ty) (v1 : Elt F .i32) (v3 : Elt F .i32) (v23 : BitVec 32) (k0_h1 : k0_cond1 v3 = 1#1) (v415 : IVec S64x128 32) (v417 : IVec S64x128 32) (v422 : FVec F S64x128 .f32) (v431 : BitVec 32) (k0_hw2 : k0_chk2 v1 v3 v431) (init : BitVec 32 × BitVec 32 × IVec S64x128 32 × FVec F S64x128 .f32) :
    Gen.LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v415 v417 v422 v431 k0_hw2 init where
  inv := fun _ _ => arg12.view.loc (c : Thread nD τ) ↦[arg12.view.set]{fullShare} X
  step := fun k acc => by
    unfold Gen.k0_t3_body
    iintro H
    sl_exec
    sl_step
    iexact H

set_option warn.classDefReducibility false in
/-- The score buffer through loop 6. -/
@[sl_loop] def scanInv6 (E : Set ℕ) (X : BufTy.Contents (Elt F) arg12.view.ty) (v1 : Elt F .i32) (v3 : Elt F .i32) (v23 : BitVec 32) (k0_h1 : k0_cond1 v3 = 1#1) (v415 : IVec S64x128 32) (v417 : IVec S64x128 32) (v422 : FVec F S64x128 .f32) (v431 : BitVec 32) (k0_hw2 : k0_chk2 v1 v3 v431) (v438 : BitVec 32) (init : BitVec 32 × BitVec 32 × IVec S64x128 32 × FVec F S64x128 .f32) :
    Gen.LoopInvTy_k0_t6 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v415 v417 v422 v431 k0_hw2 v438 init where
  inv := fun _ _ => arg12.view.loc (c : Thread nD τ) ↦[arg12.view.set]{fullShare} X
  step := fun k acc => by
    unfold Gen.k0_t6_body
    iintro H
    sl_exec
    sl_step
    iexact H

set_option warn.classDefReducibility false in
/-- The score buffer through loop 9. -/
@[sl_loop] def scanInv9 (E : Set ℕ) (X : BufTy.Contents (Elt F) arg12.view.ty) (v1 : Elt F .i32) (v3 : Elt F .i32) (v23 : BitVec 32) (k0_h1 : k0_cond1 v3 = 1#1) (v493 : IVec S64x128 32) (v495 : IVec S64x128 32) (v500 : FVec F S64x128 .f32) (v509 : BitVec 32) (k0_hw3 : k0_chk3 v1 v3 v509) (v510 : BitVec 32) (v511 : BitVec 32) (init : BitVec 32 × BitVec 32 × IVec S64x128 32 × FVec F S64x128 .f32) :
    Gen.LoopInvTy_k0_t9 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v493 v495 v500 v509 k0_hw3 v510 v511 init where
  inv := fun _ _ => arg12.view.loc (c : Thread nD τ) ↦[arg12.view.set]{fullShare} X
  step := fun k acc => by
    unfold Gen.k0_t9_body
    iintro H
    sl_exec
    sl_step
    iexact H

set_option warn.classDefReducibility false in
/-- The score buffer through loop 12. -/
@[sl_loop] def scanInv12 (E : Set ℕ) (X : BufTy.Contents (Elt F) arg12.view.ty) (v1 : Elt F .i32) (v3 : Elt F .i32) (v23 : BitVec 32) (k0_h1 : k0_cond1 v3 = 1#1) (v493 : IVec S64x128 32) (v495 : IVec S64x128 32) (v500 : FVec F S64x128 .f32) (v509 : BitVec 32) (k0_hw3 : k0_chk3 v1 v3 v509) (v510 : BitVec 32) (v511 : BitVec 32) (v516 : BitVec 32) (init : BitVec 32 × BitVec 32 × IVec S64x128 32 × FVec F S64x128 .f32) :
    Gen.LoopInvTy_k0_t12 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v493 v495 v500 v509 k0_hw3 v510 v511 v516 init where
  inv := fun _ _ => arg12.view.loc (c : Thread nD τ) ↦[arg12.view.set]{fullShare} X
  step := fun k acc => by
    unfold Gen.k0_t12_body
    iintro H
    sl_exec
    sl_step
    iexact H

set_option warn.classDefReducibility false in
/-- The score buffer through loop 15. -/
@[sl_loop] def scanInv15 (E : Set ℕ) (X : BufTy.Contents (Elt F) arg12.view.ty) (v1 : Elt F .i32) (v3 : Elt F .i32) (v23 : BitVec 32) (k0_h1 : k0_cond1 v3 = 1#1) (v571 : IVec S64x128 32) (v573 : IVec S64x128 32) (v578 : FVec F S64x128 .f32) (v587 : BitVec 32) (k0_hw4 : k0_chk4 v1 v3 v587) (v588 : BitVec 32) (c0_i32_343 : BitVec 32) (c0_i32_344 : BitVec 32) (v590 : BitVec 32) (init : BitVec 32 × BitVec 32 × IVec S64x128 32 × FVec F S64x128 .f32) :
    Gen.LoopInvTy_k0_t15 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v571 v573 v578 v587 k0_hw4 v588 c0_i32_343 c0_i32_344 v590 init where
  inv := fun _ _ => arg12.view.loc (c : Thread nD τ) ↦[arg12.view.set]{fullShare} X
  step := fun k acc => by
    unfold Gen.k0_t15_body
    iintro H
    sl_exec
    sl_step
    iexact H

set_option warn.classDefReducibility false in
/-- The score buffer through loop 18. -/
@[sl_loop] def scanInv18 (E : Set ℕ) (X : BufTy.Contents (Elt F) arg12.view.ty) (v1 : Elt F .i32) (v3 : Elt F .i32) (v23 : BitVec 32) (k0_h1 : k0_cond1 v3 = 1#1) (v571 : IVec S64x128 32) (v573 : IVec S64x128 32) (v578 : FVec F S64x128 .f32) (v587 : BitVec 32) (k0_hw4 : k0_chk4 v1 v3 v587) (v588 : BitVec 32) (c0_i32_343 : BitVec 32) (c0_i32_344 : BitVec 32) (v590 : BitVec 32) (v594 : BitVec 32) (init : BitVec 32 × BitVec 32 × IVec S64x128 32 × FVec F S64x128 .f32) :
    Gen.LoopInvTy_k0_t18 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v571 v573 v578 v587 k0_hw4 v588 c0_i32_343 c0_i32_344 v590 v594 init where
  inv := fun _ _ => arg12.view.loc (c : Thread nD τ) ↦[arg12.view.set]{fullShare} X
  step := fun k acc => by
    unfold Gen.k0_t18_body
    iintro H
    sl_exec
    sl_step
    iexact H

set_option warn.classDefReducibility false in
/-- The score buffer through loop 21. -/
@[sl_loop] def scanInv21 (E : Set ℕ) (X : BufTy.Contents (Elt F) arg12.view.ty) (v1 : Elt F .i32) (v3 : Elt F .i32) (v23 : BitVec 32) (k0_h1 : k0_cond1 v3 = 1#1) (v649 : IVec S64x128 32) (v665 : BitVec 32) (k0_hw5 : k0_chk5 v1 v3 v665) (c0_i32_378 : BitVec 32) (init : BitVec 32 × BitVec 32 × IVec S64x128 32 × FVec F S64x128 .f32) :
    Gen.LoopInvTy_k0_t21 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v649 v665 k0_hw5 c0_i32_378 init where
  inv := fun _ _ => arg12.view.loc (c : Thread nD τ) ↦[arg12.view.set]{fullShare} X
  step := fun k acc => by
    unfold Gen.k0_t21_body
    iintro H
    sl_exec
    sl_step
    iexact H

set_option warn.classDefReducibility false in
/-- The score buffer through loop 24. -/
@[sl_loop] def scanInv24 (E : Set ℕ) (X : BufTy.Contents (Elt F) arg12.view.ty) (v1 : Elt F .i32) (v3 : Elt F .i32) (v23 : BitVec 32) (k0_h1 : k0_cond1 v3 = 1#1) (v649 : IVec S64x128 32) (v665 : BitVec 32) (k0_hw5 : k0_chk5 v1 v3 v665) (v672 : BitVec 32) (init : BitVec 32 × BitVec 32 × IVec S64x128 32 × FVec F S64x128 .f32) :
    Gen.LoopInvTy_k0_t24 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v23 k0_h1 v649 v665 k0_hw5 v672 init where
  inv := fun _ _ => arg12.view.loc (c : Thread nD τ) ↦[arg12.view.set]{fullShare} X
  step := fun k acc => by
    unfold Gen.k0_t24_body
    iintro H
    sl_exec
    sl_step
    iexact H

end Cert.Proof.Kernel

end
-- ==== Proof.Run.lean ====
/- One grid point of the selected attention, run: the inputs are only read, the output and the scratch end at
   some contents. -/
module

public import proofs.«01_k».proof.Proof.Scan
public import proofs.«01_k».proof.Proof.Words
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The two tables as the body takes them: the query tile and the key tile of each point. -/
abbrev tabQ : Memref sig .tc .smem S1056 .i32 := Memref.whole main_c
abbrev tabK : Memref sig .tc .smem S1056 .i32 := Memref.whole main_c_0

/-- A table held, at half a share, at contents `f`. -/
abbrev tabPt (c : Dev nD) (M : Memref sig .tc .smem S1056 .i32) (f : Buf (Elt F) (M.view.loc (c : Thread nD τ))) : sProp 𝕄 :=
  M.view.loc (c : Thread nD τ) ↦{fullShare.right} f

set_option maxHeartbeats 8000000 in
theorem point_run (c : Dev nD) (i : grid0.Coords)
    (arg4 : Memref sig .tc .vmem S8x256x128 .bf16) (harg4 : arg4.IsWhole)
    (arg5 : Memref sig .tc .vmem S256x128 .f32) (harg5 : arg5.IsWhole)
    (arg6 : Memref sig .tc .vmem S2x16384x128 .bf16) (harg6 : arg6.IsWhole)
    (arg7 : Memref sig .tc .vmem S256x1024 .bf16) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S32x256x512 .i32) (harg12 : arg12.IsWhole)
    (arg13 : Memref sig .tc .vmem S2x256x128 .f32) (harg13 : arg13.IsWhole)
    (arg14 : Memref sig .tc .vmem S256x128 .i32) (harg14 : arg14.IsWhole)
    (arg15 : Memref sig .tc .vmem S256x512 .f32) (harg15 : arg15.IsWhole)
    (arg16 : Memref sig .tc .vmem S8x256x128 .f32) (harg16 : arg16.IsWhole)
    (arg17 : Memref sig .tc .vmem S8x256x128 .f32) (harg17 : arg17.IsWhole)
    (arg18 : Memref sig .tc .vmem S8x256x128 .f32) (harg18 : arg18.IsWhole)
    (x4 : Vec F S8x256x128 .bf16) (x5 : Vec F S256x128 .f32) (x6 : Vec F S2x16384x128 .bf16) (x7 : Vec F S256x1024 .bf16) (x8 : Vec F S512x1024 .bf16) (x9 : Vec F S512x1024 .bf16) (x10 : Vec F S256x1024 .bf16)
    (xq : Buf (Elt F) (tabQ.view.loc (c : Thread nD τ))) (xk : Buf (Elt F) (tabK.view.loc (c : Thread nD τ)))
    (hq : ∀ y, (xq y).toNat < 64) (hk : ∀ y, (xk y).toNat < 32)
    (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tabPt c tabQ xq ∗ tabPt c tabK xk
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tabPt c tabQ xq ∗ tabPt c tabK xk) -∗ K ⟨⟩))
      ⊢ wp frame (wpE (defs₀ (F := F)) Variants.none c none) E
          (cc0_attn_a i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_a_eq_skeleton]; unfold cc0_attn_a_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, HQ, HK, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := (first | with_reducible apply chk1_of | with_reducible apply chk2_of | with_reducible apply chk3_of | with_reducible apply chk4_of | with_reducible apply chk5_of) <;> first | exact hq _ | exact hk _)
  by_cases hc : k0_cond1 (point_run.sl.r_1 c i xk) = 1#1
  · sl_exec (disch := (first | with_reducible apply chk1_of | with_reducible apply chk2_of | with_reducible apply chk3_of | with_reducible apply chk4_of | with_reducible apply chk5_of) <;> first | exact hq _ | exact hk _)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HQ]; · iexact HQ
    iexact HK

  · sl_exec (disch := (first | with_reducible apply chk1_of | with_reducible apply chk2_of | with_reducible apply chk3_of | with_reducible apply chk4_of | with_reducible apply chk5_of) <;> first | exact hq _ | exact hk _)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HQ]; · iexact HQ
    iexact HK

end Cert.Proof.Kernel

end
-- ==== Proof.Frame.lean ====
/- The frame of the selected attention: the proof data of its one pipeline (inputs read only, the output forgotten),
   the body's obligation from one point's run, and the launch. -/
module

public import proofs.«01_k».proof.Proof.Tables
public import proofs.«01_k».proof.Proof.Run
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The schedule at the tables' contents. -/
abbrev adm : (pcfg0 (F := F)).Adm := ⟨tbl m, ok m⟩
abbrev cfgM : Pipeline.Cfg sig Λ₀ := cfg0 (adm m)

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem PhiT0_eq (c : Dev nD) :
    (Pipeline.ΦT pre0 (tbl m) c : sProp 𝕄) = iprop(tabPt c tabQ (tbl m 0) ∗ tabPt c tabK (tbl m 1)) := by
  unfold Pipeline.ΦT Pipeline.prefHeld
  rw [show (Finset.univ : Finset (Fin 2)) = insert (0 : Fin 2) {(1 : Fin 2)} from by decide,
    bigSep_insert (by decide), bigSep_singleton]
  rfl

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- The output's window is forgotten. -/
def forgets0 : Fin 8 → Bool := fun w => w.val == 7

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfgM m) ⟨7, h⟩ t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- The body at point `t`, on the buffers its windows are on. -/
abbrev bodyAt (t : Fin (cfgM m).N) : Prog (TpuEff nD τ sig (Elt F) Λ₀ .tc) PUnit :=
  cc0_attn_a (grid0.coords t) tabQ (Memref.isWhole_whole _) tabK (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d))
    ∗ (∃ d, owns (c : Thread nD τ) (spec0_2.stage ((cfgM m).slots t 2)) fullShare ((dats m 0 c).before 2 t d))
    ∗ (∃ d, owns (c : Thread nD τ) (spec0_3.stage ((cfgM m).slots t 3)) fullShare ((dats m 0 c).before 3 t d))
    ∗ (∃ d, owns (c : Thread nD τ) (spec0_4.stage ((cfgM m).slots t 4)) fullShare ((dats m 0 c).before 4 t d))
    ∗ (∃ d, owns (c : Thread nD τ) (spec0_5.stage ((cfgM m).slots t 5)) fullShare ((dats m 0 c).before 5 t d))
    ∗ (∃ d, owns (c : Thread nD τ) (spec0_6.stage ((cfgM m).slots t 6)) fullShare ((dats m 0 c).before 6 t d))
    ∗ (∃ d, owns (c : Thread nD τ) (spec0_7.stage ((cfgM m).slots t 7)) fullShare d))

def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t)
    ∗ owns (c : Thread nD τ) (spec0_2.stage ((cfgM m).slots t 2)) fullShare ((dats m 0 c).after 2 t)
    ∗ owns (c : Thread nD τ) (spec0_3.stage ((cfgM m).slots t 3)) fullShare ((dats m 0 c).after 3 t)
    ∗ owns (c : Thread nD τ) (spec0_4.stage ((cfgM m).slots t 4)) fullShare ((dats m 0 c).after 4 t)
    ∗ owns (c : Thread nD τ) (spec0_5.stage ((cfgM m).slots t 5)) fullShare ((dats m 0 c).after 5 t)
    ∗ owns (c : Thread nD τ) (spec0_6.stage ((cfgM m).slots t 6)) fullShare ((dats m 0 c).after 6 t)
    ∗ (∃ d, owns (c : Thread nD τ) (spec0_7.stage ((cfgM m).slots t 7)) fullShare d))

/-- The body at any point: its inputs hold their blocks, the invariant lends it the scratch and the tables. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (point_run c (grid0.coords t) _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (tbl m 0) (tbl m 1) (tbl_q m) (tbl_k m) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  isplitl [HT1]; · iexact HT1
  iintro ⟨H0, H1, H2, H3, H4, H5, H6, H7, HS0, HS1, HS2, HS3, HS4, HS5, HS6, HT0, HT1⟩
  isplitl [HS0 HS1 HS2 HS3 HS4 HS5 HS6 Hg HT0 HT1]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

set_option backward.isDefEq.respectTransparency.types false in
/-- The launch: every run ends, with the arrays that are only read as they were and every counter at zero. -/
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget_shared (Q' := _) pcfgs (fun _ => adm m) (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hpf := V_pre m) (hΦ := fun _ _ => rfl)

/-- The claim, at any float values: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_of_ne m c (r := main_arg0) (by decide))),
      (Pipeline.RDat.FramePost.arr_in h.1 c 1 rfl).trans ((A_eq m c 1).trans (V_of_ne m c (r := main_arg1) (by decide))),
      (Pipeline.RDat.FramePost.arr_in h.1 c 2 rfl).trans ((A_eq m c 2).trans (V_of_ne m c (r := main_arg2) (by decide))),
      (Pipeline.RDat.FramePost.arr_in h.1 c 3 rfl).trans ((A_eq m c 3).trans (V_of_ne m c (r := main_arg3) (by decide))),
      (Pipeline.RDat.FramePost.arr_in h.1 c 5 rfl).trans ((A_eq m c 5).trans (V_of_ne m c (r := main_arg4) (by decide)))⟩, h.2⟩)
    (run_main_quiescent m ρ)

end Cert.Proof.Kernel

end
-- ==== Proof.DiffTables.lean ====
/- The differential attention's launch state: what the host writes before the region (the two tables, and the row forms
   of the gain and the lambda vectors), the tables' words, and the side condition the schedule makes of them: every
   block that a table's word places lies inside its array. -/
module

public import proofs.«01_k».proof.Proof.Gen.Diff.Launch
public import proofs.«01_k».proof.Proof.Gen.Diff.Skeleton
public import Idealize.ShloMosaic.Lib.Pipeline.FrameBody
public import Idealize.ShloMosaic.Lib.StableHlo.RunRead
public import Idealize.ShloMosaic.Lib.Tactic

@[expose] public section

set_option maxRecDepth 16384

noncomputable section

namespace Cert.Proof.Diff

open Cert.Diff Cert.Diff.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- What the host does not write is as it was launched. -/
theorem V_of_ne (c : Dev nD) {r : Ref sig .tc} (hr : r ∉ [main_c, main_c_0, main_v0, main_v1, main_v2, main_v3, main_v4]) : V m c r = m ((c : Thread nD τ).loc r) :=
  StableHlo.after_of_writes_sub hostOps0 (fun b => m (c, b))
    (StableHlo.forall_writes_sub_of_map (W := [main_c, main_c_0, main_v0, main_v1, main_v2, main_v3, main_v4]) rfl) hr

theorem V_main_c (c : Dev nD) : V m c main_c = fun i => lit0 (S528.rowMajor i) :=
  (StableHlo.after_last_write (ops := hostOps0) (i := 0) [main_c_0, main_v0, main_v1, main_v2, main_v3, main_v4] (r := main_c) rfl rfl (by decide) (fun b => m (c, b))).trans (StableHlo.nullary_result' _ _ _)

theorem V_main_c_0 (c : Dev nD) : V m c main_c_0 = fun i => lit1 (S528.rowMajor i) :=
  (StableHlo.after_last_write (ops := hostOps0) (i := 1) [main_v0, main_v1, main_v2, main_v3, main_v4] (r := main_c_0) rfl rfl (by decide) (fun b => m (c, b))).trans (StableHlo.nullary_result' _ _ _)

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables' words. -/
theorem words_lt : ∀ n : Fin 528, (lit0 n).toNat < 32 ∧ (lit1 n).toNat < 32 := by decide +kernel

theorem tbl_0 : tbl m 0 = fun i => lit0 (S528.rowMajor i) := V_main_c m 0
theorem tbl_1 : tbl m 1 = fun i => lit1 (S528.rowMajor i) := V_main_c_0 m 0

theorem tbl_q (y : S528.Idx) : (show BitVec 32 from tbl m 0 y).toNat < 32 := by
  rw [tbl_0]; exact (words_lt _).1

theorem tbl_k (y : S528.Idx) : (show BitVec 32 from tbl m 1 y).toNat < 32 := by
  rw [tbl_1]; exact (words_lt _).2

/-- A block's row in units of its height: `b` of the batch's rows and `w` of the table's word. -/
theorem row_eq {b : Nat} (hb : b < 2) (w : BitVec 32) (hw : w.toNat < 32) :
    (Scalar.addi (Scalar.muli (BitVec.ofNat 32 b) (BitVec.ofNat 32 32)) w).toNat = b * 32 + w.toNat := by
  unfold Scalar.addi Scalar.muli IntOp.addi IntOp.muli
  rw [BitVec.toNat_add, BitVec.toNat_mul, BitVec.toNat_ofNat, BitVec.toNat_ofNat, Nat.mod_eq_of_lt (by omega : b < 2 ^ 32),
    Nat.mod_eq_of_lt (by omega : 32 < 2 ^ 32)]
  omega

/-- A block's column: the head after the columns before it. -/
theorem col_eq {j n : Nat} (hj : j < 4) (hn : n ≤ 12) :
    (Scalar.addi (BitVec.ofNat 32 n) (BitVec.ofNat 32 j)).toNat = n + j := by
  unfold Scalar.addi IntOp.addi
  rw [BitVec.toNat_add, BitVec.toNat_ofNat, BitVec.toNat_ofNat, Nat.mod_eq_of_lt (by omega : j < 2 ^ 32),
    Nat.mod_eq_of_lt (by omega : n < 2 ^ 32)]
  omega

theorem batch_lt (i : grid0.Coords) : (i 0).val < 2 := (i 0).isLt
theorem head_lt (i : grid0.Coords) : (i 1).val < 4 := (i 1).isLt

theorem block_inb {H W x j : Nat} (hH : H = 32768)
    (hW : (j + 1) * 256 ≤ W) (hx : x < 64) (a : Fin 2) :
    (![x, j] a + 1) * ![512, 256] a ≤ ![H, W] a :=
  match a with
  | ⟨0, _⟩ => (by subst hH; show (x + 1) * 512 ≤ 32768; omega)
  | ⟨1, _⟩ => hW

theorem row_lt {b : Nat} (hb : b < 2) (w : BitVec 32) (hw : w.toNat < 32) :
    (Scalar.addi (Scalar.muli (BitVec.ofNat 32 b) (BitVec.ofNat 32 32)) w).toNat < 64 := by
  rw [row_eq hb w hw]; omega

theorem col_ok {j n W : Nat} (hj : j < 4) (hn : n ≤ 12) (hW : (n + 4) * 256 ≤ W) :
    ((Scalar.addi (BitVec.ofNat 32 n) (BitVec.ofNat 32 j)).toNat + 1) * 256 ≤ W := by
  rw [col_eq hj hn]; exact (Nat.mul_le_mul_right 256 (by omega : n + j + 1 ≤ n + 4)).trans hW
theorem col_ok0 {j W : Nat} (hj : j < 4) (hW : 4 * 256 ≤ W) : ((BitVec.ofNat 32 j).toNat + 1) * 256 ≤ W := by
  rw [BitVec.toNat_ofNat, Nat.mod_eq_of_lt (by omega : j < 2 ^ 32)]; exact (Nat.mul_le_mul_right 256 (by omega : j + 1 ≤ 4)).trans hW

/-- Every block a table's word places lies inside its array and is whole words. -/
theorem ok : ok0 (F := F) (tbl m) := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · exact block_inb rfl (col_ok (head_lt i) (by decide) (by decide)) (row_lt (batch_lt i) _ (tbl_q m _)) a
  · exact block_inb rfl (col_ok (head_lt i) (by decide) (by decide)) (row_lt (batch_lt i) _ (tbl_k m _)) a
  · exact block_inb rfl (col_ok (head_lt i) (by decide) (by decide)) (row_lt (batch_lt i) _ (tbl_k m _)) a
  · exact block_inb rfl (col_ok (head_lt i) (by decide) (by decide)) (row_lt (batch_lt i) _ (tbl_q m _)) a
  · exact block_inb rfl (col_ok0 (head_lt i) (by decide)) (row_lt (batch_lt i) _ (tbl_q m _)) a

end Cert.Proof.Diff

end
-- ==== Proof.DiffRun.lean ====
/- One grid point of the differential attention, run. A point below the diagonal folds one key tile into the
   running maximum, sum and product; a point on the diagonal folds the masked tile and writes the output. Either
   may be the first of its row, where the three are first set. -/
module

public import proofs.«01_k».proof.Proof.Gen.Diff.Launch
public import proofs.«01_k».proof.Proof.Gen.Diff.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.Proof.Diff

open Cert.Diff Cert.Diff.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables as the body takes them: the query tile and the key tile of each point. -/
abbrev tabQ : Memref sig .tc .smem S528 .i32 := Memref.whole main_c
abbrev tabK : Memref sig .tc .smem S528 .i32 := Memref.whole main_c_0

/-- A table held, at half a share, at contents `f`. -/
abbrev tabPt (c : Dev nD) (M : Memref sig .tc .smem S528 .i32) (f : Buf (Elt F) (M.view.loc (c : Thread nD τ))) : sProp 𝕄 :=
  M.view.loc (c : Thread nD τ) ↦{fullShare.right} f

set_option maxHeartbeats 8000000 in
/-- A point's run: the inputs stay, the scratch and the output end at what the point's words say. -/
theorem point_run (c : Dev nD) (i : grid0.Coords)
    (arg5 : Memref sig .tc .vmem S512x256 .bf16) (harg5 : arg5.IsWhole)
    (arg6 : Memref sig .tc .vmem S512x256 .bf16) (harg6 : arg6.IsWhole)
    (arg7 : Memref sig .tc .vmem S512x256 .bf16) (harg7 : arg7.IsWhole)
    (arg8 : Memref sig .tc .vmem S512x256 .bf16) (harg8 : arg8.IsWhole)
    (arg9 : Memref sig .tc .vmem S1x256 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S512x256 .bf16) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x512x256 .f32) (harg17 : arg17.IsWhole)
    (x5 : Vec F S512x256 .bf16) (x6 : Vec F S512x256 .bf16) (x7 : Vec F S512x256 .bf16) (x8 : Vec F S512x256 .bf16) (x9 : Vec F S1x256 .f32) (x10 : Vec F S1x128 .f32) (x11 : Vec F S1x128 .f32) (x12 : Vec F S1x128 .f32) (x13 : Vec F S1x128 .f32) (x14 : Vec F S512x256 .bf16) (x15 : Vec F S2x512x128 .f32) (x16 : Vec F S2x512x128 .f32) (x17 : Vec F S2x512x256 .f32)
    (xq : Vec F S528 .i32) (xk : Vec F S528 .i32)
    (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ tabPt c tabQ xq ∗ tabPt c tabK xk
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tabPt c tabQ xq ∗ tabPt c tabK xk) -∗ K ⟨⟩))
      ⊢ wp frame (wpE (defs₀ (F := F)) Variants.none c none) E
          (cc0_attn_b i tabQ (Memref.isWhole_whole _) tabK (Memref.isWhole_whole _) arg5 harg5 arg6 harg6 arg7 harg7 arg8 harg8 arg9 harg9 arg10 harg10 arg11 harg11 arg12 harg12 arg13 harg13 arg14 harg14 arg15 harg15 arg16 harg16 arg17 harg17) K := by
  simp only [cc0_attn_b_eq_skeleton]; unfold cc0_attn_b_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, HQ, HK, Hk⟩
  obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact harg10.read_unread x10
    iexact H10
  isplitl [H11]
  · iexists _; isplitr; · ipureintro; exact harg11.read_unread x11
    iexact H11
  isplitl [H12]
  · iexists _; isplitr; · ipureintro; exact harg12.read_unread x12
    iexact H12
  isplitl [H13]
  · iexists _; isplitr; · ipureintro; exact harg13.read_unread x13
    iexact H13
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [HQ]; · iexact HQ
  iexact HK

end Cert.Proof.Diff

end
-- ==== Proof.DiffFrame.lean ====
/- The frame of the differential attention: the proof data of its one pipeline, the body's obligation from one point's
   run, and the launch. -/
module

public import proofs.«01_k».proof.Proof.DiffTables
public import proofs.«01_k».proof.Proof.DiffRun
public import Idealize.ShloMosaic.Lib.Pipeline.DatRel
public import Idealize.ShloMosaic.Lib.Claim

@[expose] public section

set_option maxRecDepth 16384

noncomputable section

namespace Cert.Proof.Diff

open Cert.Diff Cert.Diff.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The schedule at the tables' contents. -/
abbrev adm : (pcfg0 (F := F)).Adm := ⟨tbl m, ok m⟩
abbrev cfgM : Pipeline.Cfg sig Λ₀ := cfg0 (adm m)

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem PhiT0_eq (c : Dev nD) :
    (Pipeline.ΦT pre0 (tbl m) c : sProp 𝕄) = iprop(tabPt c tabQ (tbl m 0) ∗ tabPt c tabK (tbl m 1)) := by
  unfold Pipeline.ΦT Pipeline.prefHeld
  rw [show (Finset.univ : Finset (Fin 2)) = insert (0 : Fin 2) {(1 : Fin 2)} from by decide,
    bigSep_insert (by decide), bigSep_singleton]
  rfl

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The output's window is not named. -/
def forgets0 : Fin 10 → Bool := fun w => w.val == 9

def dats  (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfgM m) ⟨9, h⟩ t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = iblk m c 8 t := by dsimp only [dats]; try rfl
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin (cfgM m).N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-- The body at point `t`, on the buffers its windows are on. -/
abbrev bodyAt (t : Fin (cfgM m).N) : Prog (TpuEff nD τ sig (Elt F) Λ₀ .tc) PUnit :=
  cc0_attn_b (grid0.coords t) tabQ (Memref.isWhole_whole _) tabK (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (Memref.whole cc0_scratch0) (Memref.isWhole_whole _) (Memref.whole cc0_scratch1) (Memref.isWhole_whole _) (Memref.whole cc0_scratch2) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d))
    ∗ (∃ d, owns (c : Thread nD τ) (spec0_2.stage ((cfgM m).slots t 2)) fullShare ((dats m 0 c).before 2 t d))
    ∗ (∃ d, owns (c : Thread nD τ) (spec0_3.stage ((cfgM m).slots t 3)) fullShare ((dats m 0 c).before 3 t d))
    ∗ (∃ d, owns (c : Thread nD τ) (spec0_4.stage ((cfgM m).slots t 4)) fullShare ((dats m 0 c).before 4 t d))
    ∗ (∃ d, owns (c : Thread nD τ) (spec0_5.stage ((cfgM m).slots t 5)) fullShare ((dats m 0 c).before 5 t d))
    ∗ (∃ d, owns (c : Thread nD τ) (spec0_6.stage ((cfgM m).slots t 6)) fullShare ((dats m 0 c).before 6 t d))
    ∗ (∃ d, owns (c : Thread nD τ) (spec0_7.stage ((cfgM m).slots t 7)) fullShare ((dats m 0 c).before 7 t d))
    ∗ (∃ d, owns (c : Thread nD τ) (spec0_8.stage ((cfgM m).slots t 8)) fullShare ((dats m 0 c).before 8 t d))
    ∗ (∃ d, owns (c : Thread nD τ) (spec0_9.stage ((cfgM m).slots t 9)) fullShare d))

def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t)
    ∗ owns (c : Thread nD τ) (spec0_2.stage ((cfgM m).slots t 2)) fullShare ((dats m 0 c).after 2 t)
    ∗ owns (c : Thread nD τ) (spec0_3.stage ((cfgM m).slots t 3)) fullShare ((dats m 0 c).after 3 t)
    ∗ owns (c : Thread nD τ) (spec0_4.stage ((cfgM m).slots t 4)) fullShare ((dats m 0 c).after 4 t)
    ∗ owns (c : Thread nD τ) (spec0_5.stage ((cfgM m).slots t 5)) fullShare ((dats m 0 c).after 5 t)
    ∗ owns (c : Thread nD τ) (spec0_6.stage ((cfgM m).slots t 6)) fullShare ((dats m 0 c).after 6 t)
    ∗ owns (c : Thread nD τ) (spec0_7.stage ((cfgM m).slots t 7)) fullShare ((dats m 0 c).after 7 t)
    ∗ owns (c : Thread nD τ) (spec0_8.stage ((cfgM m).slots t 8)) fullShare ((dats m 0 c).after 8 t)
    ∗ (∃ d, owns (c : Thread nD τ) (spec0_9.stage ((cfgM m).slots t 9)) fullShare d))

/-- The body at any point: its inputs hold their blocks, the invariant lends it the scratch and the tables. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.succ = (dats m 0 c).Φ t.castSucc from rfl]
  rw [show (dats m 0 c).Φ t.castSucc = iprop(Pipeline.ΦA spec0 c ∗ Pipeline.ΦT pre0 (tbl m) c) from rfl, PhiT0_eq, PhiA0_eq]
  iintro ⟨⟨⟨⟨⟨%s0, HS0⟩, ⟨%s1, HS1⟩, ⟨%s2, HS2⟩⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point_run c (grid0.coords t) _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) d9 s0 s1 s2 (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, H7, H8, H9, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

set_option backward.isDefEq.respectTransparency.types false in
/-- The launch: every run ends, with the arrays that are only read as they were and every counter at zero. -/
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget_shared (Q' := _) pcfgs (fun _ => adm m) (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hpf := V_pre m) (hΦ := fun _ _ => rfl)

/-- The claim, at any float values: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_of_ne m c (r := main_arg0) (by decide))),
      (Pipeline.RDat.FramePost.arr_in h.1 c 2 rfl).trans ((A_eq m c 2).trans (V_of_ne m c (r := main_arg1) (by decide))),
      ((h.1 c).2 main_arg2 (show main_arg2 ∈ Pipeline.restRefs sig spec0 from Pipeline.mem_restRefs_of main_arg2 (by decide) (by decide))).trans (V_of_ne m c (r := main_arg2) (by decide)),
      ((h.1 c).2 main_arg3 (show main_arg3 ∈ Pipeline.restRefs sig spec0 from Pipeline.mem_restRefs_of main_arg3 (by decide) (by decide))).trans (V_of_ne m c (r := main_arg3) (by decide)),
      ((h.1 c).2 main_arg4 (show main_arg4 ∈ Pipeline.restRefs sig spec0 from Pipeline.mem_restRefs_of main_arg4 (by decide) (by decide))).trans (V_of_ne m c (r := main_arg4) (by decide)),
      ((h.1 c).2 main_arg5 (show main_arg5 ∈ Pipeline.restRefs sig spec0 from Pipeline.mem_restRefs_of main_arg5 (by decide) (by decide))).trans (V_of_ne m c (r := main_arg5) (by decide)),
      ((h.1 c).2 main_arg6 (show main_arg6 ∈ Pipeline.restRefs sig spec0 from Pipeline.mem_restRefs_of main_arg6 (by decide) (by decide))).trans (V_of_ne m c (r := main_arg6) (by decide))⟩, h.2⟩)
    (run_main_quiescent m ρ)

end Cert.Proof.Diff

end
-- ==== Proof.NormValue.lean ====
/- The norm before the projections at the ideal instance: each row over the root of its mean square, times the gain. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.ValueIdx
public import Idealize.ShloMosaic.Lib.KernelVsHost
public import Idealize.ShloMosaic.Lib.IdealHost

@[expose] public section

noncomputable section

namespace Cert.Proof.NormValue

open Cert.NormIdeal Cert.NormIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The norm's factor of a row. -/
def nrm (x : Fin 2048 → EReal) : EReal :=
  Ideal.rsqrt (Ideal.div (∑ k : Fin 2048, x k * x k) (Ideal.ofBits .f32 0x45000000#32) + Ideal.ofBits .f32 0x358637BD#32)

/-- The whole array. -/
def G (x0 : S32768x2048.Idx → EReal) (x1 : S2048.Idx → EReal) : S32768x2048.Idx → EReal :=
  fun i => x0 i * nrm (fun k => x0 (ix2 (i 0) k)) * x1 (ix1 (i 1))

/-- Which block each window holds at a point. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- The gain as the region finds it, a row of one. -/
theorem V_v0 (c : Dev nD) (k : Fin 2048) : (V m c main_v0 : S1x2048.Idx → EReal) (ix2 (0 : Fin 1) k) = (m ((c : Thread nD τ).loc main_arg1) : S2048.Idx → EReal) (ix1 k) := by
  have h : @Eq (FVec Ideal S1x2048 .f32) (V m c main_v0)
      (broadcastInDim S1x2048 ![1] bcast_S2048_S1x2048_1 (m ((c : Thread nD τ).loc main_arg1) : FVec Ideal S2048 .f32)) := by
    show StableHlo.after hostOps0 _ _ = _
    after_results
  rw [h]
  exact broadcastInDim_apply _ bcast_S2048_S1x2048_1 _ _ (ix1 k) (fun a => match a with
    | ⟨0, _⟩ => by show k.val = if (2048 : Nat) = 1 then 0 else k.val; rw [if_neg (by decide)])

theorem lift_eq (r : Fin 512) (k : Fin 2048) : reduces_S512x2048_S512.lift (ix1 r) k = ix2 r k := by
  funext a; apply Fin.ext
  match a with
  | ⟨0, _⟩ => rfl
  | ⟨1, _⟩ => rfl

/-- Each row's sum. -/
def rowSm (X : FVec Ideal S512x2048 .f32) : FVec Ideal S512 .f32 := multiReduction .add [1] S512 X 0x00000000#32 reduces_S512x2048_S512 (.inl rfl) rfl

theorem rowSm_apply (X : FVec Ideal S512x2048 .f32) (r : Fin 512) : rowSm X (ix1 r) = ∑ k : Fin 2048, X (ix2 r k) :=
  (Ideal.multiReduction_add_single X 0x00000000#32 reduces_S512x2048_S512 (.inl rfl) rfl (ix1 r)).trans
    (Finset.sum_congr rfl fun k _ => congrArg X (lift_eq r k))

/-- An entry from the row's sum. -/
def entry (a s g : EReal) : EReal := a * Ideal.rsqrt (Ideal.div s (Ideal.ofBits .f32 0x45000000#32) + Ideal.ofBits .f32 0x358637BD#32) * g

theorem e2_eq (x0 : FVec Ideal S512x2048 .f32) (x1 : FVec Ideal S1x2048 .f32) (y : S512x2048.Idx) :
    (Value.E2 (F := Ideal) x0 x1 y : EReal) = entry (x0 (Value.ix2_0 y)) (rowSm (mulf x0 x0) (Value.ix2_1 y)) (x1 (Value.ix2_2 y)) := by
  unfold rowSm Value.E2
  generalize multiReduction .add [1] S512 (mulf x0 x0) 0x00000000#32 reduces_S512x2048_S512 (.inl rfl) rfl = Y
  rfl

theorem out_apply (x0 : Vec Ideal S512x2048 .f32) (x1 : Vec Ideal S1x2048 .f32) (r : Fin 512) (c : Fin 2048) :
    out0_2 x0 x1 (ix2 r c) = x0 (ix2 r c) * nrm (fun k => x0 (ix2 r k)) * x1 (ix2 (0 : Fin 1) c) := by
  have hz : (![0, 0] : Fin 2 → Nat) = fun _ => 0 := by funext a; fin_cases a <;> rfl
  unfold out0_2
  refine (Value.canon2_eq (View.ld x0 r0_0) (View.ld x1 r0_1) (ix2 r c)).trans ?_
  rw [View.ld_unit_zero (S := S512x2048) hz, View.ld_unit_zero (S := S1x2048) hz]
  have e0 : Value.ix2_0 (ix2 r c) = ix2 r c := Shape.idx_ext₂ rfl rfl
  have e1 : Value.ix2_1 (ix2 r c) = ix1 r := by
    funext a
    match a with
    | ⟨0, _⟩ => rfl
  have e2 : Value.ix2_2 (ix2 r c) = ix2 (0 : Fin 1) c := Shape.idx_ext₂ rfl rfl
  refine (e2_eq x0 x1 (ix2 r c)).trans ?_
  rw [e0, e1, e2, rowSm_apply]
  rfl

/-- What a point writes back is its block of the array. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx_facts t
  rw [Value.flushed2]
  funext y
  obtain ⟨r, q, rfl⟩ : ∃ (r : Fin 512) (q : Fin 2048), y = ix2 r q := ⟨y 0, y 1, eq_ix2 (n0 := 512) (n1 := 2048) y⟩
  refine (out_apply (iblk m c 0 t) (iblk m c 1 t) r q).trans ?_
  have hr : (((win0_2.rect t).emb (ix2 r q)) 0 : ℕ) = t.val * 512 + r := by rw [win0_2.rect_emb_val t (ix2 r q) 0, h20]; rfl
  have hq : (((win0_2.rect t).emb (ix2 r q)) 1 : ℕ) = q := by rw [win0_2.rect_emb_val t (ix2 r q) 1, h21]; show 0 * 2048 + q.val = q.val; omega
  show _ = G _ _ ((win0_2.rect t).emb (ix2 r q))
  unfold G
  have e0 (k : Fin 2048) : iblk m c 0 t (ix2 r k) = (m ((c : Thread nD τ).loc main_arg0) : S32768x2048.Idx → EReal) (ix2 (((win0_2.rect t).emb (ix2 r q)) 0) k) := by
    show (V m c main_arg0 : S32768x2048.Idx → EReal) ((win0_0.rect t).emb (ix2 r k)) = _
    rw [V_main_arg0]
    refine congrArg _ (Shape.idx_ext₂ ?_ ?_)
    · rw [win0_0.rect_emb_val t (ix2 r k) 0, h00]; exact hr.symm
    · rw [win0_0.rect_emb_val t (ix2 r k) 1, h01]; show 0 * 2048 + k.val = k.val; omega
  have e1 : iblk m c 1 t (ix2 (0 : Fin 1) q) = (m ((c : Thread nD τ).loc main_arg1) : S2048.Idx → EReal) (ix1 (((win0_2.rect t).emb (ix2 r q)) 1)) := by
    show (V m c main_v0 : S1x2048.Idx → EReal) ((win0_1.rect t).emb (ix2 (0 : Fin 1) q)) = _
    have e : (win0_1.rect t).emb (ix2 (0 : Fin 1) q) = ix2 (0 : Fin 1) (((win0_2.rect t).emb (ix2 r q)) 1) := by
      refine Shape.idx_ext₂ ?_ ?_
      · rw [win0_1.rect_emb_val t (ix2 (0 : Fin 1) q) 0, h10]; rfl
      · rw [win0_1.rect_emb_val t (ix2 (0 : Fin 1) q) 1, h11]; refine Eq.trans ?_ hq.symm; show 0 * 2048 + q.val = q.val; omega
    exact (congrArg (V m c main_v0 : S1x2048.Idx → EReal) e).trans (V_v0 m c _)
  have e2 : ix2 (((win0_2.rect t).emb (ix2 r q)) 0) q = ((win0_2.rect t).emb (ix2 r q) : S32768x2048.Idx) := Shape.idx_ext₂ rfl hq.symm
  refine congrArg₂ (fun a b : EReal => a * b) (congrArg₂ (fun a b : EReal => a * b) ((e0 q).trans (congrArg _ e2)) (congrArg nrm (funext e0))) e1

/-- The blocks fill the array. -/
theorem cover (i : S32768x2048.Idx) : ∃ t : Fin cfg0.N, (cfg0.win 2).flush t = true ∧ i ∈ ((cfg0.win 2).blk t).view.set := by
  have b0 : (i 0).val < 32768 := (i 0).isLt
  have b1 : (i 1).val < 2048 := (i 1).isLt
  let t : Fin cfg0.N := ⟨(i 0).val / 512, by rw [show cfg0.N = 64 from N_0]; omega⟩
  obtain ⟨-, -, -, -, h20, h21⟩ := idx_facts t
  refine ⟨t, flush0_2 t, ?_⟩
  have e : (win0_2.rect t).emb (ix2 (⟨(i 0).val % 512, Nat.mod_lt _ (by omega)⟩ : Fin 512) (⟨(i 1).val, b1⟩ : Fin 2048)) = i := by
    refine Shape.idx_ext₂ ?_ ?_
    · rw [win0_2.rect_emb_val t _ 0, h20]
      show (i 0).val / 512 * 512 + (i 0).val % 512 = (i 0).val
      omega
    · rw [win0_2.rect_emb_val t _ 1, h21]
      show 0 * 2048 + (i 1).val = (i 1).val
      omega
  rw [← e]
  exact ((cfg0.win 2).blk t).view.emb_mem_set _

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

open Cert.NormRefIdeal.Read in
/-- The reference's array is the same. -/
theorem ref_eq (x0 : S32768x2048.Idx → EReal) (x1 : S2048.Idx → EReal) : val_main_v13 (F := Ideal) x0 x1 = G x0 x1 := by
  funext i
  rw [val_main_v13_apply, val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply]
  have e (k : Fin 2048) : idx_main_v1 (idx_main_v2 (idx_main_v8 i)) k = ix2 (i 0) k := Shape.idx_ext₂ rfl rfl
  simp only [val_main_v0_apply, e]
  show x0 i * Ideal.rsqrt (Ideal.div (Ideal.ofBits .f32 0x00000000#32 + ∑ k : Fin 2048, _ * _) (Ideal.ofBits .f32 0x45000000#32) + Ideal.ofBits .f32 0x358637BD#32) * x1 _ = _
  rw [Ideal.ofBits_zero_f32, (zero_add : ∀ a : EReal, 0 + a = a)]
  unfold G nrm
  refine congrArg₂ (fun a b : EReal => a * b) rfl (congrArg x1 ?_)
  funext a
  match a with
  | ⟨0, _⟩ => rfl

theorem algebraic [hNormIdeal : Cert.NormIdeal.Facts] [hNormRefIdeal : Cert.NormRefIdeal.Facts] : Cert.algebraic_NormIdeal_NormRefIdeal := by
  intro m g m' g' _ hag
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.NormRefIdeal.Value.run m' g')
    obtain ⟨a0, a1⟩ := hag c
    rw [a0, a1]
    exact (Cert.NormRefIdeal.Read.val_main_v13_eq _ _).trans (ref_eq _ _)

end Cert.Proof.NormValue

end
-- ==== Proof.VgValue.lean ====
/- The projection of values and gates at the ideal instance: the product with the chosen columns of the weights, then nothing, silu or the logistic by column. -/
module

public import proofs.«01_k».proof.Defs
public import proofs.«01_k».proof.Proof.Gen.Vg.Frame
public import proofs.«01_k».proof.Proof.Gen.VgIdeal.Value
public import proofs.«01_k».proof.Proof.Gen.VgRefIdeal.Run
public import proofs.«01_k».proof.Proof.Gen.VgRefIdeal.Read
public import Idealize.ShloMosaic.Lib.MatmulPlain
public import Idealize.ShloMosaic.Lib.ValueIdx
public import Idealize.ShloMosaic.Lib.IdealHost

@[expose] public section

noncomputable section

namespace Cert.Proof.VgValue

open Cert.VgIdeal Cert.VgIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The weights' column that output column `n` takes. -/
def src (n : Fin 8192) : Fin 13392 :=
  ⟨if n.val < 1024 then 2048 + n.val else if n.val < 2048 then 7248 + (n.val - 1024) else if n.val < 3072 then 3072 + (n.val - 2048)
    else if n.val < 4096 then 8272 + (n.val - 3072) else if n.val < 6144 then 9296 + (n.val - 4096) else 11344 + (n.val - 6144), by
    have := n.isLt; split_ifs <;> omega⟩

/-- What is done to column `n` after the product. -/
def act (n : ℕ) (x : EReal) : EReal := if n < 2048 then x else if n < 4096 then x * Ideal.logistic x else Ideal.logistic x

/-- The whole array. -/
def G (x0 : S32768x2048.Idx → EReal) (x1 : S2048x13392.Idx → EReal) : S32768x8192.Idx → EReal :=
  fun i => act (i 1).val (∑ k : Fin 2048, x0 (ix2 (i 0) k) * x1 (ix2 k (src (i 1))))

/-- Which block each window holds at a point. -/
theorem idx_facts : ∀ t : Fin cfg0.N,
    (win0_0.index t 0 = t.val / 32 ∧ win0_0.index t 1 = 0) ∧ (win0_1.index t 0 = 0 ∧ win0_1.index t 1 = t.val % 32)
    ∧ (win0_2.index t 0 = t.val / 32 ∧ win0_2.index t 1 = t.val % 32) :=
  (by decide +kernel : ∀ t : Fin grid0.N, _)

/-- The weights' columns side by side, as the region finds them. -/
def W (w : FVec Ideal S2048x13392 .f32) : FVec Ideal S2048x8192 .f32 :=
  concatenate S2048x8192 1 [⟨S2048x1024, extractStridedSlice S2048x1024 ![0, 2048] w slices_S2048x13392_S2048x1024_0_2048⟩,
    ⟨S2048x1024, extractStridedSlice S2048x1024 ![0, 7248] w slices_S2048x13392_S2048x1024_0_7248⟩,
    ⟨S2048x1024, extractStridedSlice S2048x1024 ![0, 3072] w slices_S2048x13392_S2048x1024_0_3072⟩,
    ⟨S2048x1024, extractStridedSlice S2048x1024 ![0, 8272] w slices_S2048x13392_S2048x1024_0_8272⟩,
    ⟨S2048x2048, extractStridedSlice S2048x2048 ![0, 9296] w slices_S2048x13392_S2048x2048_0_9296⟩,
    ⟨S2048x2048, extractStridedSlice S2048x2048 ![0, 11344] w slices_S2048x13392_S2048x2048_0_11344⟩]
    concatenates_S2048x1024_S2048x1024_S2048x1024_S2048x1024_S2048x2048_S2048x2048_S2048x8192_d1

theorem hoff {K n : ℕ} (r : Fin K) (j : Fin n) (j' : Fin 8192) (b : Fin 2) (hb : b ≠ 1) : ((ix2 r j : Shape.Idx ⟨2, ![K, n]⟩) b).val = ((ix2 r j' : Shape.Idx ⟨2, ![K, 8192]⟩) b).val := by
  match b, hb with
  | ⟨0, _⟩, _ => rfl
  | ⟨1, _⟩, h => exact absurd rfl h

theorem W_apply (w : FVec Ideal S2048x13392 .f32) (r : Fin 2048) (j : Fin 8192) : W w (ix2 r j) = w (ix2 r (src j)) := by
  have hj := j.isLt
  unfold W
  by_cases h0 : j.val < 1024
  · refine (concatenate_apply_piece (t := S2048x8192) 1 _ _ (ix2 r j) 0 (by show 0 < 6; omega) S2048x1024 _ rfl rfl 0 (by show 0 = 0; omega) (ix2 r (⟨j.val - 0, by omega⟩ : Fin 1024)) (hoff (n := 1024) _ _ _) (by show 0 + (j.val - 0) = j.val; omega)).trans ?_
    refine (extractStridedSlice_apply _ _ _ _ (ix2 r (src j)) (fun a => ?_)).trans rfl
    match a with
    | ⟨0, _⟩ => show r.val = 0 + r.val; omega
    | ⟨1, _⟩ => show (src j).val = 2048 + (j.val - 0); unfold src; dsimp only; split_ifs <;> omega
  · by_cases h1 : j.val < 2048
    · refine (concatenate_apply_piece (t := S2048x8192) 1 _ _ (ix2 r j) 1 (by show 1 < 6; omega) S2048x1024 _ rfl rfl 1024 (by show (1024 + 0) = 1024; omega) (ix2 r (⟨j.val - 1024, by omega⟩ : Fin 1024)) (hoff (n := 1024) _ _ _) (by show 1024 + (j.val - 1024) = j.val; omega)).trans ?_
      refine (extractStridedSlice_apply _ _ _ _ (ix2 r (src j)) (fun a => ?_)).trans rfl
      match a with
      | ⟨0, _⟩ => show r.val = 0 + r.val; omega
      | ⟨1, _⟩ => show (src j).val = 7248 + (j.val - 1024); unfold src; dsimp only; split_ifs <;> omega
    · by_cases h2 : j.val < 3072
      · refine (concatenate_apply_piece (t := S2048x8192) 1 _ _ (ix2 r j) 2 (by show 2 < 6; omega) S2048x1024 _ rfl rfl 2048 (by show (1024 + (1024 + 0)) = 2048; omega) (ix2 r (⟨j.val - 2048, by omega⟩ : Fin 1024)) (hoff (n := 1024) _ _ _) (by show 2048 + (j.val - 2048) = j.val; omega)).trans ?_
        refine (extractStridedSlice_apply _ _ _ _ (ix2 r (src j)) (fun a => ?_)).trans rfl
        match a with
        | ⟨0, _⟩ => show r.val = 0 + r.val; omega
        | ⟨1, _⟩ => show (src j).val = 3072 + (j.val - 2048); unfold src; dsimp only; split_ifs <;> omega
      · by_cases h3 : j.val < 4096
        · refine (concatenate_apply_piece (t := S2048x8192) 1 _ _ (ix2 r j) 3 (by show 3 < 6; omega) S2048x1024 _ rfl rfl 3072 (by show (1024 + (1024 + (1024 + 0))) = 3072; omega) (ix2 r (⟨j.val - 3072, by omega⟩ : Fin 1024)) (hoff (n := 1024) _ _ _) (by show 3072 + (j.val - 3072) = j.val; omega)).trans ?_
          refine (extractStridedSlice_apply _ _ _ _ (ix2 r (src j)) (fun a => ?_)).trans rfl
          match a with
          | ⟨0, _⟩ => show r.val = 0 + r.val; omega
          | ⟨1, _⟩ => show (src j).val = 8272 + (j.val - 3072); unfold src; dsimp only; split_ifs <;> omega
        · by_cases h4 : j.val < 6144
          · refine (concatenate_apply_piece (t := S2048x8192) 1 _ _ (ix2 r j) 4 (by show 4 < 6; omega) S2048x2048 _ rfl rfl 4096 (by show (1024 + (1024 + (1024 + (1024 + 0)))) = 4096; omega) (ix2 r (⟨j.val - 4096, by omega⟩ : Fin 2048)) (hoff (n := 2048) _ _ _) (by show 4096 + (j.val - 4096) = j.val; omega)).trans ?_
            refine (extractStridedSlice_apply _ _ _ _ (ix2 r (src j)) (fun a => ?_)).trans rfl
            match a with
            | ⟨0, _⟩ => show r.val = 0 + r.val; omega
            | ⟨1, _⟩ => show (src j).val = 9296 + (j.val - 4096); unfold src; dsimp only; split_ifs <;> omega
          · refine (concatenate_apply_piece (t := S2048x8192) 1 _ _ (ix2 r j) 5 (by show 5 < 6; omega) S2048x2048 _ rfl rfl 6144 (by show (1024 + (1024 + (1024 + (1024 + (2048 + 0))))) = 6144; omega) (ix2 r (⟨j.val - 6144, by omega⟩ : Fin 2048)) (hoff (n := 2048) _ _ _) (by show 6144 + (j.val - 6144) = j.val; omega)).trans ?_
            refine (extractStridedSlice_apply _ _ _ _ (ix2 r (src j)) (fun a => ?_)).trans rfl
            match a with
            | ⟨0, _⟩ => show r.val = 0 + r.val; omega
            | ⟨1, _⟩ => show (src j).val = 11344 + (j.val - 6144); unfold src; dsimp only; split_ifs <;> omega

theorem V_v7 (c : Dev nD) : (V m c main_v7 : S2048x8192.Idx → EReal) = W (m ((c : Thread nD τ).loc main_arg1)) := by
  have h : @Eq (FVec Ideal S2048x8192 .bf16) (V m c main_v7)
      (truncf .bf16 (W (m ((c : Thread nD τ).loc main_arg1))) bitsLt_bf16_f32) := by
    show StableHlo.after hostOps0 _ _ = _
    after_results
    rfl
  rw [h]; rfl

theorem pay1_apply (v0 : Vec Ideal S1024x2048 .bf16) (v1 : Vec Ideal S2048x256 .bf16) (r : Fin 1024) (c : Fin 256) :
    k0_pay1 v0 v1 (ix2 r c) = ∑ k : Fin 2048, v0 (ix2 r k) * v1 (ix2 k c) := by
  unfold k0_pay1
  rw [shapeCast_self]
  refine (Ideal.matmul_plain_apply (M := 1024) (K := 2048) (N := 256) none _ _ _ r c).trans ?_
  rw [constant_apply, Ideal.ofBits_zero_f32, zero_add]

theorem hz : (![0, 0] : Fin 2 → Nat) = fun _ => 0 := by funext a; fin_cases a <;> rfl

theorem out_A (c : Dev nD) (i : grid0.Coords) (arg2 : Memref sig .tc .vmem S1024x2048 .bf16) (harg2 : arg2.IsWhole) (arg3 : Memref sig .tc .vmem S2048x256 .bf16) (harg3 : arg3.IsWhole)
    (arg4 : Memref sig .tc .vmem S1024x256 .bf16) (harg4 : arg4.IsWhole) (hc0 : cond0_0 i) (hc1 : ¬cond0_1 i) (hc2 : ¬cond0_2 i) (x0 : Vec Ideal S1024x2048 .bf16) (x1 : Vec Ideal S2048x256 .bf16) (y : S1024x256.Idx) :
    out0_A_2 c i arg2 harg2 arg3 harg3 arg4 harg4 hc0 hc1 hc2 x0 x1 y = k0_pay1 x0 x1 y := by
  unfold out0_A_2
  rw [View.read_writes_eq_canon _ _ _ (cover0_A_2 c i arg2 harg2 arg3 harg3 arg4 harg4 hc0 hc1 hc2 x0 x1)]
  unfold kernelRun0_A
  dsimp only
  sl_unfold_words
  simp only [View.readAt_eq_ld, harg2.read_unread, harg3.read_unread]
  rw [View.canon_unit_zero hz, View.ld_unit_zero (S := S1024x2048) hz, View.ld_unit_zero (S := S2048x256) hz]
  rfl

theorem out_B (c : Dev nD) (i : grid0.Coords) (arg2 : Memref sig .tc .vmem S1024x2048 .bf16) (harg2 : arg2.IsWhole) (arg3 : Memref sig .tc .vmem S2048x256 .bf16) (harg3 : arg3.IsWhole)
    (arg4 : Memref sig .tc .vmem S1024x256 .bf16) (harg4 : arg4.IsWhole) (hc0 : ¬cond0_0 i) (hc1 : cond0_1 i) (hc2 : ¬cond0_2 i) (x0 : Vec Ideal S1024x2048 .bf16) (x1 : Vec Ideal S2048x256 .bf16) (y : S1024x256.Idx) :
    out0_B_2 c i arg2 harg2 arg3 harg3 arg4 harg4 hc0 hc1 hc2 x0 x1 y = k0_pay1 x0 x1 y * Ideal.logistic (k0_pay1 x0 x1 y) := by
  unfold out0_B_2
  rw [View.read_writes_eq_canon _ _ _ (cover0_B_2 c i arg2 harg2 arg3 harg3 arg4 harg4 hc0 hc1 hc2 x0 x1)]
  unfold kernelRun0_B
  dsimp only
  sl_unfold_words
  simp only [View.readAt_eq_ld, harg2.read_unread, harg3.read_unread]
  rw [View.canon_unit_zero hz, View.ld_unit_zero (S := S1024x2048) hz, View.ld_unit_zero (S := S2048x256) hz]
  rfl

theorem out_C (c : Dev nD) (i : grid0.Coords) (arg2 : Memref sig .tc .vmem S1024x2048 .bf16) (harg2 : arg2.IsWhole) (arg3 : Memref sig .tc .vmem S2048x256 .bf16) (harg3 : arg3.IsWhole)
    (arg4 : Memref sig .tc .vmem S1024x256 .bf16) (harg4 : arg4.IsWhole) (hc0 : ¬cond0_0 i) (hc1 : ¬cond0_1 i) (hc2 : cond0_2 i) (x0 : Vec Ideal S1024x2048 .bf16) (x1 : Vec Ideal S2048x256 .bf16) (y : S1024x256.Idx) :
    out0_C_2 c i arg2 harg2 arg3 harg3 arg4 harg4 hc0 hc1 hc2 x0 x1 y = Ideal.logistic (k0_pay1 x0 x1 y) := by
  unfold out0_C_2
  rw [View.read_writes_eq_canon _ _ _ (cover0_C_2 c i arg2 harg2 arg3 harg3 arg4 harg4 hc0 hc1 hc2 x0 x1)]
  unfold kernelRun0_C
  dsimp only
  sl_unfold_words
  simp only [View.readAt_eq_ld, harg2.read_unread, harg3.read_unread]
  rw [View.canon_unit_zero hz, View.ld_unit_zero (S := S1024x2048) hz, View.ld_unit_zero (S := S2048x256) hz]
  rfl

/-- What a point writes back is its block of the array. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨⟨h00, h01⟩, ⟨h10, h11⟩, h20, h21⟩ := idx_facts t
  suffices H : ∀ (r : Fin 1024) (q : Fin 256), (dats m 0 c).flushed 2 t (ix2 r q) = act (t.val % 32 * 256 + q.val) (k0_pay1 (iblk m c 0 t) (iblk m c 1 t) (ix2 r q)) by
    funext y
    obtain ⟨r, q, rfl⟩ : ∃ (r : Fin 1024) (q : Fin 256), y = ix2 r q := ⟨y 0, y 1, eq_ix2 (n0 := 1024) (n1 := 256) y⟩
    refine (H r q).trans ?_
    have hr : (((win0_2.rect t).emb (ix2 r q)) 0 : ℕ) = t.val / 32 * 1024 + r := by rw [win0_2.rect_emb_val t (ix2 r q) 0, h20]; rfl
    have hq : (((win0_2.rect t).emb (ix2 r q)) 1 : ℕ) = t.val % 32 * 256 + q := by rw [win0_2.rect_emb_val t (ix2 r q) 1, h21]; rfl
    show _ = G _ _ ((win0_2.rect t).emb (ix2 r q))
    unfold G
    have e0 (k : Fin 2048) : iblk m c 0 t (ix2 r k) = (m ((c : Thread nD τ).loc main_arg0) : S32768x2048.Idx → EReal) (ix2 (((win0_2.rect t).emb (ix2 r q)) 0) k) := by
      show (V m c main_arg0 : S32768x2048.Idx → EReal) ((win0_0.rect t).emb (ix2 r k)) = _
      rw [V_main_arg0]
      refine congrArg _ (Shape.idx_ext₂ ?_ ?_)
      · rw [win0_0.rect_emb_val t (ix2 r k) 0, h00]; exact hr.symm
      · rw [win0_0.rect_emb_val t (ix2 r k) 1, h01]; show 0 * 2048 + k.val = k.val; omega
    have e1 (k : Fin 2048) : iblk m c 1 t (ix2 k q) = (m ((c : Thread nD τ).loc main_arg1) : S2048x13392.Idx → EReal) (ix2 k (src (((win0_2.rect t).emb (ix2 r q)) 1))) := by
      show (V m c main_v7 : S2048x8192.Idx → EReal) ((win0_1.rect t).emb (ix2 k q)) = _
      rw [V_v7]
      refine Eq.trans (congrArg _ (?_ : _ = ix2 k (((win0_2.rect t).emb (ix2 r q)) 1))) (W_apply _ k _)
      refine Shape.idx_ext₂ ?_ ?_
      · rw [win0_1.rect_emb_val t (ix2 k q) 0, h10]; show 0 * 2048 + k.val = k.val; omega
      · rw [win0_1.rect_emb_val t (ix2 k q) 1, h11]; exact hq.symm
    rw [hq]
    refine congrArg (act _) ((pay1_apply _ _ r q).trans ?_)
    exact Finset.sum_congr rfl fun k _ => congrArg₂ (fun a b : EReal => a * b) (e0 k) (e1 k)
  intro r q
  have hq := q.isLt
  by_cases h0 : t.val % 32 ≤ 7
  · rw [Value.flushed2_A m c t h0 (by omega) (by omega)]
    refine (out_A ..).trans ?_
    unfold act; rw [if_pos (by omega)]; rfl
  · by_cases h1 : t.val % 32 ≤ 15
    · rw [Value.flushed2_B m c t h0 (by omega) (by omega)]
      refine (out_B ..).trans ?_
      unfold act; rw [if_neg (by omega), if_pos (by omega)]; rfl
    · rw [Value.flushed2_C m c t h0 (by omega) (by omega)]
      refine (out_C ..).trans ?_
      unfold act; rw [if_neg (by omega), if_neg (by omega)]; rfl

/-- The blocks fill the array. -/
theorem cover (i : S32768x8192.Idx) : ∃ t : Fin cfg0.N, (cfg0.win 2).flush t = true ∧ i ∈ ((cfg0.win 2).blk t).view.set := by
  have b0 : (i 0).val < 32768 := (i 0).isLt
  have b1 : (i 1).val < 8192 := (i 1).isLt
  let t : Fin cfg0.N := ⟨(i 0).val / 1024 * 32 + (i 1).val / 256, by rw [show cfg0.N = 1024 from N_0]; omega⟩
  obtain ⟨-, -, h30, h31⟩ := idx_facts t
  refine ⟨t, flush0_2 t, ?_⟩
  have e : (win0_2.rect t).emb (ix2 (⟨(i 0).val % 1024, Nat.mod_lt _ (by omega)⟩ : Fin 1024) (⟨(i 1).val % 256, Nat.mod_lt _ (by omega)⟩ : Fin 256)) = i := by
    refine Shape.idx_ext₂ ?_ ?_
    · rw [win0_2.rect_emb_val t _ 0, h30]
      show ((i 0).val / 1024 * 32 + (i 1).val / 256) / 32 * 1024 + (i 0).val % 1024 = (i 0).val
      omega
    · rw [win0_2.rect_emb_val t _ 1, h31]
      show ((i 0).val / 1024 * 32 + (i 1).val / 256) % 32 * 256 + (i 1).val % 256 = (i 1).val
      omega
  rw [← e]
  exact ((cfg0.win 2).blk t).view.emb_mem_set _

theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

section Ref
open Cert.VgRefIdeal.Read

theorem v1_apply (x0 : S32768x2048.Idx → EReal) (x1 : S2048x13392.Idx → EReal) (r : Fin 32768) (j : Fin 8192) (i : Cert.VgRefIdeal.S32768x13392.Idx) (h0 : (i 0).val = r.val) (h1 : (i 1).val = (src j).val) :
    val_main_v1 (F := Ideal) x0 x1 i = ∑ k : Fin 2048, x0 (ix2 r k) * x1 (ix2 k (src j)) := by
  rw [val_main_v1_apply]
  have l1 (k : Fin 2048) : lidx_main_v1 i k = ix2 r k := Shape.idx_ext₂ h0 rfl
  have r1 (k : Fin 2048) : ridx_main_v1 i k = ix2 k (src j) := Shape.idx_ext₂ rfl h1
  simp only [val_main_v0_apply, l1, r1]
  rfl

theorem one_bits : FloatOps.ofBits (F := Ideal) .f32 0x3F800000#32 = (1 : EReal) := Ideal.ofBits_one_f32

theorem gate_apply (x : EReal) (a : Ideal .f32) (ha : a = FloatOps.ofBits (F := Ideal) .f32 0x3F800000#32) :
    (FloatOps.hostDivf a (FloatOps.addf a (FloatOps.hostUnary .exp (FloatOps.hostNegf (x : Ideal .f32)))) : EReal) = Ideal.logistic x := by
  rw [ha, one_bits]; rfl

/-- The reference's array is the same. -/
theorem ref_eq (x0 : S32768x2048.Idx → EReal) (x1 : S2048x13392.Idx → EReal) :
    val_main_v23 (F := Ideal) x0 x1 = G x0 x1 := by
  funext i
  obtain ⟨r, j, rfl⟩ : ∃ (r : Fin 32768) (j : Fin 8192), i = ix2 r j := ⟨i 0, i 1, eq_ix2 (n0 := 32768) (n1 := 8192) i⟩
  have hj := j.isLt
  rw [val_main_v23_apply]
  refine (show _ = val_main_v22 (F := Ideal) x0 x1 (ix2 r j) from rfl).trans ?_
  show _ = act j.val (∑ k : Fin 2048, x0 (ix2 r k) * x1 (ix2 k (src j)))
  unfold act val_main_v22
  by_cases h0 : j.val < 1024
  · refine (concatenate_apply_piece (t := S32768x8192) 1 _ _ (ix2 r j) 0 (by show 0 < 6; omega) Cert.VgRefIdeal.S32768x1024 _ rfl rfl 0 (by show 0 = 0; omega) (ix2 r (⟨j.val - 0, by omega⟩ : Fin 1024)) (hoff (n := 1024) _ _ _) (by show 0 + (j.val - 0) = j.val; omega)).trans ?_
    have e : val_main_v2 (F := Ideal) x0 x1 (ix2 r (⟨j.val - 0, by omega⟩ : Fin 1024)) = ∑ k : Fin 2048, x0 (ix2 r k) * x1 (ix2 k (src j)) := by
      rw [val_main_v2_apply]
      refine v1_apply x0 x1 r j _ ?_ ?_
      · rfl
      · show 2048 + (j.val - 0) = (src j).val; unfold src; dsimp only; split_ifs <;> omega
    rw [if_pos (by omega)]; exact e
  · by_cases h1 : j.val < 2048
    · refine (concatenate_apply_piece (t := S32768x8192) 1 _ _ (ix2 r j) 1 (by show 1 < 6; omega) Cert.VgRefIdeal.S32768x1024 _ rfl rfl 1024 (by show (1024 + 0) = 1024; omega) (ix2 r (⟨j.val - 1024, by omega⟩ : Fin 1024)) (hoff (n := 1024) _ _ _) (by show 1024 + (j.val - 1024) = j.val; omega)).trans ?_
      have e : val_main_v4 (F := Ideal) x0 x1 (ix2 r (⟨j.val - 1024, by omega⟩ : Fin 1024)) = ∑ k : Fin 2048, x0 (ix2 r k) * x1 (ix2 k (src j)) := by
        rw [val_main_v4_apply]
        refine v1_apply x0 x1 r j _ ?_ ?_
        · rfl
        · show 7248 + (j.val - 1024) = (src j).val; unfold src; dsimp only; split_ifs <;> omega
      rw [if_pos (by omega)]; exact e
    · by_cases h2 : j.val < 3072
      · refine (concatenate_apply_piece (t := S32768x8192) 1 _ _ (ix2 r j) 2 (by show 2 < 6; omega) Cert.VgRefIdeal.S32768x1024 _ rfl rfl 2048 (by show (1024 + (1024 + 0)) = 2048; omega) (ix2 r (⟨j.val - 2048, by omega⟩ : Fin 1024)) (hoff (n := 1024) _ _ _) (by show 2048 + (j.val - 2048) = j.val; omega)).trans ?_
        have e : val_main_v3 (F := Ideal) x0 x1 (ix2 r (⟨j.val - 2048, by omega⟩ : Fin 1024)) = ∑ k : Fin 2048, x0 (ix2 r k) * x1 (ix2 k (src j)) := by
          rw [val_main_v3_apply]
          refine v1_apply x0 x1 r j _ ?_ ?_
          · rfl
          · show 3072 + (j.val - 2048) = (src j).val; unfold src; dsimp only; split_ifs <;> omega
        rw [if_neg (by omega), if_pos (by omega), ← e, val_main_v8_apply, val_main_call0_v5_apply, val_main_call0_v3_apply, val_main_call0_v1_apply, val_main_call0_v0_apply, val_main_call0_v4_apply, val_main_call0_v2_apply]
        exact congrArg₂ (fun a b : EReal => a * b) rfl (gate_apply _ _ rfl)
      · by_cases h3 : j.val < 4096
        · refine (concatenate_apply_piece (t := S32768x8192) 1 _ _ (ix2 r j) 3 (by show 3 < 6; omega) Cert.VgRefIdeal.S32768x1024 _ rfl rfl 3072 (by show (1024 + (1024 + (1024 + 0))) = 3072; omega) (ix2 r (⟨j.val - 3072, by omega⟩ : Fin 1024)) (hoff (n := 1024) _ _ _) (by show 3072 + (j.val - 3072) = j.val; omega)).trans ?_
          have e : val_main_v5 (F := Ideal) x0 x1 (ix2 r (⟨j.val - 3072, by omega⟩ : Fin 1024)) = ∑ k : Fin 2048, x0 (ix2 r k) * x1 (ix2 k (src j)) := by
            rw [val_main_v5_apply]
            refine v1_apply x0 x1 r j _ ?_ ?_
            · rfl
            · show 8272 + (j.val - 3072) = (src j).val; unfold src; dsimp only; split_ifs <;> omega
          rw [if_neg (by omega), if_pos (by omega), ← e, val_main_v9_apply, val_main_call1_v5_apply, val_main_call1_v3_apply, val_main_call1_v1_apply, val_main_call1_v0_apply, val_main_call1_v4_apply, val_main_call1_v2_apply]
          exact congrArg₂ (fun a b : EReal => a * b) rfl (gate_apply _ _ rfl)
        · by_cases h4 : j.val < 6144
          · refine (concatenate_apply_piece (t := S32768x8192) 1 _ _ (ix2 r j) 4 (by show 4 < 6; omega) Cert.VgRefIdeal.S32768x2048 _ rfl rfl 4096 (by show (1024 + (1024 + (1024 + (1024 + 0)))) = 4096; omega) (ix2 r (⟨j.val - 4096, by omega⟩ : Fin 2048)) (hoff (n := 2048) _ _ _) (by show 4096 + (j.val - 4096) = j.val; omega)).trans ?_
            have e : val_main_v6 (F := Ideal) x0 x1 (ix2 r (⟨j.val - 4096, by omega⟩ : Fin 2048)) = ∑ k : Fin 2048, x0 (ix2 r k) * x1 (ix2 k (src j)) := by
              rw [val_main_v6_apply]
              refine v1_apply x0 x1 r j _ ?_ ?_
              · rfl
              · show 9296 + (j.val - 4096) = (src j).val; unfold src; dsimp only; split_ifs <;> omega
            rw [if_neg (by omega), if_neg (by omega), ← e, val_main_v15_apply, val_main_v14_apply, val_main_v13_apply, val_main_v12_apply, val_main_v11_apply, val_main_v10_apply]
            exact gate_apply _ _ rfl
          · refine (concatenate_apply_piece (t := S32768x8192) 1 _ _ (ix2 r j) 5 (by show 5 < 6; omega) Cert.VgRefIdeal.S32768x2048 _ rfl rfl 6144 (by show (1024 + (1024 + (1024 + (1024 + (2048 + 0))))) = 6144; omega) (ix2 r (⟨j.val - 6144, by omega⟩ : Fin 2048)) (hoff (n := 2048) _ _ _) (by show 6144 + (j.val - 6144) = j.val; omega)).trans ?_
            have e : val_main_v7 (F := Ideal) x0 x1 (ix2 r (⟨j.val - 6144, by omega⟩ : Fin 2048)) = ∑ k : Fin 2048, x0 (ix2 r k) * x1 (ix2 k (src j)) := by
              rw [val_main_v7_apply]
              refine v1_apply x0 x1 r j _ ?_ ?_
              · rfl
              · show 11344 + (j.val - 6144) = (src j).val; unfold src; dsimp only; split_ifs <;> omega
            rw [if_neg (by omega), if_neg (by omega), ← e, val_main_v21_apply, val_main_v20_apply, val_main_v19_apply, val_main_v18_apply, val_main_v17_apply, val_main_v16_apply]
            exact gate_apply _ _ rfl

end Ref

theorem algebraic [hVgIdeal : Cert.VgIdeal.Facts] [hVgRefIdeal : Cert.VgRefIdeal.Facts] : Cert.algebraic_VgIdeal_VgRefIdeal := by
  intro m g m' g' _ hag
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.VgRefIdeal.Value.run m' g')
    obtain ⟨a0, a1⟩ := hag c
    rw [a0, a1]
    exact (Cert.VgRefIdeal.Read.val_main_v23_eq _ _).trans (ref_eq _ _)

end Cert.Proof.VgValue

end
-- ==== Proof.QkRef.lean ====
/- The projection of queries and keys: its formula, and the reference's array by it. -/
module

public import proofs.«01_k».proof.Defs
public import proofs.«01_k».proof.Proof.Gen.QkRefIdeal.Run
public import proofs.«01_k».proof.Proof.Gen.QkRefIdeal.Read
public import Idealize.ShloMosaic.Lib.ValueIdx
public import Idealize.ShloMosaic.Lib.IdealHost

@[expose] public section

noncomputable section

namespace Cert.Proof.QkRef

open Cert.QkRefIdeal Cert.QkRefIdeal.Read Idealize.ShloMosaic Idealize.ShloMosaic.TcCoe Idealize.SL.Sem
open Idealize.ShloMosaic.ValueIdx Idealize.ShloMosaic.StableHlo
open scoped BigOperators

/-! The formula of one output: a head of 128 columns, normed, times its gain, turned by the angles. -/

/-- The norm's factor. -/
def nrm (x : Fin 128 → EReal) : EReal :=
  Ideal.rsqrt (Ideal.div (∑ k : Fin 128, x k * x k) (Ideal.ofBits .f32 0x43000000#32) + Ideal.ofBits .f32 0x358637BD#32)

/-- The normed head times the gain. -/
def yy (x g : Fin 128 → EReal) (d : Fin 128) : EReal := x d * nrm x * g d

/-- The turned head. -/
def turn (x g : Fin 128 → EReal) (c s : Fin 64 → EReal) (d : Fin 128) : EReal :=
  if h : d.val < 64 then yy x g d * c ⟨d.val, h⟩ - yy x g ⟨64 + d.val, by omega⟩ * s ⟨d.val, h⟩
  else yy x g d * c ⟨d.val - 64, by omega⟩ + yy x g ⟨d.val - 64, by omega⟩ * s ⟨d.val - 64, by omega⟩

/-- An entry of the product with the weights. -/
def prod (x0 : S32768x2048.Idx → EReal) (x1 : S2048x13392.Idx → EReal) (r : Fin 32768) (n : Fin 13392) : EReal :=
  ∑ k : Fin 2048, x0 (ix2 r k) * x1 (ix2 k n)

/-- The cosine and the sine at a row's position. -/
def cs (x6 : IVec S2x16384 32) (r : Fin 32768) (e : Fin 64) : EReal := val_main_v16 (F := Ideal) x6 (ix3 r (0 : Fin 1) e)
def sn (x6 : IVec S2x16384 32) (r : Fin 32768) (e : Fin 64) : EReal := val_main_v17 (F := Ideal) x6 (ix3 r (0 : Fin 1) e)

/-- The scale of the queries. -/
def sg : EReal := Ideal.ofBits .f32 0x3E0293EE#32

/-- The weights' column that output column `j` takes. -/
def src (j : Fin 4096) : Fin 13392 :=
  ⟨if j.val < 1024 then 0 + j.val else if j.val < 2048 then 1024 + (j.val - 1024) else if j.val < 3072 then 5200 + (j.val - 2048) else 6224 + (j.val - 3072), by
    have := j.isLt; split_ifs <;> omega⟩

/-- Column `d` of the head that output column `j` is in. -/
def hcol (j : Fin 4096) (d : Fin 128) : Fin 4096 := ⟨j.val / 128 * 128 + d.val, by have := j.isLt; omega⟩

/-- A column's place in its head. -/
def place (j : Fin 4096) : Fin 128 := ⟨j.val % 128, Nat.mod_lt _ (by omega)⟩

/-- The gain of the head that column `j` is in. -/
def gain (x2 x3 x4 x5 : S128.Idx → EReal) (j : Fin 4096) (d : Fin 128) : EReal :=
  if j.val < 1024 then x2 (ix1 d) else if j.val < 2048 then x3 (ix1 d) else if j.val < 3072 then x4 (ix1 d) else x5 (ix1 d)

/-- The scale at column `j`. -/
def sc (j : Fin 4096) : EReal := if j.val < 1024 then sg else if j.val < 2048 then 1 else if j.val < 3072 then sg else 1

/-- The whole array. -/
def G (x0 : S32768x2048.Idx → EReal) (x1 : S2048x13392.Idx → EReal) (x2 x3 x4 x5 : S128.Idx → EReal) (x6 : IVec S2x16384 32) : S32768x4096.Idx → EReal :=
  fun i => turn (fun d => prod x0 x1 (i 0) (src (hcol (i 1) d))) (gain x2 x3 x4 x5 (i 1)) (cs x6 (i 0)) (sn x6 (i 0)) (place (i 1)) * sc (i 1)

theorem ext3 {n0 n1 n2 : ℕ} {i j : (⟨3, ![n0, n1, n2]⟩ : Shape).Idx} (h0 : (i 0).val = (j 0).val) (h1 : (i 1).val = (j 1).val) (h2 : (i 2).val = (j 2).val) : i = j := by
  funext a; apply Fin.ext
  match a with
  | ⟨0, _⟩ => exact h0
  | ⟨1, _⟩ => exact h1
  | ⟨2, _⟩ => exact h2

theorem v19_apply (x0 : S32768x2048.Idx → EReal) (x1 : S2048x13392.Idx → EReal) (i : S32768x13392.Idx) (r : Fin 32768) (n : Fin 13392) (h0 : (i 0).val = r.val) (h1 : (i 1).val = n.val) :
    val_main_v19 (F := Ideal) x0 x1 i = prod x0 x1 r n := by
  rw [val_main_v19_apply]
  have l (k : Fin 2048) : lidx_main_v19 i k = ix2 r k := Shape.idx_ext₂ h0 rfl
  have q (k : Fin 2048) : ridx_main_v19 i k = ix2 k n := Shape.idx_ext₂ rfl h1
  simp only [val_main_v18_apply, l, q]
  rfl

theorem hoff3 (r : Fin 32768) (h : Fin 8) (e : Fin 64) (d : Fin 128) (b : Fin 3) (hb : b ≠ 2) : ((ix3 r h e : Shape.Idx ⟨3, ![32768, 8, 64]⟩) b).val = ((ix3 r h d : Shape.Idx ⟨3, ![32768, 8, 128]⟩) b).val := by
  match b, hb with
  | ⟨0, _⟩, _ => rfl
  | ⟨1, _⟩, _ => rfl
  | ⟨2, _⟩, h => exact absurd rfl h

/-! Head group 0. -/

theorem x_0 (x0 : S32768x2048.Idx → EReal) (x1 : S2048x13392.Idx → EReal) (r : Fin 32768) (h : Fin 8) (d : Fin 128) :
    val_main_v21 (F := Ideal) x0 x1 (ix3 r h d) = prod x0 x1 r ⟨0 + (h.val * 128 + d.val), by omega⟩ := by
  rw [val_main_v21_apply, val_main_v20_apply]
  refine v19_apply x0 x1 _ r _ ?_ ?_
  · show ((r.val * 8 + h.val) * 128 + d.val) / 1024 = r.val; omega
  · show ((r.val * 8 + h.val) * 128 + d.val) % 1024 = 0 + (h.val * 128 + d.val); omega

theorem y_0 (x0 : S32768x2048.Idx → EReal) (x1 : S2048x13392.Idx → EReal) (x2 : S128.Idx → EReal) (r : Fin 32768) (h : Fin 8) (d : Fin 128) (i : S32768x8x128.Idx) (hi : i = ix3 r h d) :
    val_main_v34 (F := Ideal) x0 x1 x2 i = yy (fun d => prod x0 x1 r ⟨0 + (h.val * 128 + d.val), by omega⟩) (fun d => x2 (ix1 d)) d := by
  rw [hi, val_main_v34_apply, val_main_v31_apply, val_main_v30_apply, val_main_v29_apply, val_main_v28_apply, val_main_v26_apply, val_main_v24_apply, val_main_v23_apply,
    val_main_v33_apply, val_main_v32_apply, val_main_v25_apply, val_main_v27_apply, val_main_cst_3_apply, val_main_cst_4_apply, val_main_cst_5_apply, x_0]
  have e (k : Fin 128) : idx_main_v23 (idx_main_v24 (idx_main_v30 (ix3 r h d))) k = ix3 r h k := ext3 rfl rfl rfl
  simp only [val_main_v22_apply, e, x_0]
  show _ * Ideal.rsqrt (Ideal.div (Ideal.ofBits .f32 0x00000000#32 + ∑ k : Fin 128, _ * _) (Ideal.ofBits .f32 0x43000000#32) + Ideal.ofBits .f32 0x358637BD#32) * x2 _ = _
  rw [Ideal.ofBits_zero_f32, (zero_add : ∀ a : EReal, 0 + a = a)]
  unfold yy nrm
  refine congrArg₂ (fun a b : EReal => a * b) rfl (congrArg x2 ?_)
  funext a
  match a with
  | ⟨0, _⟩ => rfl

theorem t_0 (x0 : S32768x2048.Idx → EReal) (x1 : S2048x13392.Idx → EReal) (x2 : S128.Idx → EReal) (x6 : IVec S2x16384 32) (r : Fin 32768) (h : Fin 8) (d : Fin 128) :
    val_main_v47 (F := Ideal) x0 x1 x2 x6 (ix3 r h d) = turn (fun d => prod x0 x1 r ⟨0 + (h.val * 128 + d.val), by omega⟩) (fun d => x2 (ix1 d)) (cs x6 r) (sn x6 r) d := by
  have hd := d.isLt
  unfold val_main_v47 turn
  by_cases h0 : d.val < 64
  · refine (concatenate_apply_piece (t := S32768x8x128) 2 _ _ (ix3 r h d) 0 (by show 0 < 2; omega) S32768x8x64 _ rfl rfl 0 (by show 0 = 0; omega) (ix3 r h (⟨d.val, h0⟩ : Fin 64)) (hoff3 _ _ _ _) (by show 0 + d.val = d.val; omega)).trans ?_
    rw [dif_pos h0, val_main_v41_apply, val_main_v38_apply, val_main_v40_apply, val_main_v35_apply, val_main_v36_apply, val_main_v37_apply, val_main_v39_apply,
      y_0 x0 x1 x2 r h d (idx_main_v35 _) (ext3 rfl rfl rfl), y_0 x0 x1 x2 r h ⟨64 + d.val, by omega⟩ (idx_main_v36 _) (ext3 rfl rfl rfl)]
    have e1 : idx_main_v37 (ix3 r h (⟨d.val, h0⟩ : Fin 64)) = ix3 r (0 : Fin 1) (⟨d.val, h0⟩ : Fin 64) := ext3 rfl rfl rfl
    have e2 : idx_main_v39 (ix3 r h (⟨d.val, h0⟩ : Fin 64)) = ix3 r (0 : Fin 1) (⟨d.val, h0⟩ : Fin 64) := ext3 rfl rfl rfl
    rw [e1, e2]; rfl
  · refine (concatenate_apply_piece (t := S32768x8x128) 2 _ _ (ix3 r h d) 1 (by show 1 < 2; omega) S32768x8x64 _ rfl rfl 64 (by show 64 + 0 = 64; omega) (ix3 r h (⟨d.val - 64, by omega⟩ : Fin 64)) (hoff3 _ _ _ _) (by show 64 + (d.val - 64) = d.val; omega)).trans ?_
    rw [dif_neg h0, val_main_v46_apply, val_main_v43_apply, val_main_v45_apply, val_main_v35_apply, val_main_v36_apply, val_main_v42_apply, val_main_v44_apply,
      y_0 x0 x1 x2 r h ⟨d.val - 64, by omega⟩ (idx_main_v35 _) (ext3 rfl rfl rfl), y_0 x0 x1 x2 r h d (idx_main_v36 _) (ext3 rfl rfl (by show 64 + (d.val - 64) = d.val; omega))]
    have e1 : idx_main_v42 (ix3 r h (⟨d.val - 64, by omega⟩ : Fin 64)) = ix3 r (0 : Fin 1) (⟨d.val - 64, by omega⟩ : Fin 64) := ext3 rfl rfl rfl
    have e2 : idx_main_v44 (ix3 r h (⟨d.val - 64, by omega⟩ : Fin 64)) = ix3 r (0 : Fin 1) (⟨d.val - 64, by omega⟩ : Fin 64) := ext3 rfl rfl rfl
    rw [e1, e2]; rfl

theorem h_0 (x0 : S32768x2048.Idx → EReal) (x1 : S2048x13392.Idx → EReal) (x2 : S128.Idx → EReal) (x6 : IVec S2x16384 32) (r : Fin 32768) (j : Fin 4096) (l : Fin 1024) (hl : j.val = 0 + l.val) :
    val_main_v48 (F := Ideal) x0 x1 x2 x6 (ix2 r l) = turn (fun d => prod x0 x1 r (src (hcol j d))) (fun d => x2 (ix1 d)) (cs x6 r) (sn x6 r) (place j) := by
  rw [val_main_v48_apply]
  have e : idx_main_v48 (ix2 r l) = ix3 r (⟨l.val / 128, by omega⟩ : Fin 8) (place j) := by
    refine ext3 ?_ ?_ ?_
    · show (r.val * 1024 + l.val) / 1024 = r.val; omega
    · show (r.val * 1024 + l.val) / 128 % 8 = l.val / 128; omega
    · show (r.val * 1024 + l.val) % 128 = j.val % 128; omega
  rw [e, t_0]
  refine congrArg (fun x => turn x _ _ _ _) (funext fun d => congrArg (prod x0 x1 r) (Fin.ext ?_))
  have hd := d.isLt
  have hj := l.isLt
  show 0 + (l.val / 128 * 128 + d.val) = (src (hcol j d)).val
  unfold src hcol; dsimp only
  split_ifs <;> omega

/-! Head group 1. -/

theorem x_1 (x0 : S32768x2048.Idx → EReal) (x1 : S2048x13392.Idx → EReal) (r : Fin 32768) (h : Fin 8) (d : Fin 128) :
    val_main_v50 (F := Ideal) x0 x1 (ix3 r h d) = prod x0 x1 r ⟨1024 + (h.val * 128 + d.val), by omega⟩ := by
  rw [val_main_v50_apply, val_main_v49_apply]
  refine v19_apply x0 x1 _ r _ ?_ ?_
  · show ((r.val * 8 + h.val) * 128 + d.val) / 1024 = r.val; omega
  · show 1024 + ((r.val * 8 + h.val) * 128 + d.val) % 1024 = 1024 + (h.val * 128 + d.val); omega

theorem y_1 (x0 : S32768x2048.Idx → EReal) (x1 : S2048x13392.Idx → EReal) (x3 : S128.Idx → EReal) (r : Fin 32768) (h : Fin 8) (d : Fin 128) (i : S32768x8x128.Idx) (hi : i = ix3 r h d) :
    val_main_v63 (F := Ideal) x0 x1 x3 i = yy (fun d => prod x0 x1 r ⟨1024 + (h.val * 128 + d.val), by omega⟩) (fun d => x3 (ix1 d)) d := by
  rw [hi, val_main_v63_apply, val_main_v60_apply, val_main_v59_apply, val_main_v58_apply, val_main_v57_apply, val_main_v55_apply, val_main_v53_apply, val_main_v52_apply,
    val_main_v62_apply, val_main_v61_apply, val_main_v54_apply, val_main_v56_apply, val_main_cst_6_apply, val_main_cst_7_apply, val_main_cst_8_apply, x_1]
  have e (k : Fin 128) : idx_main_v52 (idx_main_v53 (idx_main_v59 (ix3 r h d))) k = ix3 r h k := ext3 rfl rfl rfl
  simp only [val_main_v51_apply, e, x_1]
  show _ * Ideal.rsqrt (Ideal.div (Ideal.ofBits .f32 0x00000000#32 + ∑ k : Fin 128, _ * _) (Ideal.ofBits .f32 0x43000000#32) + Ideal.ofBits .f32 0x358637BD#32) * x3 _ = _
  rw [Ideal.ofBits_zero_f32, (zero_add : ∀ a : EReal, 0 + a = a)]
  unfold yy nrm
  refine congrArg₂ (fun a b : EReal => a * b) rfl (congrArg x3 ?_)
  funext a
  match a with
  | ⟨0, _⟩ => rfl

theorem t_1 (x0 : S32768x2048.Idx → EReal) (x1 : S2048x13392.Idx → EReal) (x3 : S128.Idx → EReal) (x6 : IVec S2x16384 32) (r : Fin 32768) (h : Fin 8) (d : Fin 128) :
    val_main_v76 (F := Ideal) x0 x1 x3 x6 (ix3 r h d) = turn (fun d => prod x0 x1 r ⟨1024 + (h.val * 128 + d.val), by omega⟩) (fun d => x3 (ix1 d)) (cs x6 r) (sn x6 r) d := by
  have hd := d.isLt
  unfold val_main_v76 turn
  by_cases h0 : d.val < 64
  · refine (concatenate_apply_piece (t := S32768x8x128) 2 _ _ (ix3 r h d) 0 (by show 0 < 2; omega) S32768x8x64 _ rfl rfl 0 (by show 0 = 0; omega) (ix3 r h (⟨d.val, h0⟩ : Fin 64)) (hoff3 _ _ _ _) (by show 0 + d.val = d.val; omega)).trans ?_
    rw [dif_pos h0, val_main_v70_apply, val_main_v67_apply, val_main_v69_apply, val_main_v64_apply, val_main_v65_apply, val_main_v66_apply, val_main_v68_apply,
      y_1 x0 x1 x3 r h d (idx_main_v64 _) (ext3 rfl rfl rfl), y_1 x0 x1 x3 r h ⟨64 + d.val, by omega⟩ (idx_main_v65 _) (ext3 rfl rfl rfl)]
    have e1 : idx_main_v66 (ix3 r h (⟨d.val, h0⟩ : Fin 64)) = ix3 r (0 : Fin 1) (⟨d.val, h0⟩ : Fin 64) := ext3 rfl rfl rfl
    have e2 : idx_main_v68 (ix3 r h (⟨d.val, h0⟩ : Fin 64)) = ix3 r (0 : Fin 1) (⟨d.val, h0⟩ : Fin 64) := ext3 rfl rfl rfl
    rw [e1, e2]; rfl
  · refine (concatenate_apply_piece (t := S32768x8x128) 2 _ _ (ix3 r h d) 1 (by show 1 < 2; omega) S32768x8x64 _ rfl rfl 64 (by show 64 + 0 = 64; omega) (ix3 r h (⟨d.val - 64, by omega⟩ : Fin 64)) (hoff3 _ _ _ _) (by show 64 + (d.val - 64) = d.val; omega)).trans ?_
    rw [dif_neg h0, val_main_v75_apply, val_main_v72_apply, val_main_v74_apply, val_main_v64_apply, val_main_v65_apply, val_main_v71_apply, val_main_v73_apply,
      y_1 x0 x1 x3 r h ⟨d.val - 64, by omega⟩ (idx_main_v64 _) (ext3 rfl rfl rfl), y_1 x0 x1 x3 r h d (idx_main_v65 _) (ext3 rfl rfl (by show 64 + (d.val - 64) = d.val; omega))]
    have e1 : idx_main_v71 (ix3 r h (⟨d.val - 64, by omega⟩ : Fin 64)) = ix3 r (0 : Fin 1) (⟨d.val - 64, by omega⟩ : Fin 64) := ext3 rfl rfl rfl
    have e2 : idx_main_v73 (ix3 r h (⟨d.val - 64, by omega⟩ : Fin 64)) = ix3 r (0 : Fin 1) (⟨d.val - 64, by omega⟩ : Fin 64) := ext3 rfl rfl rfl
    rw [e1, e2]; rfl

theorem h_1 (x0 : S32768x2048.Idx → EReal) (x1 : S2048x13392.Idx → EReal) (x3 : S128.Idx → EReal) (x6 : IVec S2x16384 32) (r : Fin 32768) (j : Fin 4096) (l : Fin 1024) (hl : j.val = 1024 + l.val) :
    val_main_v77 (F := Ideal) x0 x1 x3 x6 (ix2 r l) = turn (fun d => prod x0 x1 r (src (hcol j d))) (fun d => x3 (ix1 d)) (cs x6 r) (sn x6 r) (place j) := by
  rw [val_main_v77_apply]
  have e : idx_main_v77 (ix2 r l) = ix3 r (⟨l.val / 128, by omega⟩ : Fin 8) (place j) := by
    refine ext3 ?_ ?_ ?_
    · show (r.val * 1024 + l.val) / 1024 = r.val; omega
    · show (r.val * 1024 + l.val) / 128 % 8 = l.val / 128; omega
    · show (r.val * 1024 + l.val) % 128 = j.val % 128; omega
  rw [e, t_1]
  refine congrArg (fun x => turn x _ _ _ _) (funext fun d => congrArg (prod x0 x1 r) (Fin.ext ?_))
  have hd := d.isLt
  have hj := l.isLt
  show 1024 + (l.val / 128 * 128 + d.val) = (src (hcol j d)).val
  unfold src hcol; dsimp only
  split_ifs <;> omega

/-! Head group 2. -/

theorem x_2 (x0 : S32768x2048.Idx → EReal) (x1 : S2048x13392.Idx → EReal) (r : Fin 32768) (h : Fin 8) (d : Fin 128) :
    val_main_v79 (F := Ideal) x0 x1 (ix3 r h d) = prod x0 x1 r ⟨5200 + (h.val * 128 + d.val), by omega⟩ := by
  rw [val_main_v79_apply, val_main_v78_apply]
  refine v19_apply x0 x1 _ r _ ?_ ?_
  · show ((r.val * 8 + h.val) * 128 + d.val) / 1024 = r.val; omega
  · show 5200 + ((r.val * 8 + h.val) * 128 + d.val) % 1024 = 5200 + (h.val * 128 + d.val); omega

theorem y_2 (x0 : S32768x2048.Idx → EReal) (x1 : S2048x13392.Idx → EReal) (x4 : S128.Idx → EReal) (r : Fin 32768) (h : Fin 8) (d : Fin 128) (i : S32768x8x128.Idx) (hi : i = ix3 r h d) :
    val_main_v92 (F := Ideal) x0 x1 x4 i = yy (fun d => prod x0 x1 r ⟨5200 + (h.val * 128 + d.val), by omega⟩) (fun d => x4 (ix1 d)) d := by
  rw [hi, val_main_v92_apply, val_main_v89_apply, val_main_v88_apply, val_main_v87_apply, val_main_v86_apply, val_main_v84_apply, val_main_v82_apply, val_main_v81_apply,
    val_main_v91_apply, val_main_v90_apply, val_main_v83_apply, val_main_v85_apply, val_main_cst_9_apply, val_main_cst_10_apply, val_main_cst_11_apply, x_2]
  have e (k : Fin 128) : idx_main_v81 (idx_main_v82 (idx_main_v88 (ix3 r h d))) k = ix3 r h k := ext3 rfl rfl rfl
  simp only [val_main_v80_apply, e, x_2]
  show _ * Ideal.rsqrt (Ideal.div (Ideal.ofBits .f32 0x00000000#32 + ∑ k : Fin 128, _ * _) (Ideal.ofBits .f32 0x43000000#32) + Ideal.ofBits .f32 0x358637BD#32) * x4 _ = _
  rw [Ideal.ofBits_zero_f32, (zero_add : ∀ a : EReal, 0 + a = a)]
  unfold yy nrm
  refine congrArg₂ (fun a b : EReal => a * b) rfl (congrArg x4 ?_)
  funext a
  match a with
  | ⟨0, _⟩ => rfl

theorem t_2 (x0 : S32768x2048.Idx → EReal) (x1 : S2048x13392.Idx → EReal) (x4 : S128.Idx → EReal) (x6 : IVec S2x16384 32) (r : Fin 32768) (h : Fin 8) (d : Fin 128) :
    val_main_v105 (F := Ideal) x0 x1 x4 x6 (ix3 r h d) = turn (fun d => prod x0 x1 r ⟨5200 + (h.val * 128 + d.val), by omega⟩) (fun d => x4 (ix1 d)) (cs x6 r) (sn x6 r) d := by
  have hd := d.isLt
  unfold val_main_v105 turn
  by_cases h0 : d.val < 64
  · refine (concatenate_apply_piece (t := S32768x8x128) 2 _ _ (ix3 r h d) 0 (by show 0 < 2; omega) S32768x8x64 _ rfl rfl 0 (by show 0 = 0; omega) (ix3 r h (⟨d.val, h0⟩ : Fin 64)) (hoff3 _ _ _ _) (by show 0 + d.val = d.val; omega)).trans ?_
    rw [dif_pos h0, val_main_v99_apply, val_main_v96_apply, val_main_v98_apply, val_main_v93_apply, val_main_v94_apply, val_main_v95_apply, val_main_v97_apply,
      y_2 x0 x1 x4 r h d (idx_main_v93 _) (ext3 rfl rfl rfl), y_2 x0 x1 x4 r h ⟨64 + d.val, by omega⟩ (idx_main_v94 _) (ext3 rfl rfl rfl)]
    have e1 : idx_main_v95 (ix3 r h (⟨d.val, h0⟩ : Fin 64)) = ix3 r (0 : Fin 1) (⟨d.val, h0⟩ : Fin 64) := ext3 rfl rfl rfl
    have e2 : idx_main_v97 (ix3 r h (⟨d.val, h0⟩ : Fin 64)) = ix3 r (0 : Fin 1) (⟨d.val, h0⟩ : Fin 64) := ext3 rfl rfl rfl
    rw [e1, e2]; rfl
  · refine (concatenate_apply_piece (t := S32768x8x128) 2 _ _ (ix3 r h d) 1 (by show 1 < 2; omega) S32768x8x64 _ rfl rfl 64 (by show 64 + 0 = 64; omega) (ix3 r h (⟨d.val - 64, by omega⟩ : Fin 64)) (hoff3 _ _ _ _) (by show 64 + (d.val - 64) = d.val; omega)).trans ?_
    rw [dif_neg h0, val_main_v104_apply, val_main_v101_apply, val_main_v103_apply, val_main_v93_apply, val_main_v94_apply, val_main_v100_apply, val_main_v102_apply,
      y_2 x0 x1 x4 r h ⟨d.val - 64, by omega⟩ (idx_main_v93 _) (ext3 rfl rfl rfl), y_2 x0 x1 x4 r h d (idx_main_v94 _) (ext3 rfl rfl (by show 64 + (d.val - 64) = d.val; omega))]
    have e1 : idx_main_v100 (ix3 r h (⟨d.val - 64, by omega⟩ : Fin 64)) = ix3 r (0 : Fin 1) (⟨d.val - 64, by omega⟩ : Fin 64) := ext3 rfl rfl rfl
    have e2 : idx_main_v102 (ix3 r h (⟨d.val - 64, by omega⟩ : Fin 64)) = ix3 r (0 : Fin 1) (⟨d.val - 64, by omega⟩ : Fin 64) := ext3 rfl rfl rfl
    rw [e1, e2]; rfl

theorem h_2 (x0 : S32768x2048.Idx → EReal) (x1 : S2048x13392.Idx → EReal) (x4 : S128.Idx → EReal) (x6 : IVec S2x16384 32) (r : Fin 32768) (j : Fin 4096) (l : Fin 1024) (hl : j.val = 2048 + l.val) :
    val_main_v106 (F := Ideal) x0 x1 x4 x6 (ix2 r l) = turn (fun d => prod x0 x1 r (src (hcol j d))) (fun d => x4 (ix1 d)) (cs x6 r) (sn x6 r) (place j) := by
  rw [val_main_v106_apply]
  have e : idx_main_v106 (ix2 r l) = ix3 r (⟨l.val / 128, by omega⟩ : Fin 8) (place j) := by
    refine ext3 ?_ ?_ ?_
    · show (r.val * 1024 + l.val) / 1024 = r.val; omega
    · show (r.val * 1024 + l.val) / 128 % 8 = l.val / 128; omega
    · show (r.val * 1024 + l.val) % 128 = j.val % 128; omega
  rw [e, t_2]
  refine congrArg (fun x => turn x _ _ _ _) (funext fun d => congrArg (prod x0 x1 r) (Fin.ext ?_))
  have hd := d.isLt
  have hj := l.isLt
  show 5200 + (l.val / 128 * 128 + d.val) = (src (hcol j d)).val
  unfold src hcol; dsimp only
  split_ifs <;> omega

/-! Head group 3. -/

theorem x_3 (x0 : S32768x2048.Idx → EReal) (x1 : S2048x13392.Idx → EReal) (r : Fin 32768) (h : Fin 8) (d : Fin 128) :
    val_main_v108 (F := Ideal) x0 x1 (ix3 r h d) = prod x0 x1 r ⟨6224 + (h.val * 128 + d.val), by omega⟩ := by
  rw [val_main_v108_apply, val_main_v107_apply]
  refine v19_apply x0 x1 _ r _ ?_ ?_
  · show ((r.val * 8 + h.val) * 128 + d.val) / 1024 = r.val; omega
  · show 6224 + ((r.val * 8 + h.val) * 128 + d.val) % 1024 = 6224 + (h.val * 128 + d.val); omega

theorem y_3 (x0 : S32768x2048.Idx → EReal) (x1 : S2048x13392.Idx → EReal) (x5 : S128.Idx → EReal) (r : Fin 32768) (h : Fin 8) (d : Fin 128) (i : S32768x8x128.Idx) (hi : i = ix3 r h d) :
    val_main_v121 (F := Ideal) x0 x1 x5 i = yy (fun d => prod x0 x1 r ⟨6224 + (h.val * 128 + d.val), by omega⟩) (fun d => x5 (ix1 d)) d := by
  rw [hi, val_main_v121_apply, val_main_v118_apply, val_main_v117_apply, val_main_v116_apply, val_main_v115_apply, val_main_v113_apply, val_main_v111_apply, val_main_v110_apply,
    val_main_v120_apply, val_main_v119_apply, val_main_v112_apply, val_main_v114_apply, val_main_cst_12_apply, val_main_cst_13_apply, val_main_cst_14_apply, x_3]
  have e (k : Fin 128) : idx_main_v110 (idx_main_v111 (idx_main_v117 (ix3 r h d))) k = ix3 r h k := ext3 rfl rfl rfl
  simp only [val_main_v109_apply, e, x_3]
  show _ * Ideal.rsqrt (Ideal.div (Ideal.ofBits .f32 0x00000000#32 + ∑ k : Fin 128, _ * _) (Ideal.ofBits .f32 0x43000000#32) + Ideal.ofBits .f32 0x358637BD#32) * x5 _ = _
  rw [Ideal.ofBits_zero_f32, (zero_add : ∀ a : EReal, 0 + a = a)]
  unfold yy nrm
  refine congrArg₂ (fun a b : EReal => a * b) rfl (congrArg x5 ?_)
  funext a
  match a with
  | ⟨0, _⟩ => rfl

theorem t_3 (x0 : S32768x2048.Idx → EReal) (x1 : S2048x13392.Idx → EReal) (x5 : S128.Idx → EReal) (x6 : IVec S2x16384 32) (r : Fin 32768) (h : Fin 8) (d : Fin 128) :
    val_main_v134 (F := Ideal) x0 x1 x5 x6 (ix3 r h d) = turn (fun d => prod x0 x1 r ⟨6224 + (h.val * 128 + d.val), by omega⟩) (fun d => x5 (ix1 d)) (cs x6 r) (sn x6 r) d := by
  have hd := d.isLt
  unfold val_main_v134 turn
  by_cases h0 : d.val < 64
  · refine (concatenate_apply_piece (t := S32768x8x128) 2 _ _ (ix3 r h d) 0 (by show 0 < 2; omega) S32768x8x64 _ rfl rfl 0 (by show 0 = 0; omega) (ix3 r h (⟨d.val, h0⟩ : Fin 64)) (hoff3 _ _ _ _) (by show 0 + d.val = d.val; omega)).trans ?_
    rw [dif_pos h0, val_main_v128_apply, val_main_v125_apply, val_main_v127_apply, val_main_v122_apply, val_main_v123_apply, val_main_v124_apply, val_main_v126_apply,
      y_3 x0 x1 x5 r h d (idx_main_v122 _) (ext3 rfl rfl rfl), y_3 x0 x1 x5 r h ⟨64 + d.val, by omega⟩ (idx_main_v123 _) (ext3 rfl rfl rfl)]
    have e1 : idx_main_v124 (ix3 r h (⟨d.val, h0⟩ : Fin 64)) = ix3 r (0 : Fin 1) (⟨d.val, h0⟩ : Fin 64) := ext3 rfl rfl rfl
    have e2 : idx_main_v126 (ix3 r h (⟨d.val, h0⟩ : Fin 64)) = ix3 r (0 : Fin 1) (⟨d.val, h0⟩ : Fin 64) := ext3 rfl rfl rfl
    rw [e1, e2]; rfl
  · refine (concatenate_apply_piece (t := S32768x8x128) 2 _ _ (ix3 r h d) 1 (by show 1 < 2; omega) S32768x8x64 _ rfl rfl 64 (by show 64 + 0 = 64; omega) (ix3 r h (⟨d.val - 64, by omega⟩ : Fin 64)) (hoff3 _ _ _ _) (by show 64 + (d.val - 64) = d.val; omega)).trans ?_
    rw [dif_neg h0, val_main_v133_apply, val_main_v130_apply, val_main_v132_apply, val_main_v122_apply, val_main_v123_apply, val_main_v129_apply, val_main_v131_apply,
      y_3 x0 x1 x5 r h ⟨d.val - 64, by omega⟩ (idx_main_v122 _) (ext3 rfl rfl rfl), y_3 x0 x1 x5 r h d (idx_main_v123 _) (ext3 rfl rfl (by show 64 + (d.val - 64) = d.val; omega))]
    have e1 : idx_main_v129 (ix3 r h (⟨d.val - 64, by omega⟩ : Fin 64)) = ix3 r (0 : Fin 1) (⟨d.val - 64, by omega⟩ : Fin 64) := ext3 rfl rfl rfl
    have e2 : idx_main_v131 (ix3 r h (⟨d.val - 64, by omega⟩ : Fin 64)) = ix3 r (0 : Fin 1) (⟨d.val - 64, by omega⟩ : Fin 64) := ext3 rfl rfl rfl
    rw [e1, e2]; rfl

theorem h_3 (x0 : S32768x2048.Idx → EReal) (x1 : S2048x13392.Idx → EReal) (x5 : S128.Idx → EReal) (x6 : IVec S2x16384 32) (r : Fin 32768) (j : Fin 4096) (l : Fin 1024) (hl : j.val = 3072 + l.val) :
    val_main_v135 (F := Ideal) x0 x1 x5 x6 (ix2 r l) = turn (fun d => prod x0 x1 r (src (hcol j d))) (fun d => x5 (ix1 d)) (cs x6 r) (sn x6 r) (place j) := by
  rw [val_main_v135_apply]
  have e : idx_main_v135 (ix2 r l) = ix3 r (⟨l.val / 128, by omega⟩ : Fin 8) (place j) := by
    refine ext3 ?_ ?_ ?_
    · show (r.val * 1024 + l.val) / 1024 = r.val; omega
    · show (r.val * 1024 + l.val) / 128 % 8 = l.val / 128; omega
    · show (r.val * 1024 + l.val) % 128 = j.val % 128; omega
  rw [e, t_3]
  refine congrArg (fun x => turn x _ _ _ _) (funext fun d => congrArg (prod x0 x1 r) (Fin.ext ?_))
  have hd := d.isLt
  have hj := l.isLt
  show 6224 + (l.val / 128 * 128 + d.val) = (src (hcol j d)).val
  unfold src hcol; dsimp only
  split_ifs <;> omega

theorem hoff (r : Fin 32768) (l : Fin 1024) (j : Fin 4096) (b : Fin 2) (hb : b ≠ 1) : ((ix2 r l : Shape.Idx ⟨2, ![32768, 1024]⟩) b).val = ((ix2 r j : Shape.Idx ⟨2, ![32768, 4096]⟩) b).val := by
  match b, hb with
  | ⟨0, _⟩, _ => rfl
  | ⟨1, _⟩, h => exact absurd rfl h

/-- The reference's array is the formula's. -/
theorem ref_eq (x0 : S32768x2048.Idx → EReal) (x1 : S2048x13392.Idx → EReal) (x2 x3 x4 x5 : S128.Idx → EReal) (x6 : IVec S2x16384 32) :
    val_main_v141 (F := Ideal) x0 x1 x2 x3 x4 x5 x6 = G x0 x1 x2 x3 x4 x5 x6 := by
  funext i
  obtain ⟨r, j, rfl⟩ : ∃ (r : Fin 32768) (j : Fin 4096), i = ix2 r j := ⟨i 0, i 1, eq_ix2 (n0 := 32768) (n1 := 4096) i⟩
  have hj := j.isLt
  rw [val_main_v141_apply]
  refine (show _ = val_main_v140 (F := Ideal) x0 x1 x2 x3 x4 x5 x6 (ix2 r j) from rfl).trans ?_
  show _ = turn (fun d => prod x0 x1 r (src (hcol j d))) (gain x2 x3 x4 x5 j) (cs x6 r) (sn x6 r) (place j) * sc j
  unfold val_main_v140
  by_cases h0 : j.val < 1024
  · refine (concatenate_apply_piece (t := S32768x4096) 1 _ _ (ix2 r j) 0 (by show 0 < 4; omega) S32768x1024 _ rfl rfl 0 (by show 0 = 0; omega) (ix2 r (⟨j.val - 0, by omega⟩ : Fin 1024)) (hoff _ _ _) (by show 0 + (j.val - 0) = j.val; omega)).trans ?_
    have e := h_0 x0 x1 x2 x6 r j ⟨j.val - 0, by omega⟩ (by show j.val = 0 + (j.val - 0); omega)
    have eg : gain x2 x3 x4 x5 j = fun d => x2 (ix1 d) := by funext d; unfold gain; rw [if_pos (by omega)]
    have es : sc j = sg := by unfold sc; rw [if_pos (by omega)]
    rw [eg, es, ← e]
    refine (show val_main_v137 (F := Ideal) x0 x1 x2 x6 _ = _ from ?_)
    rw [val_main_v137_apply, val_main_v136_apply, val_main_cst_15_apply]; rfl
  · by_cases h1 : j.val < 2048
    · refine (concatenate_apply_piece (t := S32768x4096) 1 _ _ (ix2 r j) 1 (by show 1 < 4; omega) S32768x1024 _ rfl rfl 1024 (by show 1024 + 0 = 1024; omega) (ix2 r (⟨j.val - 1024, by omega⟩ : Fin 1024)) (hoff _ _ _) (by show 1024 + (j.val - 1024) = j.val; omega)).trans ?_
      have e := h_1 x0 x1 x3 x6 r j ⟨j.val - 1024, by omega⟩ (by show j.val = 1024 + (j.val - 1024); omega)
      have eg : gain x2 x3 x4 x5 j = fun d => x3 (ix1 d) := by funext d; unfold gain; rw [if_neg (by omega), if_pos (by omega)]
      have es : sc j = 1 := by unfold sc; rw [if_neg (by omega), if_pos (by omega)]
      rw [eg, es, ← e]
      rw [mul_one]
    · by_cases h2 : j.val < 3072
      · refine (concatenate_apply_piece (t := S32768x4096) 1 _ _ (ix2 r j) 2 (by show 2 < 4; omega) S32768x1024 _ rfl rfl 2048 (by show 1024 + (1024 + 0) = 2048; omega) (ix2 r (⟨j.val - 2048, by omega⟩ : Fin 1024)) (hoff _ _ _) (by show 2048 + (j.val - 2048) = j.val; omega)).trans ?_
        have e := h_2 x0 x1 x4 x6 r j ⟨j.val - 2048, by omega⟩ (by show j.val = 2048 + (j.val - 2048); omega)
        have eg : gain x2 x3 x4 x5 j = fun d => x4 (ix1 d) := by funext d; unfold gain; rw [if_neg (by omega), if_neg (by omega), if_pos (by omega)]
        have es : sc j = sg := by unfold sc; rw [if_neg (by omega), if_neg (by omega), if_pos (by omega)]
        rw [eg, es, ← e]
        refine (show val_main_v139 (F := Ideal) x0 x1 x4 x6 _ = _ from ?_)
        rw [val_main_v139_apply, val_main_v138_apply, val_main_cst_16_apply]; rfl
      · refine (concatenate_apply_piece (t := S32768x4096) 1 _ _ (ix2 r j) 3 (by show 3 < 4; omega) S32768x1024 _ rfl rfl 3072 (by show 1024 + (1024 + (1024 + 0)) = 3072; omega) (ix2 r (⟨j.val - 3072, by omega⟩ : Fin 1024)) (hoff _ _ _) (by show 3072 + (j.val - 3072) = j.val; omega)).trans ?_
        have e := h_3 x0 x1 x5 x6 r j ⟨j.val - 3072, by omega⟩ (by show j.val = 3072 + (j.val - 3072); omega)
        have eg : gain x2 x3 x4 x5 j = fun d => x5 (ix1 d) := by funext d; unfold gain; rw [if_neg (by omega), if_neg (by omega), if_neg (by omega)]
        have es : sc j = 1 := by unfold sc; rw [if_neg (by omega), if_neg (by omega), if_neg (by omega)]
        rw [eg, es, ← e]
        rw [mul_one]

end Cert.Proof.QkRef

end
-- ==== Proof.QkValue.lean ====
/- The projection of queries and keys at the ideal instance: the kernel's array by the same formula, its scale taken in through the gains. -/
module

public import proofs.«01_k».proof.Defs
public import proofs.«01_k».proof.Proof.Gen.Qk.Frame
public import proofs.«01_k».proof.Proof.Gen.QkIdeal.Value
public import proofs.«01_k».proof.Proof.QkRef
public import Idealize.ShloMosaic.Lib.MatmulPlain
public import Idealize.ShloMosaic.Lib.KernelVsHost
public import Idealize.ShloMosaic.Lib.Pipeline.ValueKit.Tiles

@[expose] public section

noncomputable section

namespace Cert.Proof.QkValue

open Cert.QkIdeal Cert.QkIdeal.Gen Idealize.ShloMosaic Idealize.ShloMosaic.TcCoe Idealize.SL.Sem
open Idealize.ShloMosaic.ValueIdx Idealize.ShloMosaic.StableHlo
open Idealize.ShloMosaic.Pipeline (Dat)
open QkRef (nrm yy turn prod cs sn sg src hcol place gain sc G ext3)
open scoped BigOperators

variable (m : (ℓ : Loc nD τ sig) → Buf (Elt Ideal) ℓ) (ρ : Dev nD → PrngReg)

/-! The scale. -/

theorem sg_real : ∃ s : ℝ, 0 ≤ s ∧ sg = ((s : ℝ) : EReal) := by
  refine ⟨8557550 / 67108864, by norm_num, ?_⟩
  unfold sg
  simp [Ideal.ofBits, Ideal.ieee, -EReal.coe_mul]
  norm_num

theorem sc_nonneg (j : Fin 4096) : 0 ≤ sc j := by
  obtain ⟨s, h, e⟩ := sg_real
  have h1 : (0 : EReal) ≤ sg := by rw [e]; exact EReal.coe_nonneg.mpr h
  have h2 : (0 : EReal) ≤ 1 := zero_le_one
  unfold sc; split_ifs <;> assumption

theorem sc_ne_top (j : Fin 4096) : sc j ≠ ⊤ := by
  obtain ⟨s, h, e⟩ := sg_real
  have h1 : sg ≠ ⊤ := by rw [e]; exact EReal.coe_ne_top s
  have h2 : (1 : EReal) ≠ ⊤ := EReal.coe_ne_top 1
  unfold sc; split_ifs <;> assumption

/-- The cosines and the signed sines over a head's columns. -/
def ct (c : Fin 64 → EReal) (d : Fin 128) : EReal := if h : d.val < 64 then c ⟨d.val, h⟩ else c ⟨d.val - 64, by omega⟩
def st (s : Fin 64 → EReal) (d : Fin 128) : EReal := if h : d.val < 64 then -s ⟨d.val, h⟩ else s ⟨d.val - 64, by omega⟩

/-- The column half a head away. -/
def rot (d : Fin 128) : Fin 128 := ⟨(d.val + 64) % 128, Nat.mod_lt _ (by omega)⟩

/-- The head as the kernel turns it. -/
def tk (x g C S : Fin 128 → EReal) (d : Fin 128) : EReal := yy x g d * C d + yy x g (rot d) * S d

theorem tk_congr {x x' g g' C C' S S' : Fin 128 → EReal} (hx : x = x') (hg : g = g') (hC : C = C') (hS : S = S') (d : Fin 128) : tk x g C S d = tk x' g' C' S' d := by
  rw [hx, hg, hC, hS]

theorem yy_scale (x g : Fin 128 → EReal) (σ : EReal) (d : Fin 128) : yy x (fun d => g d * σ) d = yy x g d * σ := by
  unfold yy; exact (mul_assoc _ _ _).symm

/-- The scale comes out of the turn. -/
theorem tk_eq (x g : Fin 128 → EReal) (c s : Fin 64 → EReal) (σ : EReal) (h0 : 0 ≤ σ) (ht : σ ≠ ⊤) (d : Fin 128) :
    tk x (fun d => g d * σ) (ct c) (st s) d = turn x g c s d * σ := by
  have hd := d.isLt
  unfold tk turn
  rw [yy_scale, yy_scale]
  by_cases h : d.val < 64
  · have e : rot d = ⟨64 + d.val, by omega⟩ := Fin.ext (by show (d.val + 64) % 128 = 64 + d.val; omega)
    rw [dif_pos h, e]
    unfold ct st
    rw [dif_pos h, dif_pos h, sub_eq_add_neg, EReal.right_distrib_of_nonneg_of_ne_top h0 ht, mul_right_comm (yy x g d), mul_right_comm (yy x g _) σ, mul_neg]
  · have e : rot d = ⟨d.val - 64, by omega⟩ := Fin.ext (by show (d.val + 64) % 128 = d.val - 64; omega)
    rw [dif_neg h, e]
    unfold ct st
    rw [dif_neg h, dif_neg h, EReal.right_distrib_of_nonneg_of_ne_top h0 ht, mul_right_comm (yy x g d), mul_right_comm (yy x g _) σ]

/-! What the region finds. -/

/-- The weights' columns side by side. -/
def W (w : FVec Ideal S2048x13392 .f32) : FVec Ideal S2048x4096 .f32 :=
  concatenate S2048x4096 1 [⟨S2048x1024, extractStridedSlice S2048x1024 ![0, 0] w slices_S2048x13392_S2048x1024_0_0⟩,
    ⟨S2048x1024, extractStridedSlice S2048x1024 ![0, 1024] w slices_S2048x13392_S2048x1024_0_1024⟩,
    ⟨S2048x1024, extractStridedSlice S2048x1024 ![0, 5200] w slices_S2048x13392_S2048x1024_0_5200⟩,
    ⟨S2048x1024, extractStridedSlice S2048x1024 ![0, 6224] w slices_S2048x13392_S2048x1024_0_6224⟩]
    concatenates_S2048x1024_S2048x1024_S2048x1024_S2048x1024_S2048x4096_d1

theorem hoff {K n N : ℕ} (r : Fin K) (j : Fin n) (j' : Fin N) (b : Fin 2) (hb : b ≠ 1) : ((ix2 r j : Shape.Idx ⟨2, ![K, n]⟩) b).val = ((ix2 r j' : Shape.Idx ⟨2, ![K, N]⟩) b).val := by
  match b, hb with
  | ⟨0, _⟩, _ => rfl
  | ⟨1, _⟩, h => exact absurd rfl h

theorem W_apply (w : FVec Ideal S2048x13392 .f32) (r : Fin 2048) (j : Fin 4096) : W w (ix2 r j) = w (ix2 r (src j)) := by
  have hj := j.isLt
  unfold W
  by_cases h0 : j.val < 1024
  · refine (concatenate_apply_piece (t := S2048x4096) 1 _ _ (ix2 r j) 0 (by show 0 < 4; omega) S2048x1024 _ rfl rfl 0 (by show 0 = 0; omega) (ix2 r (⟨j.val - 0, by omega⟩ : Fin 1024)) (hoff (n := 1024) _ _ _) (by show 0 + (j.val - 0) = j.val; omega)).trans ?_
    refine (extractStridedSlice_apply _ _ _ _ (ix2 r (src j)) (fun a => ?_)).trans rfl
    match a with
    | ⟨0, _⟩ => show r.val = 0 + r.val; omega
    | ⟨1, _⟩ => show (src j).val = 0 + (j.val - 0); unfold src; dsimp only; split_ifs <;> omega
  · by_cases h1 : j.val < 2048
    · refine (concatenate_apply_piece (t := S2048x4096) 1 _ _ (ix2 r j) 1 (by show 1 < 4; omega) S2048x1024 _ rfl rfl 1024 (by show 1024 + 0 = 1024; omega) (ix2 r (⟨j.val - 1024, by omega⟩ : Fin 1024)) (hoff (n := 1024) _ _ _) (by show 1024 + (j.val - 1024) = j.val; omega)).trans ?_
      refine (extractStridedSlice_apply _ _ _ _ (ix2 r (src j)) (fun a => ?_)).trans rfl
      match a with
      | ⟨0, _⟩ => show r.val = 0 + r.val; omega
      | ⟨1, _⟩ => show (src j).val = 1024 + (j.val - 1024); unfold src; dsimp only; split_ifs <;> omega
    · by_cases h2 : j.val < 3072
      · refine (concatenate_apply_piece (t := S2048x4096) 1 _ _ (ix2 r j) 2 (by show 2 < 4; omega) S2048x1024 _ rfl rfl 2048 (by show 1024 + (1024 + 0) = 2048; omega) (ix2 r (⟨j.val - 2048, by omega⟩ : Fin 1024)) (hoff (n := 1024) _ _ _) (by show 2048 + (j.val - 2048) = j.val; omega)).trans ?_
        refine (extractStridedSlice_apply _ _ _ _ (ix2 r (src j)) (fun a => ?_)).trans rfl
        match a with
        | ⟨0, _⟩ => show r.val = 0 + r.val; omega
        | ⟨1, _⟩ => show (src j).val = 5200 + (j.val - 2048); unfold src; dsimp only; split_ifs <;> omega
      · refine (concatenate_apply_piece (t := S2048x4096) 1 _ _ (ix2 r j) 3 (by show 3 < 4; omega) S2048x1024 _ rfl rfl 3072 (by show 1024 + (1024 + (1024 + 0)) = 3072; omega) (ix2 r (⟨j.val - 3072, by omega⟩ : Fin 1024)) (hoff (n := 1024) _ _ _) (by show 3072 + (j.val - 3072) = j.val; omega)).trans ?_
        refine (extractStridedSlice_apply _ _ _ _ (ix2 r (src j)) (fun a => ?_)).trans rfl
        match a with
        | ⟨0, _⟩ => show r.val = 0 + r.val; omega
        | ⟨1, _⟩ => show (src j).val = 6224 + (j.val - 3072); unfold src; dsimp only; split_ifs <;> omega

/-- A gain, eight times over. -/
def tile (g : FVec Ideal S128 .f32) : FVec Ideal S1024 .f32 :=
  shapeCast S1024 (broadcastInDim S8x128 ![0, 1] bcast_S1x128_S8x128_0_1 (shapeCast S1x128 g shapeCasts_S128_S1x128)) shapeCasts_S8x128_S1024

theorem tile_apply (g : FVec Ideal S128 .f32) (l : Fin 1024) (d : Fin 128) (hd : d.val = l.val % 128) : tile g (ix1 l) = g (ix1 d) := by
  unfold tile
  refine (shapeCast_apply _ shapeCasts_S8x128_S1024 (ix1 l) (ix2 (⟨l.val / 128, by omega⟩ : Fin 8) d) (by rewrite [Shape.rowMajor_val_two, Shape.rowMajor_val_one]; show l.val / 128 * 128 + d.val = l.val; omega)).trans ?_
  refine (broadcastInDim_apply _ bcast_S1x128_S8x128_0_1 _ _ (ix2 (0 : Fin 1) d) (fun a => match a with
    | ⟨0, _⟩ => by show 0 = if (1 : Nat) = 1 then 0 else l.val / 128; rw [if_pos rfl]
    | ⟨1, _⟩ => by show d.val = if (128 : Nat) = 1 then 0 else d.val; rw [if_neg (by decide)])).trans ?_
  exact shapeCast_apply g shapeCasts_S128_S1x128 _ (ix1 d) (by rewrite [Shape.rowMajor_val_one, Shape.rowMajor_val_two]; show d.val = 0 * 128 + d.val; omega)

/-- A gain times the scale. -/
def scl (g : FVec Ideal S128 .f32) : FVec Ideal S128 .f32 := mulf g (broadcastInDim S128 ![] bcast_S_S128 (constant (F := Ideal) S_ .f32 0x3E0293EE#32))

theorem scl_apply (g : FVec Ideal S128 .f32) (i : S128.Idx) : scl g i = g i * sg := rfl

/-- The gains in a row. -/
def GN (x2 x3 x4 x5 : FVec Ideal S128 .f32) : FVec Ideal S1x4096 .f32 :=
  broadcastInDim S1x4096 ![1] bcast_S4096_S1x4096_1 (concatenate S4096 0 [⟨S1024, tile (scl x2)⟩, ⟨S1024, tile x3⟩, ⟨S1024, tile (scl x4)⟩, ⟨S1024, tile x5⟩]
    concatenates_S1024_S1024_S1024_S1024_S4096_d0)

theorem hoff1 (l : Fin 1024) (j : Fin 4096) (b : Fin 1) (hb : b ≠ 0) : ((ix1 l : Shape.Idx ⟨1, ![1024]⟩) b).val = ((ix1 j : Shape.Idx ⟨1, ![4096]⟩) b).val :=
  absurd (Subsingleton.elim b 0) hb

theorem GN_apply (x2 x3 x4 x5 : FVec Ideal S128 .f32) (j : Fin 4096) : GN x2 x3 x4 x5 (ix2 (0 : Fin 1) j) = gain x2 x3 x4 x5 j (place j) * sc j := by
  have hj := j.isLt
  unfold GN gain sc
  refine (broadcastInDim_apply _ bcast_S4096_S1x4096_1 _ _ (ix1 j) (fun a => match a with
    | ⟨0, _⟩ => by show j.val = if (4096 : Nat) = 1 then 0 else j.val; rw [if_neg (by decide)])).trans ?_
  by_cases h0 : j.val < 1024
  · refine (concatenate_apply_piece (t := S4096) 0 _ _ (ix1 j) 0 (by show 0 < 4; omega) S1024 _ rfl rfl 0 (by show 0 = 0; omega) (ix1 (⟨j.val - 0, by omega⟩ : Fin 1024)) (hoff1 _ _) (by show 0 + (j.val - 0) = j.val; omega)).trans ?_
    refine (tile_apply _ _ (place j) (by show j.val % 128 = (j.val - 0) % 128; omega)).trans ?_
    rw [if_pos (by omega), if_pos (by omega)]
    rfl
  · by_cases h1 : j.val < 2048
    · refine (concatenate_apply_piece (t := S4096) 0 _ _ (ix1 j) 1 (by show 1 < 4; omega) S1024 _ rfl rfl 1024 (by show 1024 + 0 = 1024; omega) (ix1 (⟨j.val - 1024, by omega⟩ : Fin 1024)) (hoff1 _ _) (by show 1024 + (j.val - 1024) = j.val; omega)).trans ?_
      refine (tile_apply _ _ (place j) (by show j.val % 128 = (j.val - 1024) % 128; omega)).trans ?_
      rw [if_neg (by omega), if_pos (by omega), if_neg (by omega), if_pos (by omega)]
      exact (mul_one _).symm
    · by_cases h2 : j.val < 3072
      · refine (concatenate_apply_piece (t := S4096) 0 _ _ (ix1 j) 2 (by show 2 < 4; omega) S1024 _ rfl rfl 2048 (by show 1024 + (1024 + 0) = 2048; omega) (ix1 (⟨j.val - 2048, by omega⟩ : Fin 1024)) (hoff1 _ _) (by show 2048 + (j.val - 2048) = j.val; omega)).trans ?_
        refine (tile_apply _ _ (place j) (by show j.val % 128 = (j.val - 2048) % 128; omega)).trans ?_
        rw [if_neg (by omega), if_neg (by omega), if_pos (by omega), if_neg (by omega), if_neg (by omega), if_pos (by omega)]
        rfl
      · refine (concatenate_apply_piece (t := S4096) 0 _ _ (ix1 j) 3 (by show 3 < 4; omega) S1024 _ rfl rfl 3072 (by show 1024 + (1024 + (1024 + 0)) = 3072; omega) (ix1 (⟨j.val - 3072, by omega⟩ : Fin 1024)) (hoff1 _ _) (by show 3072 + (j.val - 3072) = j.val; omega)).trans ?_
        refine (tile_apply _ _ (place j) (by show j.val % 128 = (j.val - 3072) % 128; omega)).trans ?_
        rw [if_neg (by omega), if_neg (by omega), if_neg (by omega), if_neg (by omega), if_neg (by omega), if_neg (by omega)]
        exact (mul_one _).symm

/-- The angles. -/
def ang (x6 : IVec S2x16384 32) : FVec Ideal S32768x64 .f32 :=
  mulf (broadcastInDim S32768x64 ![0, 1] bcast_S32768x1_S32768x64_0_1 (shapeCast S32768x1 (sitofp .f32 x6) shapeCasts_S2x16384_S32768x1))
    (broadcastInDim S32768x64 ![0, 1] bcast_S1x64_S32768x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

section
open Cert.QkRefIdeal.Read
theorem ang_apply (x6 : IVec S2x16384 32) (r : Fin 32768) (e : Fin 64) : ang x6 (ix2 r e) = val_main_v15 (F := Ideal) x6 (ix3 r (0 : Fin 1) e) := by
  rw [val_main_v15_apply, val_main_v13_apply, val_main_v11_apply, val_main_v14_apply, val_main_v12_apply]
  unfold ang
  rw [mulf_apply]
  refine congrArg₂ (fun a b : EReal => a * b) ?_ ?_
  · refine (broadcastInDim_apply _ bcast_S32768x1_S32768x64_0_1 _ _ (ix2 r (0 : Fin 1)) (fun a => match a with
      | ⟨0, _⟩ => by show r.val = if (32768 : Nat) = 1 then 0 else r.val; rw [if_neg (by decide)]
      | ⟨1, _⟩ => by show 0 = if (1 : Nat) = 1 then 0 else e.val; rw [if_pos rfl])).trans ?_
    refine (shapeCast_apply _ shapeCasts_S2x16384_S32768x1 _ (ix2 (⟨r.val / 16384, by omega⟩ : Fin 2) (⟨r.val % 16384, Nat.mod_lt _ (by omega)⟩ : Fin 16384))
      (by rewrite [Shape.rowMajor_val_two, Shape.rowMajor_val_two]; show r.val / 16384 * 16384 + r.val % 16384 = r.val * 1 + 0; omega)).trans ?_
    show sitofp (F := Ideal) .f32 x6 _ = sitofp (F := Ideal) .f32 x6 _
    refine congrArg (sitofp (F := Ideal) .f32 x6) (Shape.idx_ext₂ ?_ ?_)
    · show r.val / 16384 = ((r.val * 1 + 0) * 1 + 0) / 16384; omega
    · show r.val % 16384 = ((r.val * 1 + 0) * 1 + 0) % 16384; omega
  · refine (broadcastInDim_apply _ bcast_S1x64_S32768x64_0_1 _ _ (ix2 (0 : Fin 1) e) (fun a => match a with
      | ⟨0, _⟩ => by show 0 = if (1 : Nat) = 1 then 0 else r.val; rw [if_pos rfl]
      | ⟨1, _⟩ => by show e.val = if (64 : Nat) = 1 then 0 else e.val; rw [if_neg (by decide)])).trans ?_
    refine (broadcastInDim_apply _ bcast_S64_S1x64_1 _ _ (ix1 e) (fun a => match a with
      | ⟨0, _⟩ => by show e.val = if (64 : Nat) = 1 then 0 else e.val; rw [if_neg (by decide)])).trans ?_
    refine Eq.trans (?_ : _ = val_main_v9 (F := Ideal) (ix1 e)) (congrArg (val_main_v9 (F := Ideal)) ?_)
    · rfl
    · funext a
      match a with
      | ⟨0, _⟩ => rfl
end

/-- The two tables. -/
def CT (x6 : IVec S2x16384 32) : FVec Ideal S32768x128 .f32 :=
  concatenate S32768x128 1 [⟨S32768x64, Host.cos (ang x6)⟩, ⟨S32768x64, Host.cos (ang x6)⟩] concatenates_S32768x64_S32768x64_S32768x128_d1
def ST (x6 : IVec S2x16384 32) : FVec Ideal S32768x128 .f32 :=
  concatenate S32768x128 1 [⟨S32768x64, Host.negf (Host.sin (ang x6))⟩, ⟨S32768x64, Host.sin (ang x6)⟩] concatenates_S32768x64_S32768x64_S32768x128_d1

theorem cos_apply (x6 : IVec S2x16384 32) (r : Fin 32768) (e : Fin 64) : Host.cos (ang x6) (ix2 r e) = cs x6 r e := by
  show FloatOps.hostUnary .cos (ang x6 (ix2 r e)) = _
  rw [ang_apply]; rfl
theorem sin_apply (x6 : IVec S2x16384 32) (r : Fin 32768) (e : Fin 64) : Host.sin (ang x6) (ix2 r e) = sn x6 r e := by
  show FloatOps.hostUnary .sin (ang x6 (ix2 r e)) = _
  rw [ang_apply]; rfl

theorem two_apply (a b : FVec Ideal S32768x64 .f32) (r : Fin 32768) (d : Fin 128) :
    concatenate S32768x128 1 [⟨S32768x64, a⟩, ⟨S32768x64, b⟩] concatenates_S32768x64_S32768x64_S32768x128_d1 (ix2 r d)
      = if h : d.val < 64 then a (ix2 r (⟨d.val, h⟩ : Fin 64)) else b (ix2 r (⟨d.val - 64, by omega⟩ : Fin 64)) := by
  have hd := d.isLt
  by_cases h0 : d.val < 64
  · rw [dif_pos h0]
    exact concatenate_apply_piece (t := S32768x128) 1 _ _ (ix2 r d) 0 (by show 0 < 2; omega) S32768x64 _ rfl rfl 0 (by show 0 = 0; omega) (ix2 r (⟨d.val, h0⟩ : Fin 64)) (hoff _ _ _) (by show 0 + d.val = d.val; omega)
  · rw [dif_neg h0]
    exact concatenate_apply_piece (t := S32768x128) 1 _ _ (ix2 r d) 1 (by show 1 < 2; omega) S32768x64 _ rfl rfl 64 (by show 64 + 0 = 64; omega) (ix2 r (⟨d.val - 64, by omega⟩ : Fin 64)) (hoff _ _ _) (by show 64 + (d.val - 64) = d.val; omega)

theorem CT_apply (x6 : IVec S2x16384 32) (r : Fin 32768) (d : Fin 128) : CT x6 (ix2 r d) = ct (cs x6 r) d := by
  unfold CT ct
  rw [two_apply]; simp only [cos_apply]
theorem ST_apply (x6 : IVec S2x16384 32) (r : Fin 32768) (d : Fin 128) : ST x6 (ix2 r d) = st (sn x6 r) d := by
  unfold ST st
  rw [two_apply]
  have h (e : Fin 64) : Host.negf (Host.sin (ang x6)) (ix2 r e) = -sn x6 r e := by
    rw [← sin_apply]; rfl
  simp only [sin_apply, h]

theorem V_v26 (c : Dev nD) : (V m c main_v26 : S2048x4096.Idx → EReal) = W (m ((c : Thread nD τ).loc main_arg1)) := by
  have h : @Eq (FVec Ideal S2048x4096 .bf16) (V m c main_v26)
      (truncf .bf16 (W (m ((c : Thread nD τ).loc main_arg1))) bitsLt_bf16_f32) := by
    show StableHlo.after hostOps0 _ _ = _
    after_results
    rfl
  rw [h]; rfl

theorem V_v44 (c : Dev nD) : @Eq (FVec Ideal S1x4096 .f32) (V m c main_v44) (GN (m ((c : Thread nD τ).loc main_arg2)) (m ((c : Thread nD τ).loc main_arg3))
    (m ((c : Thread nD τ).loc main_arg4)) (m ((c : Thread nD τ).loc main_arg5))) := by
  show StableHlo.after hostOps0 _ _ = _
  after_results
  rfl

theorem V_v18 (c : Dev nD) : @Eq (FVec Ideal S32768x128 .f32) (V m c main_v18) (CT (m ((c : Thread nD τ).loc main_arg6))) := by
  show StableHlo.after hostOps0 _ _ = _
  after_results
  rfl

theorem V_v20 (c : Dev nD) : @Eq (FVec Ideal S32768x128 .f32) (V m c main_v20) (ST (m ((c : Thread nD τ).loc main_arg6))) := by
  show StableHlo.after hostOps0 _ _ = _
  after_results
  rfl

/-! What a point computes. -/

theorem pay2_apply (v0 : Vec Ideal S1024x2048 .bf16) (v1 : Vec Ideal S2048x256 .bf16) (r : Fin 1024) (c : Fin 256) :
    k0_pay2 v0 v1 (ix2 r c) = ∑ k : Fin 2048, v0 (ix2 r k) * v1 (ix2 k c) := by
  unfold k0_pay2
  rw [shapeCast_self]
  refine (Ideal.matmul_plain_apply (M := 1024) (K := 2048) (N := 256) none _ _ _ r c).trans ?_
  rw [constant_apply, Ideal.ofBits_zero_f32, zero_add]

/-- Each row's sum. -/
def rowSm (X : FVec Ideal S1024x128 .f32) : FVec Ideal S1024 .f32 := multiReduction .add [1] S1024 X 0x00000000#32 reduces_S1024x128_S1024 (.inl rfl) rfl

theorem lift_eq (r : Fin 1024) (k : Fin 128) : reduces_S1024x128_S1024.lift (ix1 r) k = ix2 r k := by
  funext a; apply Fin.ext
  match a with
  | ⟨0, _⟩ => rfl
  | ⟨1, _⟩ => rfl

theorem rowSm_apply (X : FVec Ideal S1024x128 .f32) (r : Fin 1024) : rowSm X (ix1 r) = ∑ k : Fin 128, X (ix2 r k) :=
  (Ideal.multiReduction_add_single X 0x00000000#32 reduces_S1024x128_S1024 (.inl rfl) rfl (ix1 r)).trans
    (Finset.sum_congr rfl fun k _ => congrArg X (lift_eq r k))

theorem col_spread (x : FVec Ideal S1024x1 .f32) (r : Fin 1024) (j : Fin 128) :
    broadcastTo S1024x128 x broadcasts_S1024x1_S1024x128 (ix2 r j) = x (ix2 r (0 : Fin 1)) :=
  broadcastTo_apply _ broadcasts_S1024x1_S1024x128 (ix2 r j) (ix2 r (0 : Fin 1)) (fun a => match a with
    | ⟨0, _⟩ => by show r.val = if (1024 : Nat) = 1 then 0 else r.val; rw [if_neg (by decide)]
    | ⟨1, _⟩ => by show 0 = if (1 : Nat) = 1 then 0 else j.val; rw [if_pos rfl])

theorem row_spread (x : FVec Ideal S1x128 .f32) (r : Fin 1024) (j : Fin 128) :
    broadcastTo S1024x128 x broadcasts_S1x128_S1024x128 (ix2 r j) = x (ix2 (0 : Fin 1) j) :=
  broadcastTo_apply _ broadcasts_S1x128_S1024x128 (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])

theorem col_cast (x : FVec Ideal S1024 .f32) (r : Fin 1024) : shapeCast S1024x1 x shapeCasts_S1024_S1024x1 (ix2 r (0 : Fin 1)) = x (ix1 r) :=
  shapeCast_apply x shapeCasts_S1024_S1024x1 (ix2 r (0 : Fin 1)) (ix1 r)
    (by rewrite [Shape.rowMajor_val_one, Shape.rowMajor_val_two]; show r.val = r.val * 1 + 0; omega)

/-- The mean of the squares, with the norm's constant. -/
def mean (X : FVec Ideal S1024x128 .f32) : FVec Ideal S1024x1 .f32 :=
  addf (divf (shapeCast S1024x1 (rowSm (mulf X X)) shapeCasts_S1024_S1024x1) (broadcast S1024x1 (Scalar.ofBits .f32 0x43000000#32))) (broadcast S1024x1 (Scalar.ofBits .f32 0x358637BD#32))

/-- The normed heads times the gain. -/
def nv (X : FVec Ideal S1024x128 .f32) (g : Vec Ideal S1x128 .f32) : FVec Ideal S1024x128 .f32 :=
  mulf (mulf X (broadcastTo S1024x128 (rsqrt (mean X)) broadcasts_S1024x1_S1024x128)) (broadcastTo S1024x128 (shapeCast S1x128 g shapeCasts_S1x128_S1x128) broadcasts_S1x128_S1024x128)

theorem nv_apply (X : FVec Ideal S1024x128 .f32) (g : Vec Ideal S1x128 .f32) (r : Fin 1024) (d : Fin 128) :
    nv X g (ix2 r d) = yy (fun d => X (ix2 r d)) (fun d => g (ix2 (0 : Fin 1) d)) d := by
  show X (ix2 r d) * broadcastTo S1024x128 (rsqrt (mean X)) broadcasts_S1024x1_S1024x128 (ix2 r d)
    * broadcastTo S1024x128 (shapeCast S1x128 g shapeCasts_S1x128_S1x128) broadcasts_S1x128_S1024x128 (ix2 r d) = _
  rw [shapeCast_self, row_spread, col_spread]
  show _ * Ideal.rsqrt (Ideal.div (shapeCast S1024x1 (rowSm (mulf X X)) shapeCasts_S1024_S1024x1 (ix2 r (0 : Fin 1))) (Ideal.ofBits .f32 0x43000000#32) + Ideal.ofBits .f32 0x358637BD#32) * _ = _
  rw [col_cast, rowSm_apply]
  rfl

/-- A head's block of the output. -/
def body (X : FVec Ideal S1024x128 .f32) (g : Vec Ideal S1x128 .f32) (C S : FVec Ideal S1024x128 .f32) : FVec Ideal S1024x128 .bf16 :=
  truncf .bf16 (addf (mulf (nv X g) C) (mulf (dynamicRotate 1 64#32 none (nv X g) rotates_S1024x128_d1) S)) bitsLt_bf16_f32

theorem rot_apply (Y : FVec Ideal S1024x128 .f32) (r : Fin 1024) (d : Fin 128) :
    dynamicRotate 1 64#32 none Y rotates_S1024x128_d1 (ix2 r d) = Y (ix2 r (rot d)) :=
  dynamicRotate_apply (s := S1024x128) (1 : Fin 2) 64#32 Y rotates_S1024x128_d1 (ix2 r d) (ix2 r (rot d)) (fun b => match b with
    | ⟨0, _⟩ => by show r.val = if (0 : Fin 2) = 1 then _ else r.val; rw [if_neg (by decide)]
    | ⟨1, _⟩ => by
      show (d.val + 64) % 128 = if (1 : Fin 2) = 1 then (d.val + 128 - (64#32).toNat % 128) % 128 else _
      rw [if_pos rfl, show (64#32).toNat = 64 from rfl]; omega)

theorem body_apply (X : FVec Ideal S1024x128 .f32) (g : Vec Ideal S1x128 .f32) (C S : FVec Ideal S1024x128 .f32) (r : Fin 1024) (d : Fin 128) :
    body X g C S (ix2 r d) = tk (fun d => X (ix2 r d)) (fun d => g (ix2 (0 : Fin 1) d)) (fun d => C (ix2 r d)) (fun d => S (ix2 r d)) d := by
  show nv X g (ix2 r d) * C (ix2 r d) + dynamicRotate 1 64#32 none (nv X g) rotates_S1024x128_d1 (ix2 r d) * S (ix2 r d) = _
  rw [rot_apply, nv_apply, nv_apply]
  rfl

/-- The half of a block's columns that column `q` is in. -/
def hq (q : Fin 256) (d : Fin 128) : Fin 256 := ⟨q.val / 128 * 128 + d.val, by have := q.isLt; omega⟩

theorem emb_lo (r : Fin 1024) (j : Fin 128) : r0_4.emb (ix2 r j) = ix2 r (⟨j.val, by omega⟩ : Fin 256) :=
  Shape.idx_ext₂ (by show 0 + 1 * r.val = r.val; omega) (by show 0 + 1 * j.val = j.val; omega)
theorem emb_hi (r : Fin 1024) (j : Fin 128) : r0_6.emb (ix2 r j) = ix2 r (⟨128 + j.val, by omega⟩ : Fin 256) :=
  Shape.idx_ext₂ (by show 0 + 1 * r.val = r.val; omega) (by show 128 + 1 * j.val = 128 + j.val; omega)

theorem pair_lo (p1 p0 : Vec Ideal S1024x128 .bf16) (r : Fin 1024) (j : Fin 128) :
    (View.canon [⟨r0_6, p1⟩, ⟨r0_4, p0⟩] : Vec Ideal S1024x256 .bf16) (ix2 r (⟨j.val, by omega⟩ : Fin 256)) = p0 (ix2 r j) := by
  refine (View.canon_cons_of_not_mem _ _ ?_).trans ?_
  · intro h
    have h1 : 128 ≤ j.val := (Rect.mem_set_unit (inb := inb_S1024x256_S1024x128_0_128).mp h 1).1
    omega
  · rw [← emb_lo]; exact View.canon_cons_emb _ _ _ _
theorem pair_hi (p1 p0 : Vec Ideal S1024x128 .bf16) (r : Fin 1024) (j : Fin 128) :
    (View.canon [⟨r0_6, p1⟩, ⟨r0_4, p0⟩] : Vec Ideal S1024x256 .bf16) (ix2 r (⟨128 + j.val, by omega⟩ : Fin 256)) = p1 (ix2 r j) := by
  rw [← emb_hi]; exact View.canon_cons_emb _ _ _ _

theorem gain_lo (x : Vec Ideal S1x256 .f32) (d : Fin 128) : View.ld x r0_3 (ix2 (0 : Fin 1) d) = x (ix2 (0 : Fin 1) (⟨d.val, by omega⟩ : Fin 256)) :=
  View.ld_unit_apply_of _ _ _ _ _ _ fun a => by
    match a with
    | ⟨0, _⟩ => rfl
    | ⟨1, _⟩ => show d.val = 0 + d.val; omega
theorem gain_hi (x : Vec Ideal S1x256 .f32) (d : Fin 128) : View.ld x r0_5 (ix2 (0 : Fin 1) d) = x (ix2 (0 : Fin 1) (⟨128 + d.val, by omega⟩ : Fin 256)) :=
  View.ld_unit_apply_of _ _ _ _ _ _ fun a => by
    match a with
    | ⟨0, _⟩ => rfl
    | ⟨1, _⟩ => show 128 + d.val = 128 + d.val; omega

theorem hz : (![0, 0] : Fin 2 → Nat) = fun _ => 0 := by funext a; fin_cases a <;> rfl

theorem out_apply (x0 : Vec Ideal S1024x2048 .bf16) (x1 : Vec Ideal S2048x256 .bf16) (x2 : Vec Ideal S1x256 .f32) (x3 x4 : Vec Ideal S1024x128 .f32) (r : Fin 1024) (q : Fin 256) :
    out0_5 x0 x1 x2 x3 x4 (ix2 r q) = tk (fun d => ∑ k : Fin 2048, x0 (ix2 r k) * x1 (ix2 k (hq q d))) (fun d => x2 (ix2 (0 : Fin 1) (hq q d)))
      (fun d => x3 (ix2 r d)) (fun d => x4 (ix2 r d)) ⟨q.val % 128, Nat.mod_lt _ (by omega)⟩ := by
  have hql := q.isLt
  have l0 : View.ld x0 r0_0 = x0 := View.ld_unit_zero (S := S1024x2048) hz _ x0
  have l1 : View.ld x1 r0_1 = x1 := View.ld_unit_zero (S := S2048x256) hz _ x1
  have l2 (x : Vec Ideal S1024x128 .f32) : View.ld x r0_2 = x := View.ld_unit_zero (S := S1024x128) hz _ x
  have l3 : k0_pay3 x3 = x3 := shapeCast_self ..
  have l4 : k0_pay4 x4 = x4 := shapeCast_self ..
  unfold out0_5
  rw [l0, l1, l2, l2]
  by_cases h : q.val < 128
  · have eq : q = (⟨(⟨q.val % 128, Nat.mod_lt _ (by omega)⟩ : Fin 128).val, by show q.val % 128 < 256; omega⟩ : Fin 256) := Fin.ext (by show q.val = q.val % 128; omega)
    refine (congrArg (fun z => View.canon _ (ix2 r z)) eq).trans ((pair_lo _ _ r ⟨q.val % 128, Nat.mod_lt _ (by omega)⟩).trans ?_)
    refine (show _ = body (extractStridedSlice S1024x128 ![0, 0] (k0_pay2 x0 x1) slices_S1024x256_o0_0_S1024x128) (View.ld x2 r0_3) (k0_pay3 x3) (k0_pay4 x4) (ix2 r _) from rfl).trans ?_
    rw [body_apply, l3, l4]
    have hd (d : Fin 128) : (⟨d.val, by omega⟩ : Fin 256) = hq q d := Fin.ext (by show d.val = q.val / 128 * 128 + d.val; omega)
    have e1 (d : Fin 128) : extractStridedSlice S1024x128 ![0, 0] (k0_pay2 x0 x1) slices_S1024x256_o0_0_S1024x128 (ix2 r d) = ∑ k : Fin 2048, x0 (ix2 r k) * x1 (ix2 k (hq q d)) := by
      refine (extractStridedSlice_apply _ _ _ _ (ix2 r (⟨d.val, by omega⟩ : Fin 256)) (fun a => ?_)).trans ?_
      · match a with
        | ⟨0, _⟩ => show r.val = 0 + r.val; omega
        | ⟨1, _⟩ => show d.val = 0 + d.val; omega
      · rw [hd, pay2_apply]
    exact tk_congr (funext e1) (funext fun d => (gain_lo x2 d).trans (by rw [hd])) rfl rfl _
  · have eq : q = (⟨128 + (⟨q.val % 128, Nat.mod_lt _ (by omega)⟩ : Fin 128).val, by show 128 + q.val % 128 < 256; omega⟩ : Fin 256) := Fin.ext (by show q.val = 128 + q.val % 128; omega)
    refine (congrArg (fun z => View.canon _ (ix2 r z)) eq).trans ((pair_hi _ _ r ⟨q.val % 128, Nat.mod_lt _ (by omega)⟩).trans ?_)
    refine (show _ = body (extractStridedSlice S1024x128 ![0, 128] (k0_pay2 x0 x1) slices_S1024x256_o0_128_S1024x128) (View.ld x2 r0_5) (k0_pay3 x3) (k0_pay4 x4) (ix2 r _) from rfl).trans ?_
    rw [body_apply, l3, l4]
    have hd (d : Fin 128) : (⟨128 + d.val, by omega⟩ : Fin 256) = hq q d := Fin.ext (by show 128 + d.val = q.val / 128 * 128 + d.val; omega)
    have e1 (d : Fin 128) : extractStridedSlice S1024x128 ![0, 128] (k0_pay2 x0 x1) slices_S1024x256_o0_128_S1024x128 (ix2 r d) = ∑ k : Fin 2048, x0 (ix2 r k) * x1 (ix2 k (hq q d)) := by
      refine (extractStridedSlice_apply _ _ _ _ (ix2 r (⟨128 + d.val, by omega⟩ : Fin 256)) (fun a => ?_)).trans ?_
      · match a with
        | ⟨0, _⟩ => show r.val = 0 + r.val; omega
        | ⟨1, _⟩ => show 128 + d.val = 128 + d.val; omega
      · rw [hd, pay2_apply]
    exact tk_congr (funext e1) (funext fun d => (gain_hi x2 d).trans (by rw [hd])) rfl rfl _

/-! The whole array. -/

/-- Which block each window holds at a point. -/
theorem idx_facts : ∀ t : Fin cfg0.N,
    (win0_0.index t 0 = t.val / 16 ∧ win0_0.index t 1 = 0) ∧ (win0_1.index t 0 = 0 ∧ win0_1.index t 1 = t.val % 16)
    ∧ (win0_2.index t 0 = 0 ∧ win0_2.index t 1 = t.val % 16) ∧ (win0_3.index t 0 = t.val / 16 ∧ win0_3.index t 1 = 0)
    ∧ (win0_4.index t 0 = t.val / 16 ∧ win0_4.index t 1 = 0) ∧ (win0_5.index t 0 = t.val / 16 ∧ win0_5.index t 1 = t.val % 16) :=
  (by decide +kernel : ∀ t : Fin grid0.N, _)

theorem gain_hcol (x2 x3 x4 x5 : S128.Idx → EReal) (j : Fin 4096) (d : Fin 128) :
    gain x2 x3 x4 x5 (hcol j d) (place (hcol j d)) * sc (hcol j d) = gain x2 x3 x4 x5 j d * sc j := by
  have hd := d.isLt
  have e : place (hcol j d) = d := Fin.ext (by show (j.val / 128 * 128 + d.val) % 128 = d.val; omega)
  have e1 : (hcol j d).val < 1024 ↔ j.val < 1024 := by show j.val / 128 * 128 + d.val < 1024 ↔ _; omega
  have e2 : (hcol j d).val < 2048 ↔ j.val < 2048 := by show j.val / 128 * 128 + d.val < 2048 ↔ _; omega
  have e3 : (hcol j d).val < 3072 ↔ j.val < 3072 := by show j.val / 128 * 128 + d.val < 3072 ↔ _; omega
  rw [e]; unfold gain sc; simp only [e1, e2, e3]

/-- The array, of the arguments the region finds. -/
def GG (c : Dev nD) : S32768x4096.Idx → EReal :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! The blocks a point reads. -/

theorem b0_eq (c : Dev nD) (t : Fin cfg0.N) (r : Fin 1024) (R : Fin 32768) (hR : R.val = t.val / 16 * 1024 + r.val) (k : Fin 2048) :
    iblk m c 0 t (ix2 r k) = (m ((c : Thread nD τ).loc main_arg0) : S32768x2048.Idx → EReal) (ix2 R k) := by
  obtain ⟨⟨h00, h01⟩, -⟩ := idx_facts t
  show (V m c main_arg0 : S32768x2048.Idx → EReal) ((win0_0.rect t).emb (ix2 r k)) = _
  rw [V_main_arg0]
  refine congrArg _ (Shape.idx_ext₂ ?_ ?_)
  · rw [win0_0.rect_emb_val t (ix2 r k) 0, h00]; exact hR.symm
  · rw [win0_0.rect_emb_val t (ix2 r k) 1, h01]; show 0 * 2048 + k.val = k.val; omega

theorem b1_eq (c : Dev nD) (t : Fin cfg0.N) (q : Fin 256) (J : Fin 4096) (hJ : J.val = t.val % 16 * 256 + q.val) (k : Fin 2048) (d : Fin 128) :
    iblk m c 1 t (ix2 k (hq q d)) = (m ((c : Thread nD τ).loc main_arg1) : S2048x13392.Idx → EReal) (ix2 k (src (hcol J d))) := by
  obtain ⟨-, ⟨h10, h11⟩, -⟩ := idx_facts t
  have hql := q.isLt
  show (V m c main_v26 : S2048x4096.Idx → EReal) ((win0_1.rect t).emb (ix2 k (hq q d))) = _
  rw [V_v26]
  refine Eq.trans (congrArg _ (?_ : _ = ix2 k (hcol J d))) (W_apply _ k _)
  refine Shape.idx_ext₂ ?_ ?_
  · rw [win0_1.rect_emb_val t (ix2 k (hq q d)) 0, h10]; show 0 * 2048 + k.val = k.val; omega
  · rw [win0_1.rect_emb_val t (ix2 k (hq q d)) 1, h11]; show t.val % 16 * 256 + (q.val / 128 * 128 + d.val) = J.val / 128 * 128 + d.val; omega

theorem b2_eq (c : Dev nD) (t : Fin cfg0.N) (q : Fin 256) (J : Fin 4096) (hJ : J.val = t.val % 16 * 256 + q.val) (d : Fin 128) :
    iblk m c 2 t (ix2 (0 : Fin 1) (hq q d)) = gain (m ((c : Thread nD τ).loc main_arg2)) (m ((c : Thread nD τ).loc main_arg3))
      (m ((c : Thread nD τ).loc main_arg4)) (m ((c : Thread nD τ).loc main_arg5)) J d * sc J := by
  obtain ⟨-, -, ⟨h20, h21⟩, -⟩ := idx_facts t
  have hql := q.isLt
  show (V m c main_v44 : S1x4096.Idx → EReal) ((win0_2.rect t).emb (ix2 (0 : Fin 1) (hq q d))) = _
  rw [V_v44]
  refine Eq.trans (congrArg _ (?_ : _ = ix2 (0 : Fin 1) (hcol J d))) ((GN_apply _ _ _ _ _).trans (gain_hcol _ _ _ _ J d))
  refine Shape.idx_ext₂ ?_ ?_
  · rw [win0_2.rect_emb_val t (ix2 (0 : Fin 1) (hq q d)) 0, h20]; rfl
  · rw [win0_2.rect_emb_val t (ix2 (0 : Fin 1) (hq q d)) 1, h21]; show t.val % 16 * 256 + (q.val / 128 * 128 + d.val) = J.val / 128 * 128 + d.val; omega

theorem b3_eq (c : Dev nD) (t : Fin cfg0.N) (r : Fin 1024) (R : Fin 32768) (hR : R.val = t.val / 16 * 1024 + r.val) (d : Fin 128) :
    iblk m c 3 t (ix2 r d) = ct (cs (m ((c : Thread nD τ).loc main_arg6)) R) d := by
  obtain ⟨-, -, -, ⟨h30, h31⟩, -⟩ := idx_facts t
  show (V m c main_v18 : S32768x128.Idx → EReal) ((win0_3.rect t).emb (ix2 r d)) = _
  rw [V_v18]
  refine Eq.trans (congrArg _ (?_ : _ = ix2 R d)) (CT_apply _ R d)
  refine Shape.idx_ext₂ ?_ ?_
  · rw [win0_3.rect_emb_val t (ix2 r d) 0, h30]; exact hR.symm
  · rw [win0_3.rect_emb_val t (ix2 r d) 1, h31]; show 0 * 128 + d.val = d.val; omega

theorem b4_eq (c : Dev nD) (t : Fin cfg0.N) (r : Fin 1024) (R : Fin 32768) (hR : R.val = t.val / 16 * 1024 + r.val) (d : Fin 128) :
    iblk m c 4 t (ix2 r d) = st (sn (m ((c : Thread nD τ).loc main_arg6)) R) d := by
  obtain ⟨-, -, -, -, ⟨h40, h41⟩, -⟩ := idx_facts t
  show (V m c main_v20 : S32768x128.Idx → EReal) ((win0_4.rect t).emb (ix2 r d)) = _
  rw [V_v20]
  refine Eq.trans (congrArg _ (?_ : _ = ix2 R d)) (ST_apply _ R d)
  refine Shape.idx_ext₂ ?_ ?_
  · rw [win0_4.rect_emb_val t (ix2 r d) 0, h40]; exact hR.symm
  · rw [win0_4.rect_emb_val t (ix2 r d) 1, h41]; show 0 * 128 + d.val = d.val; omega

/-- An element of what a point writes back. -/
theorem point_eq (c : Dev nD) (t : Fin cfg0.N) (r : Fin 1024) (q : Fin 256) (R : Fin 32768) (J : Fin 4096) (hR : R.val = t.val / 16 * 1024 + r.val)
    (hJ : J.val = t.val % 16 * 256 + q.val) :
    out0_5 (iblk m c 0 t) (iblk m c 1 t) (iblk m c 2 t) (iblk m c 3 t) (iblk m c 4 t) (ix2 r q) = GG m c (ix2 R J) := by
  refine (out_apply (iblk m c 0 t) (iblk m c 1 t) (iblk m c 2 t) (iblk m c 3 t) (iblk m c 4 t) r q).trans ?_
  have hql := q.isLt
  have ep : (⟨q.val % 128, Nat.mod_lt _ (by omega)⟩ : Fin 128) = place J := Fin.ext (by show q.val % 128 = J.val % 128; omega)
  rw [ep]
  refine (tk_congr (funext fun d => Finset.sum_congr rfl fun k _ => congrArg₂ (fun a b : EReal => a * b) (b0_eq m c t r R hR k) (b1_eq m c t q J hJ k d))
    (funext fun d => b2_eq m c t q J hJ d) (funext fun d => b3_eq m c t r R hR d) (funext fun d => b4_eq m c t r R hR d) (place J)).trans ?_
  exact tk_eq _ _ _ _ (sc J) (sc_nonneg J) (sc_ne_top J) (place J)

/-- What a point writes back is its block of the array. -/
theorem flushed_eq (c : Dev nD) (t : Fin cfg0.N) : (dats m 0 c).flushed 5 t = ((cfg0.win 5).blk t).view.read (Elt Ideal) (GG m c) := by
  obtain ⟨-, -, -, -, -, h50, h51⟩ := idx_facts t
  rw [Value.flushed5]
  funext y
  obtain ⟨r, q, rfl⟩ : ∃ (r : Fin 1024) (q : Fin 256), y = ix2 r q := ⟨y 0, y 1, eq_ix2 (n0 := 1024) (n1 := 256) y⟩
  have hr : (((win0_5.rect t).emb (ix2 r q)) 0 : ℕ) = t.val / 16 * 1024 + r := by rw [win0_5.rect_emb_val t (ix2 r q) 0, h50]; rfl
  have hc : (((win0_5.rect t).emb (ix2 r q)) 1 : ℕ) = t.val % 16 * 256 + q := by rw [win0_5.rect_emb_val t (ix2 r q) 1, h51]; rfl
  refine (point_eq m c t r q _ _ hr hc).trans ?_
  exact congrArg (GG m c) (eq_ix2 (n0 := 32768) (n1 := 4096) ((win0_5.rect t).emb (ix2 r q))).symm

/-- The blocks fill the array. -/
theorem cover (i : S32768x4096.Idx) : ∃ t : Fin cfg0.N, (cfg0.win 5).flush t = true ∧ i ∈ ((cfg0.win 5).blk t).view.set := by
  have b0 : (i 0).val < 32768 := (i 0).isLt
  have b1 : (i 1).val < 4096 := (i 1).isLt
  let t : Fin cfg0.N := ⟨(i 0).val / 1024 * 16 + (i 1).val / 256, by rw [show cfg0.N = 512 from N_0]; omega⟩
  obtain ⟨-, -, -, -, -, h30, h31⟩ := idx_facts t
  refine ⟨t, flush0_5 t, ?_⟩
  have e : (win0_5.rect t).emb (ix2 (⟨(i 0).val % 1024, Nat.mod_lt _ (by omega)⟩ : Fin 1024) (⟨(i 1).val % 256, Nat.mod_lt _ (by omega)⟩ : Fin 256)) = i := by
    refine Shape.idx_ext₂ ?_ ?_
    · rw [win0_5.rect_emb_val t _ 0, h30]
      show ((i 0).val / 1024 * 16 + (i 1).val / 256) / 16 * 1024 + (i 0).val % 1024 = (i 0).val
      omega
    · rw [win0_5.rect_emb_val t _ 1, h31]
      show ((i 0).val / 1024 * 16 + (i 1).val / 256) % 16 * 256 + (i 1).val % 256 = (i 1).val
      omega
  rw [← e]
  exact ((cfg0.win 5).blk t).view.emb_mem_set _

theorem final (c : Dev nD) : (dats m 0 c).arrAt 5 cfg0.N = GG m c :=
  (dats m 0 c).arrAt_eq_of_cover 5 _ (fun t _ => flushed_eq m c t) cover

theorem algebraic [hQkIdeal : Cert.QkIdeal.Facts] [hQkRefIdeal : Cert.QkRefIdeal.Facts] : Cert.algebraic_QkIdeal_QkRefIdeal := by
  intro m g m' g' _ hag
  refine ⟨fun c => GG m c, ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.QkRefIdeal.Value.run m' g')
    obtain ⟨a0, a1, a2, a3, a4, a5, a6⟩ := hag c
    refine (Cert.QkRefIdeal.Read.val_main_v141_eq _ _).trans ?_
    rw [a0, a1, a2, a3, a4, a5, a6]
    exact QkRef.ref_eq _ _ _ _ _ _ _

end Cert.Proof.QkValue

end
-- ==== Proof.DiffIdealTables.lean ====
/- The differential attention's launch state: what the host writes before the region (the two tables, and the row forms
   of the gain and the lambda vectors), the tables' words, and the side condition the schedule makes of them: every
   block that a table's word places lies inside its array. -/
module

public import proofs.«01_k».proof.Proof.Gen.DiffIdeal.Launch
public import proofs.«01_k».proof.Proof.Gen.DiffIdeal.Skeleton
public import Idealize.ShloMosaic.Lib.Pipeline.FrameBody
public import Idealize.ShloMosaic.Lib.StableHlo.RunRead
public import Idealize.ShloMosaic.Lib.Tactic

@[expose] public section

set_option maxRecDepth 16384

noncomputable section

namespace Cert.Proof.DiffIdeal

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- What the host does not write is as it was launched. -/
theorem V_of_ne (c : Dev nD) {r : Ref sig .tc} (hr : r ∉ [main_c, main_c_0, main_v0, main_v1, main_v2, main_v3, main_v4]) : V m c r = m ((c : Thread nD τ).loc r) :=
  StableHlo.after_of_writes_sub hostOps0 (fun b => m (c, b))
    (StableHlo.forall_writes_sub_of_map (W := [main_c, main_c_0, main_v0, main_v1, main_v2, main_v3, main_v4]) rfl) hr

theorem V_main_c (c : Dev nD) : V m c main_c = fun i => lit0 (S528.rowMajor i) :=
  (StableHlo.after_last_write (ops := hostOps0) (i := 0) [main_c_0, main_v0, main_v1, main_v2, main_v3, main_v4] (r := main_c) rfl rfl (by decide) (fun b => m (c, b))).trans (StableHlo.nullary_result' _ _ _)

theorem V_main_c_0 (c : Dev nD) : V m c main_c_0 = fun i => lit1 (S528.rowMajor i) :=
  (StableHlo.after_last_write (ops := hostOps0) (i := 1) [main_v0, main_v1, main_v2, main_v3, main_v4] (r := main_c_0) rfl rfl (by decide) (fun b => m (c, b))).trans (StableHlo.nullary_result' _ _ _)

theorem V_main_v0 (c : Dev nD) : V m c main_v0 = broadcastInDim S1x256 ![1] bcast_S256_S1x256_1 (m ((c : Thread nD τ).loc main_arg2)) :=
  (StableHlo.after_last_write (ops := hostOps0) (i := 2) [main_v1, main_v2, main_v3, main_v4] (r := main_v0) rfl rfl (by decide) (fun b => m (c, b))).trans
    ((StableHlo.unary_result' _ _ _ _).trans (congrArg (broadcastInDim S1x256 ![1] bcast_S256_S1x256_1)
      (StableHlo.after_unwritten (ops := hostOps0.take 2) [main_c, main_c_0] (r := main_arg2) rfl (by decide) (fun b => m (c, b)))))

theorem V_main_v1 (c : Dev nD) : V m c main_v1 = broadcastInDim S1x128 ![1] bcast_S128_S1x128_1 (m ((c : Thread nD τ).loc main_arg3)) :=
  (StableHlo.after_last_write (ops := hostOps0) (i := 3) [main_v2, main_v3, main_v4] (r := main_v1) rfl rfl (by decide) (fun b => m (c, b))).trans
    ((StableHlo.unary_result' _ _ _ _).trans (congrArg (broadcastInDim S1x128 ![1] bcast_S128_S1x128_1)
      (StableHlo.after_unwritten (ops := hostOps0.take 3) [main_c, main_c_0, main_v0] (r := main_arg3) rfl (by decide) (fun b => m (c, b)))))

theorem V_main_v2 (c : Dev nD) : V m c main_v2 = broadcastInDim S1x128 ![1] bcast_S128_S1x128_1 (m ((c : Thread nD τ).loc main_arg4)) :=
  (StableHlo.after_last_write (ops := hostOps0) (i := 4) [main_v3, main_v4] (r := main_v2) rfl rfl (by decide) (fun b => m (c, b))).trans
    ((StableHlo.unary_result' _ _ _ _).trans (congrArg (broadcastInDim S1x128 ![1] bcast_S128_S1x128_1)
      (StableHlo.after_unwritten (ops := hostOps0.take 4) [main_c, main_c_0, main_v0, main_v1] (r := main_arg4) rfl (by decide) (fun b => m (c, b)))))

theorem V_main_v3 (c : Dev nD) : V m c main_v3 = broadcastInDim S1x128 ![1] bcast_S128_S1x128_1 (m ((c : Thread nD τ).loc main_arg5)) :=
  (StableHlo.after_last_write (ops := hostOps0) (i := 5) [main_v4] (r := main_v3) rfl rfl (by decide) (fun b => m (c, b))).trans
    ((StableHlo.unary_result' _ _ _ _).trans (congrArg (broadcastInDim S1x128 ![1] bcast_S128_S1x128_1)
      (StableHlo.after_unwritten (ops := hostOps0.take 5) [main_c, main_c_0, main_v0, main_v1, main_v2] (r := main_arg5) rfl (by decide) (fun b => m (c, b)))))

theorem V_main_v4 (c : Dev nD) : V m c main_v4 = broadcastInDim S1x128 ![1] bcast_S128_S1x128_1 (m ((c : Thread nD τ).loc main_arg6)) :=
  (StableHlo.after_last_write (ops := hostOps0) (i := 6) [] (r := main_v4) rfl rfl (by decide) (fun b => m (c, b))).trans
    ((StableHlo.unary_result' _ _ _ _).trans (congrArg (broadcastInDim S1x128 ![1] bcast_S128_S1x128_1)
      (StableHlo.after_unwritten (ops := hostOps0.take 6) [main_c, main_c_0, main_v0, main_v1, main_v2, main_v3] (r := main_arg6) rfl (by decide) (fun b => m (c, b)))))

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables' words. -/
theorem words_lt : ∀ n : Fin 528, (lit0 n).toNat < 32 ∧ (lit1 n).toNat < 32 := by decide +kernel

theorem tbl_0 : tbl m 0 = fun i => lit0 (S528.rowMajor i) := V_main_c m 0
theorem tbl_1 : tbl m 1 = fun i => lit1 (S528.rowMajor i) := V_main_c_0 m 0

theorem tbl_q (y : S528.Idx) : (show BitVec 32 from tbl m 0 y).toNat < 32 := by
  rw [tbl_0]; exact (words_lt _).1

theorem tbl_k (y : S528.Idx) : (show BitVec 32 from tbl m 1 y).toNat < 32 := by
  rw [tbl_1]; exact (words_lt _).2

/-- A block's row in units of its height: `b` of the batch's rows and `w` of the table's word. -/
theorem row_eq {b : Nat} (hb : b < 2) (w : BitVec 32) (hw : w.toNat < 32) :
    (Scalar.addi (Scalar.muli (BitVec.ofNat 32 b) (BitVec.ofNat 32 32)) w).toNat = b * 32 + w.toNat := by
  unfold Scalar.addi Scalar.muli IntOp.addi IntOp.muli
  rw [BitVec.toNat_add, BitVec.toNat_mul, BitVec.toNat_ofNat, BitVec.toNat_ofNat, Nat.mod_eq_of_lt (by omega : b < 2 ^ 32),
    Nat.mod_eq_of_lt (by omega : 32 < 2 ^ 32)]
  omega

/-- A block's column: the head after the columns before it. -/
theorem col_eq {j n : Nat} (hj : j < 4) (hn : n ≤ 12) :
    (Scalar.addi (BitVec.ofNat 32 n) (BitVec.ofNat 32 j)).toNat = n + j := by
  unfold Scalar.addi IntOp.addi
  rw [BitVec.toNat_add, BitVec.toNat_ofNat, BitVec.toNat_ofNat, Nat.mod_eq_of_lt (by omega : j < 2 ^ 32),
    Nat.mod_eq_of_lt (by omega : n < 2 ^ 32)]
  omega

theorem batch_lt (i : grid0.Coords) : (i 0).val < 2 := (i 0).isLt
theorem head_lt (i : grid0.Coords) : (i 1).val < 4 := (i 1).isLt

theorem block_inb {H W x j : Nat} (hH : H = 32768)
    (hW : (j + 1) * 256 ≤ W) (hx : x < 64) (a : Fin 2) :
    (![x, j] a + 1) * ![512, 256] a ≤ ![H, W] a :=
  match a with
  | ⟨0, _⟩ => (by subst hH; show (x + 1) * 512 ≤ 32768; omega)
  | ⟨1, _⟩ => hW

theorem row_lt {b : Nat} (hb : b < 2) (w : BitVec 32) (hw : w.toNat < 32) :
    (Scalar.addi (Scalar.muli (BitVec.ofNat 32 b) (BitVec.ofNat 32 32)) w).toNat < 64 := by
  rw [row_eq hb w hw]; omega

theorem col_ok {j n W : Nat} (hj : j < 4) (hn : n ≤ 12) (hW : (n + 4) * 256 ≤ W) :
    ((Scalar.addi (BitVec.ofNat 32 n) (BitVec.ofNat 32 j)).toNat + 1) * 256 ≤ W := by
  rw [col_eq hj hn]; exact (Nat.mul_le_mul_right 256 (by omega : n + j + 1 ≤ n + 4)).trans hW
theorem col_ok0 {j W : Nat} (hj : j < 4) (hW : 4 * 256 ≤ W) : ((BitVec.ofNat 32 j).toNat + 1) * 256 ≤ W := by
  rw [BitVec.toNat_ofNat, Nat.mod_eq_of_lt (by omega : j < 2 ^ 32)]; exact (Nat.mul_le_mul_right 256 (by omega : j + 1 ≤ 4)).trans hW

/-- Every block a table's word places lies inside its array and is whole words. -/
theorem ok : ok0 (F := F) (tbl m) := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · exact block_inb rfl (col_ok (head_lt i) (by decide) (by decide)) (row_lt (batch_lt i) _ (tbl_q m _)) a
  · exact block_inb rfl (col_ok (head_lt i) (by decide) (by decide)) (row_lt (batch_lt i) _ (tbl_k m _)) a
  · exact block_inb rfl (col_ok (head_lt i) (by decide) (by decide)) (row_lt (batch_lt i) _ (tbl_k m _)) a
  · exact block_inb rfl (col_ok (head_lt i) (by decide) (by decide)) (row_lt (batch_lt i) _ (tbl_q m _)) a
  · exact block_inb rfl (col_ok0 (head_lt i) (by decide)) (row_lt (batch_lt i) _ (tbl_q m _)) a

end Cert.Proof.DiffIdeal

end
-- ==== Proof.DiffIdealRun.lean ====
/- One grid point of the differential attention, run. A point below the diagonal folds one key tile into the
   running maximum, sum and product; a point on the diagonal folds the masked tile and writes the output. Either
   may be the first of its row, where the three are first set. -/
module

public import proofs.«01_k».proof.Proof.Gen.DiffIdeal.Launch
public import proofs.«01_k».proof.Proof.Gen.DiffIdeal.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.Proof.DiffIdeal

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The two tables as the body takes them: the query tile and the key tile of each point. -/
abbrev tabQ : Memref sig .tc .smem S528 .i32 := Memref.whole main_c
abbrev tabK : Memref sig .tc .smem S528 .i32 := Memref.whole main_c_0

/-- A table held, at half a share, at contents `f`. -/
abbrev tabPt (c : Dev nD) (M : Memref sig .tc .smem S528 .i32) (f : Buf (Elt F) (M.view.loc (c : Thread nD τ))) : sProp 𝕄 :=
  M.view.loc (c : Thread nD τ) ↦{fullShare.right} f

/-- The halves of a scratch array: one for each of the two softmaxes. -/
abbrev half0 : Rect S2x512x128 := Rect.unit (s := S2x512x128) ![0, 0, 0] S1x512x128.size inb_S2x512x128_S1x512x128_0_0_0
abbrev half1 : Rect S2x512x128 := Rect.unit (s := S2x512x128) ![1, 0, 0] S1x512x128.size inb_S2x512x128_S1x512x128_1_0_0
abbrev wide0 : Rect S2x512x256 := Rect.unit (s := S2x512x256) ![0, 0, 0] S1x512x256.size inb_S2x512x256_S1x512x256_0_0_0
abbrev wide1 : Rect S2x512x256 := Rect.unit (s := S2x512x256) ![1, 0, 0] S1x512x256.size inb_S2x512x256_S1x512x256_1_0_0
/-- The halves of a query or key tile: its columns for each of the two softmaxes. -/
abbrev col0 : Rect S512x256 := Rect.unit (s := S512x256) ![0, 0] S512x128.size inb_S512x256_S512x128_0_0
abbrev col1 : Rect S512x256 := Rect.unit (s := S512x256) ![0, 128] S512x128.size inb_S512x256_S512x128_0_128

/-- The two stored halves, as one array. -/
def both (x0 x1 : Vec F S1x512x128 .f32) : Vec F S2x512x128 .f32 := View.canon [⟨half1, x1⟩, ⟨half0, x0⟩]
def bothW (x0 x1 : Vec F S1x512x256 .f32) : Vec F S2x512x256 .f32 := View.canon [⟨wide1, x1⟩, ⟨wide0, x0⟩]

/-- Below the diagonal: the running maximum, sum and product after one more tile. -/
def belowM (q k : Vec F S512x256 .bf16) (m : Vec F S2x512x128 .f32) : Vec F S2x512x128 .f32 :=
  both (k0_pay15 (k0_pay9 (View.ld q col0) (View.ld k col0) (View.ld m half0)))
    (k0_pay5 (k0_pay18 (View.ld q col1) (View.ld k col1) (View.ld m half1)))
def belowL (q k : Vec F S512x256 .bf16) (m l : Vec F S2x512x128 .f32) : Vec F S2x512x128 .f32 :=
  both (k0_pay12 (View.ld q col0) (View.ld k col0) (View.ld m half0) (View.ld l half0))
    (k0_pay21 (View.ld q col1) (View.ld k col1) (View.ld m half1) (View.ld l half1))
def belowA (q k v : Vec F S512x256 .bf16) (m : Vec F S2x512x128 .f32) (a : Vec F S2x512x256 .f32) : Vec F S2x512x256 .f32 :=
  bothW (k0_pay14 (k0_pay13 v (View.ld q col0) (View.ld k col0) (View.ld m half0) (View.ld a wide0)))
    (k0_pay4 (k0_pay22 (View.ld q col1) (View.ld k col1) (View.ld m half1) (View.ld a wide1)) (k0_pay23 v (View.ld q col1) (View.ld k col1) (View.ld m half1)))

/-- On the diagonal: the same with the scores above the diagonal masked. -/
def diagM0 (q k : Vec F S512x256 .bf16) (m : Vec F S2x512x128 .f32) : Vec F S1x512x128 .f32 :=
  k0_pay34 (k0_pay27 (View.ld q col0) (View.ld k col0) (View.ld m half0))
def diagM1 (q k : Vec F S512x256 .bf16) (m : Vec F S2x512x128 .f32) : Vec F S1x512x128 .f32 :=
  k0_pay43 (k0_pay37 k0_pay24 (View.ld q col1) (View.ld k col1) (View.ld m half1))
def diagL0 (q k : Vec F S512x256 .bf16) (m l : Vec F S2x512x128 .f32) : Vec F S1x512x128 .f32 :=
  k0_pay30 (View.ld q col0) (View.ld k col0) (View.ld m half0) (View.ld l half0)
def diagL1 (q k : Vec F S512x256 .bf16) (m l : Vec F S2x512x128 .f32) : Vec F S1x512x128 .f32 :=
  k0_pay40 k0_pay24 (View.ld q col1) (View.ld k col1) (View.ld m half1) (View.ld l half1)
def diagA0 (q k v : Vec F S512x256 .bf16) (m : Vec F S2x512x128 .f32) (a : Vec F S2x512x256 .f32) : Vec F S1x512x256 .f32 :=
  k0_pay33 (k0_pay31 (View.ld q col0) (View.ld k col0) (View.ld m half0) (View.ld a wide0)) (k0_pay32 v (View.ld q col0) (View.ld k col0) (View.ld m half0))
def diagA1 (q k v : Vec F S512x256 .bf16) (m : Vec F S2x512x128 .f32) (a : Vec F S2x512x256 .f32) : Vec F S1x512x256 .f32 :=
  k0_pay42 v (k0_pay39 k0_pay24 (View.ld q col1) (View.ld k col1) (View.ld m half1)) (k0_pay41 k0_pay24 (View.ld q col1) (View.ld k col1) (View.ld m half1)) (View.ld a wide1)
/-- The output tile, of the two sums and the two products. -/
def outTile (sg : Vec F S512x256 .bf16) (gain : Vec F S1x256 .f32) (lq1 lk1 lq2 lk2 : Vec F S1x128 .f32)
    (l0 l1 : Vec F S1x512x128 .f32) (a0 a1 : Vec F S1x512x256 .f32) : Vec F S512x256 .bf16 :=
  k0_pay6 (k0_pay44 lq1 lk1 lq2 lk2) (k0_pay45 a0) l0 a1 l1 gain sg

/-- The words the two tables hold for a point, and the conditions the body makes of them. -/
def wordOf (i : grid0.Coords) (x : Vec F S528 .i32) : BitVec 32 :=
  View.ld x (Rect.unit (s := S528) (k0_off1 i) S1.size (k0_off1_inb i)) (Shape.Idx.first (by show 0 < S1.numel; rw [numel1_S1]; exact Nat.one_pos))
abbrev isFirst (k : BitVec 32) : BitVec 1 := Scalar.cmpi .ne (Scalar.extui (Scalar.cmpi .eq k 0#32)) 0#32
abbrev isBelow (q k : BitVec 32) : BitVec 1 := Scalar.cmpi .ne (Scalar.extui (Scalar.cmpi .slt k q)) 0#32

theorem cover3 (x0 x1 : Vec F S1x512x128 .f32) (y : S2x512x128.Idx) :
    ∃ p ∈ ([⟨half1, x1⟩, ⟨half0, x0⟩] : List (View.Piece (Elt F) S2x512x128 .f32)), y ∈ p.1.set :=
  View.cover_of_tiled _ ![1, 512, 128] (by sl_kernel_rfl) y
theorem cover3W (x0 x1 : Vec F S1x512x256 .f32) (y : S2x512x256.Idx) :
    ∃ p ∈ ([⟨wide1, x1⟩, ⟨wide0, x0⟩] : List (View.Piece (Elt F) S2x512x256 .f32)), y ∈ p.1.set :=
  View.cover_of_tiled _ ![1, 512, 256] (by sl_kernel_rfl) y

variable {sp : Space}

theorem hz3 : (![0, 0, 0] : Fin 3 → ℕ) = fun _ => 0 := by funext a; match a with | 0 => rfl | 1 => rfl | 2 => rfl
theorem hz2 : (![0, 0] : Fin 2 → ℕ) = fun _ => 0 := by funext a; match a with | 0 => rfl | 1 => rfl

/-- What a guarded pair of stores leaves. -/
theorem two_if (v : View sig .tc sp S2x512x128 .f32) (P : Prop) [Decidable P] (f : v.ty.Contents (Elt F)) (M Y0 Y1) (b : v.read (Elt F) f = M)
    (p0 p1 : Vec F S1x512x128 .f32) (h0 : p0 = Y0) (h1 : p1 = Y1) :
    v.read (Elt F) (if hc : P then v.writes (Elt F) f [⟨half1, p1⟩, ⟨half0, p0⟩] else f) = if P then both Y0 Y1 else M := by
  subst h0 h1
  by_cases h : P
  · rw [dif_pos h, if_pos h]; exact View.read_writes_eq_canon _ _ _ (cover3 p0 p1)
  · rw [dif_neg h, if_neg h]; exact b
theorem two_ifW (v : View sig .tc sp S2x512x256 .f32) (P : Prop) [Decidable P] (f : v.ty.Contents (Elt F)) (M Y0 Y1) (b : v.read (Elt F) f = M)
    (p0 p1 : Vec F S1x512x256 .f32) (h0 : p0 = Y0) (h1 : p1 = Y1) :
    v.read (Elt F) (if hc : P then v.writes (Elt F) f [⟨wide1, p1⟩, ⟨wide0, p0⟩] else f) = if P then bothW Y0 Y1 else M := by
  subst h0 h1
  by_cases h : P
  · rw [dif_pos h, if_pos h]; exact View.read_writes_eq_canon _ _ _ (cover3W p0 p1)
  · rw [dif_neg h, if_neg h]; exact b

/-- What a guarded store of a whole buffer leaves. -/
theorem one_if {s : Shape} {e : EltTy} (v : View sig .tc sp s e) (P : Prop) [Decidable P] {off : Fin s.rank → ℕ} (hz : off = fun _ => 0)
    (inb : ∀ a, off a + s.size a ≤ s.size a) (f : v.ty.Contents (Elt F)) (M Y) (b : v.read (Elt F) f = M) (p : Vec F s e) (h0 : p = Y) :
    v.read (Elt F) (if hc : P then v.writes (Elt F) f [⟨Rect.unit off s.size inb, p⟩] else f) = if P then Y else M := by
  subst h0
  by_cases h : P
  · rw [dif_pos h, if_pos h, View.read_writes_eq_canon _ _ _ (fun y => ⟨_, List.mem_singleton_self _, View.mem_set_unit_zero hz inb y⟩)]
    exact View.canon_unit_zero hz inb p
  · rw [dif_neg h, if_neg h]; exact b

theorem disj_half : Disjoint half1.set half0.toLoadRect.set := by
  rw [Finset.disjoint_left]; intro y h h'
  have e1 : 1 ≤ (y 0 : ℕ) := (Rect.mem_set_unit.mp h 0).1
  have e2 : (y 0 : ℕ) < 0 + 1 := (Rect.mem_set_unit (inb := inb_S2x512x128_S1x512x128_0_0_0).mp h' 0).2
  omega
theorem disj_wide : Disjoint wide1.set wide0.toLoadRect.set := by
  rw [Finset.disjoint_left]; intro y h h'
  have e1 : 1 ≤ (y 0 : ℕ) := (Rect.mem_set_unit.mp h 0).1
  have e2 : (y 0 : ℕ) < 0 + 1 := (Rect.mem_set_unit (inb := inb_S2x512x256_S1x512x256_0_0_0).mp h' 0).2
  omega

theorem ld0 (v : View sig .tc sp S2x512x128 .f32) (p0 p1 : Vec F S1x512x128 .f32) :
    v.readCov (Val := Elt F) [⟨half1, p1⟩, ⟨half0, p0⟩] half0.toLoadRect = p0 :=
  by
  rw [View.readCov_cons_of_disjoint v ⟨half1, p1⟩ [⟨half0, p0⟩] half0.toLoadRect disj_half]
  exact View.readCov_cons_toLoadRect v half0 p0 []
theorem ld1 (v : View sig .tc sp S2x512x128 .f32) (p0 p1 : Vec F S1x512x128 .f32) :
    v.readCov (Val := Elt F) [⟨half1, p1⟩, ⟨half0, p0⟩] half1.toLoadRect = p1 := View.readCov_cons_toLoadRect _ _ _ _
theorem ld0W (v : View sig .tc sp S2x512x256 .f32) (p0 p1 : Vec F S1x512x256 .f32) :
    v.readCov (Val := Elt F) [⟨wide1, p1⟩, ⟨wide0, p0⟩] wide0.toLoadRect = p0 :=
  by
  rw [View.readCov_cons_of_disjoint v ⟨wide1, p1⟩ [⟨wide0, p0⟩] wide0.toLoadRect disj_wide]
  exact View.readCov_cons_toLoadRect v wide0 p0 []
theorem ld1W (v : View sig .tc sp S2x512x256 .f32) (p0 p1 : Vec F S1x512x256 .f32) :
    v.readCov (Val := Elt F) [⟨wide1, p1⟩, ⟨wide0, p0⟩] wide1.toLoadRect = p1 := View.readCov_cons_toLoadRect _ _ _ _

/-- The running maximum, sum and product at a point before the diagonal's own fold: set at a row's first point, then
    folded below the diagonal. -/
def midM (k0 kb : BitVec 1) (q k : Vec F S512x256 .bf16) (m : Vec F S2x512x128 .f32) : Vec F S2x512x128 .f32 :=
  if kb = 1#1 then belowM q k (if k0 = 1#1 then k0_pay1 else m) else if k0 = 1#1 then k0_pay1 else m
def midL (k0 kb : BitVec 1) (q k : Vec F S512x256 .bf16) (m l : Vec F S2x512x128 .f32) : Vec F S2x512x128 .f32 :=
  if kb = 1#1 then belowL q k (if k0 = 1#1 then k0_pay1 else m) (if k0 = 1#1 then k0_pay2 else l) else if k0 = 1#1 then k0_pay2 else l
def midA (k0 kb : BitVec 1) (q k v : Vec F S512x256 .bf16) (m : Vec F S2x512x128 .f32) (a : Vec F S2x512x256 .f32) : Vec F S2x512x256 .f32 :=
  if kb = 1#1 then belowA q k v (if k0 = 1#1 then k0_pay1 else m) (if k0 = 1#1 then k0_pay3 else a) else if k0 = 1#1 then k0_pay3 else a

theorem c3 {α β γ δ : Type _} (f : α → β → γ → δ) {a a' : α} {b b' : β} {c c' : γ} (ha : a = a') (hb : b = b') (hc : c = c') : f a b c = f a' b' c' := by
  subst ha hb hc; rfl
theorem c4 {α β γ δ ε : Type _} (f : α → β → γ → δ → ε) {a a' : α} {b b' : β} {c c' : γ} {d d' : δ} (ha : a = a') (hb : b = b') (hc : c = c') (hd : d = d') : f a b c d = f a' b' c' d' := by
  subst ha hb hc hd; rfl
theorem c5 {α β γ δ ε ζ : Type _} (f : α → β → γ → δ → ε → ζ) {a a' : α} {b b' : β} {c c' : γ} {d d' : δ} {e e' : ε} (ha : a = a') (hb : b = b') (hc : c = c') (hd : d = d') (he : e = e') : f a b c d e = f a' b' c' d' e' := by
  subst ha hb hc hd he; rfl

/-- What a point leaves in the running maximum, sum and product, and in the output's tile. -/
def nM (i : grid0.Coords) (xq xk : Vec F S528 .i32) (x5 x6 : Vec F S512x256 .bf16) (x15 : Vec F S2x512x128 .f32) : Vec F S2x512x128 .f32 :=
  (if k0_cond3 (wordOf i xq) (wordOf i xk) = 1#1 then both (diagM0 x5 x6 (midM (isFirst (wordOf i xk)) (isBelow (wordOf i xq) (wordOf i xk)) x5 x6 x15)) (diagM1 x5 x6 (midM (isFirst (wordOf i xk)) (isBelow (wordOf i xq) (wordOf i xk)) x5 x6 x15)) else (midM (isFirst (wordOf i xk)) (isBelow (wordOf i xq) (wordOf i xk)) x5 x6 x15))
def nL (i : grid0.Coords) (xq xk : Vec F S528 .i32) (x5 x6 : Vec F S512x256 .bf16) (x15 x16 : Vec F S2x512x128 .f32) : Vec F S2x512x128 .f32 :=
  (if k0_cond3 (wordOf i xq) (wordOf i xk) = 1#1 then both (diagL0 x5 x6 (midM (isFirst (wordOf i xk)) (isBelow (wordOf i xq) (wordOf i xk)) x5 x6 x15) (midL (isFirst (wordOf i xk)) (isBelow (wordOf i xq) (wordOf i xk)) x5 x6 x15 x16)) (diagL1 x5 x6 (midM (isFirst (wordOf i xk)) (isBelow (wordOf i xq) (wordOf i xk)) x5 x6 x15) (midL (isFirst (wordOf i xk)) (isBelow (wordOf i xq) (wordOf i xk)) x5 x6 x15 x16)) else (midL (isFirst (wordOf i xk)) (isBelow (wordOf i xq) (wordOf i xk)) x5 x6 x15 x16))
def nA (i : grid0.Coords) (xq xk : Vec F S528 .i32) (x5 x6 x7 : Vec F S512x256 .bf16) (x15 : Vec F S2x512x128 .f32) (x17 : Vec F S2x512x256 .f32) : Vec F S2x512x256 .f32 :=
  (if k0_cond3 (wordOf i xq) (wordOf i xk) = 1#1 then bothW (diagA0 x5 x6 x7 (midM (isFirst (wordOf i xk)) (isBelow (wordOf i xq) (wordOf i xk)) x5 x6 x15) (midA (isFirst (wordOf i xk)) (isBelow (wordOf i xq) (wordOf i xk)) x5 x6 x7 x15 x17)) (diagA1 x5 x6 x7 (midM (isFirst (wordOf i xk)) (isBelow (wordOf i xq) (wordOf i xk)) x5 x6 x15) (midA (isFirst (wordOf i xk)) (isBelow (wordOf i xq) (wordOf i xk)) x5 x6 x7 x15 x17)) else (midA (isFirst (wordOf i xk)) (isBelow (wordOf i xq) (wordOf i xk)) x5 x6 x7 x15 x17))
def nO (i : grid0.Coords) (xq xk : Vec F S528 .i32) (x5 x6 x7 x8 : Vec F S512x256 .bf16) (x9 : Vec F S1x256 .f32) (x10 x11 x12 x13 : Vec F S1x128 .f32)
    (x14 : Vec F S512x256 .bf16) (x15 x16 : Vec F S2x512x128 .f32) (x17 : Vec F S2x512x256 .f32) : Vec F S512x256 .bf16 :=
  (if k0_cond3 (wordOf i xq) (wordOf i xk) = 1#1 then outTile x8 x9 x10 x11 x12 x13 (diagL0 x5 x6 (midM (isFirst (wordOf i xk)) (isBelow (wordOf i xq) (wordOf i xk)) x5 x6 x15) (midL (isFirst (wordOf i xk)) (isBelow (wordOf i xq) (wordOf i xk)) x5 x6 x15 x16)) (diagL1 x5 x6 (midM (isFirst (wordOf i xk)) (isBelow (wordOf i xq) (wordOf i xk)) x5 x6 x15) (midL (isFirst (wordOf i xk)) (isBelow (wordOf i xq) (wordOf i xk)) x5 x6 x15 x16)) (diagA0 x5 x6 x7 (midM (isFirst (wordOf i xk)) (isBelow (wordOf i xq) (wordOf i xk)) x5 x6 x15) (midA (isFirst (wordOf i xk)) (isBelow (wordOf i xq) (wordOf i xk)) x5 x6 x7 x15 x17)) (diagA1 x5 x6 x7 (midM (isFirst (wordOf i xk)) (isBelow (wordOf i xq) (wordOf i xk)) x5 x6 x15) (midA (isFirst (wordOf i xk)) (isBelow (wordOf i xq) (wordOf i xk)) x5 x6 x7 x15 x17)) else x14)

set_option maxHeartbeats 8000000 in
/-- A point's run: the inputs stay, the scratch and the output end at what the point's words say. -/
theorem point_run (c : Dev nD) (i : grid0.Coords)
    (arg5 : Memref sig .tc .vmem S512x256 .bf16) (harg5 : arg5.IsWhole)
    (arg6 : Memref sig .tc .vmem S512x256 .bf16) (harg6 : arg6.IsWhole)
    (arg7 : Memref sig .tc .vmem S512x256 .bf16) (harg7 : arg7.IsWhole)
    (arg8 : Memref sig .tc .vmem S512x256 .bf16) (harg8 : arg8.IsWhole)
    (arg9 : Memref sig .tc .vmem S1x256 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S512x256 .bf16) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x512x256 .f32) (harg17 : arg17.IsWhole)
    (x5 : Vec F S512x256 .bf16) (x6 : Vec F S512x256 .bf16) (x7 : Vec F S512x256 .bf16) (x8 : Vec F S512x256 .bf16) (x9 : Vec F S1x256 .f32) (x10 : Vec F S1x128 .f32) (x11 : Vec F S1x128 .f32) (x12 : Vec F S1x128 .f32) (x13 : Vec F S1x128 .f32) (x14 : Vec F S512x256 .bf16) (x15 : Vec F S2x512x128 .f32) (x16 : Vec F S2x512x128 .f32) (x17 : Vec F S2x512x256 .f32)
    (xq : Vec F S528 .i32) (xk : Vec F S528 .i32)
    (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ tabPt c tabQ xq ∗ tabPt c tabK xk
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (nO i xq xk x5 x6 x7 x8 x9 x10 x11 x12 x13 x14 x15 x16 x17) ∗ owns (c : Thread nD τ) arg15 fullShare (nM i xq xk x5 x6 x15) ∗ owns (c : Thread nD τ) arg16 fullShare (nL i xq xk x5 x6 x15 x16) ∗ owns (c : Thread nD τ) arg17 fullShare (nA i xq xk x5 x6 x7 x15 x17) ∗ tabPt c tabQ xq ∗ tabPt c tabK xk) -∗ K ⟨⟩))
      ⊢ wp frame (wpE (defs₀ (F := F)) Variants.none c none) E
          (cc0_attn_b i tabQ (Memref.isWhole_whole _) tabK (Memref.isWhole_whole _) arg5 harg5 arg6 harg6 arg7 harg7 arg8 harg8 arg9 harg9 arg10 harg10 arg11 harg11 arg12 harg12 arg13 harg13 arg14 harg14 arg15 harg15 arg16 harg16 arg17 harg17) K := by
  simp only [cc0_attn_b_eq_skeleton]; unfold cc0_attn_b_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, HQ, HK, Hk⟩
  obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  have e7 : arg7.view.readAt (Elt F) (Rect.unit (s := S512x256) ![0, 0] S512x256.size inb_S512x256_S512x256_0_0).toLoadRect (harg7.unread x7) = x7 :=
    (congrArg (fun X => View.ld X (Rect.unit (s := S512x256) ![0, 0] S512x256.size inb_S512x256_S512x256_0_0)) (harg7.read_unread x7)).trans (View.ld_unit_zero (S := S512x256) hz2 _ x7)
  have e8 : arg8.view.readAt (Elt F) (Rect.unit (s := S512x256) ![0, 0] S512x256.size inb_S512x256_S512x256_0_0).toLoadRect (harg8.unread x8) = x8 :=
    (congrArg (fun X => View.ld X (Rect.unit (s := S512x256) ![0, 0] S512x256.size inb_S512x256_S512x256_0_0)) (harg8.read_unread x8)).trans (View.ld_unit_zero (S := S512x256) hz2 _ x8)
  have e9 : arg9.view.readAt (Elt F) (Rect.unit (s := S1x256) ![0, 0] S1x256.size inb_S1x256_S1x256_0_0).toLoadRect (harg9.unread x9) = x9 :=
    (congrArg (fun X => View.ld X (Rect.unit (s := S1x256) ![0, 0] S1x256.size inb_S1x256_S1x256_0_0)) (harg9.read_unread x9)).trans (View.ld_unit_zero (S := S1x256) hz2 _ x9)
  have e10 : arg10.view.readAt (Elt F) (Rect.unit (s := S1x128) ![0, 0] S1x128.size inb_S1x128_S1x128_0_0).toLoadRect (harg10.unread x10) = x10 :=
    (congrArg (fun X => View.ld X (Rect.unit (s := S1x128) ![0, 0] S1x128.size inb_S1x128_S1x128_0_0)) (harg10.read_unread x10)).trans (View.ld_unit_zero (S := S1x128) hz2 _ x10)
  have e11 : arg11.view.readAt (Elt F) (Rect.unit (s := S1x128) ![0, 0] S1x128.size inb_S1x128_S1x128_0_0).toLoadRect (harg11.unread x11) = x11 :=
    (congrArg (fun X => View.ld X (Rect.unit (s := S1x128) ![0, 0] S1x128.size inb_S1x128_S1x128_0_0)) (harg11.read_unread x11)).trans (View.ld_unit_zero (S := S1x128) hz2 _ x11)
  have e12 : arg12.view.readAt (Elt F) (Rect.unit (s := S1x128) ![0, 0] S1x128.size inb_S1x128_S1x128_0_0).toLoadRect (harg12.unread x12) = x12 :=
    (congrArg (fun X => View.ld X (Rect.unit (s := S1x128) ![0, 0] S1x128.size inb_S1x128_S1x128_0_0)) (harg12.read_unread x12)).trans (View.ld_unit_zero (S := S1x128) hz2 _ x12)
  have e13 : arg13.view.readAt (Elt F) (Rect.unit (s := S1x128) ![0, 0] S1x128.size inb_S1x128_S1x128_0_0).toLoadRect (harg13.unread x13) = x13 :=
    (congrArg (fun X => View.ld X (Rect.unit (s := S1x128) ![0, 0] S1x128.size inb_S1x128_S1x128_0_0)) (harg13.read_unread x13)).trans (View.ld_unit_zero (S := S1x128) hz2 _ x13)
  have b0m : arg15.view.read (Elt F) (if hc : point_run.sl.v6 i xk = 1#1 then arg15.view.writes (Elt F) (harg15.unread x15) [⟨Rect.unit ![0, 0, 0] S2x512x128.size inb_S2x512x128_S2x512x128_0_0_0, k0_pay1⟩] else harg15.unread x15) = if isFirst (wordOf i xk) = 1#1 then k0_pay1 else x15 := one_if _ _ hz3 _ _ _ _ (harg15.read_unread x15) _ rfl
  have b0l : arg16.view.read (Elt F) (if hc : point_run.sl.v6 i xk = 1#1 then arg16.view.writes (Elt F) (harg16.unread x16) [⟨Rect.unit ![0, 0, 0] S2x512x128.size inb_S2x512x128_S2x512x128_0_0_0, k0_pay2⟩] else harg16.unread x16) = if isFirst (wordOf i xk) = 1#1 then k0_pay2 else x16 := one_if _ _ hz3 _ _ _ _ (harg16.read_unread x16) _ rfl
  have b0a : arg17.view.read (Elt F) (if hc : point_run.sl.v6 i xk = 1#1 then arg17.view.writes (Elt F) (harg17.unread x17) [⟨Rect.unit ![0, 0, 0] S2x512x256.size inb_S2x512x256_S2x512x256_0_0_0, k0_pay3⟩] else harg17.unread x17) = if isFirst (wordOf i xk) = 1#1 then k0_pay3 else x17 := one_if _ _ hz3 _ _ _ _ (harg17.read_unread x17) _ rfl
  have b1m : arg15.view.read (Elt F) (if hc : point_run.sl.v9 i xq xk = 1#1 then arg15.view.writes (Elt F) (if hc : point_run.sl.v6 i xk = 1#1 then arg15.view.writes (Elt F) (harg15.unread x15) [⟨Rect.unit ![0, 0, 0] S2x512x128.size inb_S2x512x128_S2x512x128_0_0_0, k0_pay1⟩] else harg15.unread x15) [⟨half1, k0_pay5 (point_run.sl.v59 c i arg5 harg5 arg6 harg6 arg15 harg15 x5 x6 x15 xk)⟩, ⟨half0, point_run.sl.v50 c i arg5 harg5 arg6 harg6 arg15 harg15 x5 x6 x15 xk⟩] else (if hc : point_run.sl.v6 i xk = 1#1 then arg15.view.writes (Elt F) (harg15.unread x15) [⟨Rect.unit ![0, 0, 0] S2x512x128.size inb_S2x512x128_S2x512x128_0_0_0, k0_pay1⟩] else harg15.unread x15)) = (midM (isFirst (wordOf i xk)) (isBelow (wordOf i xq) (wordOf i xk)) x5 x6 x15) := two_if _ _ _ _ _ _ b0m _ _ (c3 (fun q k m => k0_pay15 (k0_pay9 (View.ld q col0) (View.ld k col0) (View.ld m half0))) (harg5.read_unread x5) (harg6.read_unread x6) b0m) (c3 (fun q k m => k0_pay5 (k0_pay18 (View.ld q col1) (View.ld k col1) (View.ld m half1))) (harg5.read_unread x5) (harg6.read_unread x6) b0m)
  have b1l : arg16.view.read (Elt F) (if hc : point_run.sl.v9 i xq xk = 1#1 then arg16.view.writes (Elt F) (if hc : point_run.sl.v6 i xk = 1#1 then arg16.view.writes (Elt F) (harg16.unread x16) [⟨Rect.unit ![0, 0, 0] S2x512x128.size inb_S2x512x128_S2x512x128_0_0_0, k0_pay2⟩] else harg16.unread x16) [⟨half1, point_run.sl.v74 c i arg5 harg5 arg6 harg6 arg15 harg15 arg16 harg16 x5 x6 x15 x16 xk⟩, ⟨half0, point_run.sl.v37 c i arg5 harg5 arg6 harg6 arg15 harg15 arg16 harg16 x5 x6 x15 x16 xk⟩] else (if hc : point_run.sl.v6 i xk = 1#1 then arg16.view.writes (Elt F) (harg16.unread x16) [⟨Rect.unit ![0, 0, 0] S2x512x128.size inb_S2x512x128_S2x512x128_0_0_0, k0_pay2⟩] else harg16.unread x16)) = (midL (isFirst (wordOf i xk)) (isBelow (wordOf i xq) (wordOf i xk)) x5 x6 x15 x16) := two_if _ _ _ _ _ _ b0l _ _ (c4 (fun q k m l => k0_pay12 (View.ld q col0) (View.ld k col0) (View.ld m half0) (View.ld l half0)) (harg5.read_unread x5) (harg6.read_unread x6) b0m b0l) (c4 (fun q k m l => k0_pay21 (View.ld q col1) (View.ld k col1) (View.ld m half1) (View.ld l half1)) (harg5.read_unread x5) (harg6.read_unread x6) b0m b0l)
  have b1a : arg17.view.read (Elt F) (if hc : point_run.sl.v9 i xq xk = 1#1 then arg17.view.writes (Elt F) (if hc : point_run.sl.v6 i xk = 1#1 then arg17.view.writes (Elt F) (harg17.unread x17) [⟨Rect.unit ![0, 0, 0] S2x512x256.size inb_S2x512x256_S2x512x256_0_0_0, k0_pay3⟩] else harg17.unread x17) [⟨wide1, k0_pay4 (point_run.sl.v78 c i arg5 harg5 arg6 harg6 arg15 harg15 arg17 harg17 x5 x6 x15 x17 xk) (point_run.sl.v80 c i arg5 harg5 arg6 harg6 arg7 harg7 arg15 harg15 x5 x6 x7 x15 xk)⟩, ⟨wide0, point_run.sl.v47 c i arg5 harg5 arg6 harg6 arg7 harg7 arg15 harg15 arg17 harg17 x5 x6 x7 x15 x17 xk⟩] else (if hc : point_run.sl.v6 i xk = 1#1 then arg17.view.writes (Elt F) (harg17.unread x17) [⟨Rect.unit ![0, 0, 0] S2x512x256.size inb_S2x512x256_S2x512x256_0_0_0, k0_pay3⟩] else harg17.unread x17)) = (midA (isFirst (wordOf i xk)) (isBelow (wordOf i xq) (wordOf i xk)) x5 x6 x7 x15 x17) := two_ifW _ _ _ _ _ _ b0a _ _ (c5 (fun q k v m a => k0_pay14 (k0_pay13 v (View.ld q col0) (View.ld k col0) (View.ld m half0) (View.ld a wide0))) (harg5.read_unread x5) (harg6.read_unread x6) e7 b0m b0a) (c5 (fun q k v m a => k0_pay4 (k0_pay22 (View.ld q col1) (View.ld k col1) (View.ld m half1) (View.ld a wide1)) (k0_pay23 v (View.ld q col1) (View.ld k col1) (View.ld m half1))) (harg5.read_unread x5) (harg6.read_unread x6) e7 b0m b0a)
  iapply Hk
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact harg10.read_unread x10
    iexact H10
  isplitl [H11]
  · iexists _; isplitr; · ipureintro; exact harg11.read_unread x11
    iexact H11
  isplitl [H12]
  · iexists _; isplitr; · ipureintro; exact harg12.read_unread x12
    iexact H12
  isplitl [H13]
  · iexists _; isplitr; · ipureintro; exact harg13.read_unread x13
    iexact H13
  isplitl [H14]
  · iexists _; isplitr; swap; · iexact H14
    ipureintro
    refine one_if _ _ hz2 _ _ _ _ (harg14.read_unread x14) _ ?_
    have g0 := c4 (fun q k m l => diagL0 q k m l) (harg5.read_unread x5) (harg6.read_unread x6) b1m b1l
    have g1 := c4 (fun q k m l => diagL1 q k m l) (harg5.read_unread x5) (harg6.read_unread x6) b1m b1l
    have g2 := c5 (fun q k v m a => diagA0 q k v m a) (harg5.read_unread x5) (harg6.read_unread x6) e7 b1m b1a
    have g3 := c5 (fun q k v m a => diagA1 q k v m a) (harg5.read_unread x5) (harg6.read_unread x6) e7 b1m b1a
    exact (c4 (fun l0 l1 a0 a1 => k0_pay6 _ (k0_pay45 a0) l0 a1 l1 _ _) ((ld0 _ _ _).trans g0) ((ld1 _ _ _).trans g1) ((ld0W _ _ _).trans g2) ((ld1W _ _ _).trans g3)).trans
      ((c4 (fun z0 z1 z2 z3 => k0_pay6 (k0_pay44 z0 z1 z2 z3) _ _ _ _ _ _) e10 e11 e12 e13).trans (congrArg₂ (fun z0 z1 => k0_pay6 _ _ _ _ _ z0 z1) e9 e8))
  isplitl [H15]
  · iexists _; isplitr; swap; · iexact H15
    ipureintro
    exact two_if _ _ _ _ _ _ b1m _ _ (c3 (fun q k m => diagM0 q k m) (harg5.read_unread x5) (harg6.read_unread x6) b1m) (c3 (fun q k m => diagM1 q k m) (harg5.read_unread x5) (harg6.read_unread x6) b1m)
  isplitl [H16]
  · iexists _; isplitr; swap; · iexact H16
    ipureintro
    exact two_if _ _ _ _ _ _ b1l _ _ (c4 (fun q k m l => diagL0 q k m l) (harg5.read_unread x5) (harg6.read_unread x6) b1m b1l) (c4 (fun q k m l => diagL1 q k m l) (harg5.read_unread x5) (harg6.read_unread x6) b1m b1l)
  isplitl [H17]
  · iexists _; isplitr; swap; · iexact H17
    ipureintro
    exact two_ifW _ _ _ _ _ _ b1a _ _ (c5 (fun q k v m a => diagA0 q k v m a) (harg5.read_unread x5) (harg6.read_unread x6) e7 b1m b1a) (c5 (fun q k v m a => diagA1 q k v m a) (harg5.read_unread x5) (harg6.read_unread x6) e7 b1m b1a)
  isplitl [HQ]; · iexact HQ
  iexact HK

end Cert.Proof.DiffIdeal

end
-- ==== Proof.DiffIdealFrame.lean ====
/- The frame of the differential attention: the proof data of its one pipeline, the body's obligation from one point's
   run, and the launch. What the running maximum, sum and product hold before a point, and what the output's tile holds
   after it, are a parameter: held to nothing they give the frame, and held to the attention's partial sums its value. -/
module

public import proofs.«01_k».proof.Proof.DiffIdealTables
public import proofs.«01_k».proof.Proof.DiffIdealRun
public import Idealize.ShloMosaic.Lib.Pipeline.DatRel
public import Idealize.ShloMosaic.Lib.Claim

@[expose] public section

set_option maxRecDepth 16384

noncomputable section

namespace Cert.Proof.DiffIdeal

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The schedule at the tables' contents. -/
abbrev adm : (pcfg0 (F := F)).Adm := ⟨tbl m, ok m⟩
abbrev cfgM : Pipeline.Cfg sig Λ₀ := cfg0 (adm m)

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem PhiT0_eq (c : Dev nD) :
    (Pipeline.ΦT pre0 (tbl m) c : sProp 𝕄) = iprop(tabPt c tabQ (tbl m 0) ∗ tabPt c tabK (tbl m 1)) := by
  unfold Pipeline.ΦT Pipeline.prefHeld
  rw [show (Finset.univ : Finset (Fin 2)) = insert (0 : Fin 2) {(1 : Fin 2)} from by decide,
    bigSep_insert (by decide), bigSep_singleton]
  rfl

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The output's window is not named. -/
def forgets0 : Fin 10 → Bool := fun w => w.val == 9

def dats (Inv : Fin ((cfgM m).N + 1) → Vec F S2x512x128 .f32 → Vec F S2x512x128 .f32 → Vec F S2x512x256 .f32 → Prop) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfgM m) ⟨9, h⟩ t
  Φ t := iprop((∃ d0 d1 d2, ⌜Inv t d0 d1 d2⌝ ∗ owns (c : Thread nD τ) (Memref.whole cc0_scratch0) fullShare d0 ∗ owns (c : Thread nD τ) (Memref.whole cc0_scratch1) fullShare d1 ∗ owns (c : Thread nD τ) (Memref.whole cc0_scratch2) fullShare d2)
      ∗ (∃ r, prngReg c r) ∗ tabPt c tabQ (tbl m 0) ∗ tabPt c tabK (tbl m 1))
  q w := Pipeline.shareOf spec0 w
  owed _ := 0

variable (Inv : Fin ((cfgM m).N + 1) → Vec F S2x512x128 .f32 → Vec F S2x512x128 .f32 → Vec F S2x512x256 .f32 → Prop)

theorem A_eq (c : Dev nD) (w : Fin (cfgM m).W) : (dats m Inv 0 c).A w = V m c (Pipeline.arrRef spec0 w) := by
  dsimp only [dats]

theorem after_0 (c : Dev nD) (t : Fin (cfgM m).N) : (dats m Inv 0 c).after 0 t = iblk m c 0 t := by dsimp only [dats]; try rfl
theorem after_1 (c : Dev nD) (t : Fin (cfgM m).N) : (dats m Inv 0 c).after 1 t = iblk m c 1 t := by dsimp only [dats]; try rfl
theorem after_2 (c : Dev nD) (t : Fin (cfgM m).N) : (dats m Inv 0 c).after 2 t = iblk m c 2 t := by dsimp only [dats]; try rfl
theorem after_3 (c : Dev nD) (t : Fin (cfgM m).N) : (dats m Inv 0 c).after 3 t = iblk m c 3 t := by dsimp only [dats]; try rfl
theorem after_4 (c : Dev nD) (t : Fin (cfgM m).N) : (dats m Inv 0 c).after 4 t = iblk m c 4 t := by dsimp only [dats]; try rfl
theorem after_5 (c : Dev nD) (t : Fin (cfgM m).N) : (dats m Inv 0 c).after 5 t = iblk m c 5 t := by dsimp only [dats]; try rfl
theorem after_6 (c : Dev nD) (t : Fin (cfgM m).N) : (dats m Inv 0 c).after 6 t = iblk m c 6 t := by dsimp only [dats]; try rfl
theorem after_7 (c : Dev nD) (t : Fin (cfgM m).N) : (dats m Inv 0 c).after 7 t = iblk m c 7 t := by dsimp only [dats]; try rfl
theorem after_8 (c : Dev nD) (t : Fin (cfgM m).N) : (dats m Inv 0 c).after 8 t = iblk m c 8 t := by dsimp only [dats]; try rfl
theorem before_0 (c : Dev nD) (t : Fin (cfgM m).N) (d) : (dats m Inv 0 c).before 0 t d = iblk m c 0 t :=
  ((dats m Inv 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m Inv 0 c).before 1 t d = iblk m c 1 t :=
  ((dats m Inv 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m Inv 0 c).before 2 t d = iblk m c 2 t :=
  ((dats m Inv 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m Inv 0 c).before 3 t d = iblk m c 3 t :=
  ((dats m Inv 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m Inv 0 c).before 4 t d = iblk m c 4 t :=
  ((dats m Inv 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m Inv 0 c).before 5 t d = iblk m c 5 t :=
  ((dats m Inv 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m Inv 0 c).before 6 t d = iblk m c 6 t :=
  ((dats m Inv 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m Inv 0 c).before 7 t d = iblk m c 7 t :=
  ((dats m Inv 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin (cfgM m).N) (d) : (dats m Inv 0 c).before 8 t d = iblk m c 8 t :=
  ((dats m Inv 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-- The body at point `t`, on the buffers its windows are on. -/
abbrev bodyAt (t : Fin (cfgM m).N) : Prog (TpuEff nD τ sig (Elt F) Λ₀ .tc) PUnit :=
  cc0_attn_b (grid0.coords t) tabQ (Memref.isWhole_whole _) tabK (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (Memref.whole cc0_scratch0) (Memref.isWhole_whole _) (Memref.whole cc0_scratch1) (Memref.isWhole_whole _) (Memref.whole cc0_scratch2) (Memref.isWhole_whole _)

/-- The output's tile after point `t` meets `Out`. -/
def outRel (Out : Fin (cfgM m).N → Vec F S512x256 .bf16 → Prop) :
    (w : Fin (cfgM m).W) → Fin (cfgM m).N → (((cfgM m).win w).block.Idx → Elt F ((cfgM m).win w).elt) → Prop
  | ⟨9, _⟩ => fun t X => Out t X
  | _ => fun _ _ => True

variable (Out : Fin (cfgM m).N → Vec F S512x256 .bf16 → Prop)

/-- The parameter is kept by every point. -/
structure Kept (c : Dev nD) : Prop where
  start : ∀ d0 d1 d2, Inv 0 d0 d1 d2
  step : ∀ t d0 d1 d2, Inv t.castSucc d0 d1 d2 → Inv t.succ (nM (grid0.coords t) (tbl m 0) (tbl m 1) (iblk m c 0 t) (iblk m c 1 t) d0)
    (nL (grid0.coords t) (tbl m 0) (tbl m 1) (iblk m c 0 t) (iblk m c 1 t) d0 d1) (nA (grid0.coords t) (tbl m 0) (tbl m 1) (iblk m c 0 t) (iblk m c 1 t) (iblk m c 2 t) d0 d2)
  out : ∀ t d0 d1 d2, Inv t.castSucc d0 d1 d2 → ∀ x, Out t (nO (grid0.coords t) (tbl m 0) (tbl m 1) (iblk m c 0 t) (iblk m c 1 t) (iblk m c 2 t) (iblk m c 3 t)
    (iblk m c 4 t) (iblk m c 5 t) (iblk m c 6 t) (iblk m c 7 t) (iblk m c 8 t) x d0 d1 d2)

def bodyPre (c : Dev nD) (t : Fin (cfgM m).N) : sProp 𝕄 :=
  iprop((dats m Inv 0 c).Φ t.castSucc ∗ (dats m Inv 0 c).owesAt () t.castSucc
    ∗ (∃ d, owns (c : Thread nD τ) (spec0_0.stage ((cfgM m).slots t 0)) fullShare ((dats m Inv 0 c).before 0 t d))
    ∗ (∃ d, owns (c : Thread nD τ) (spec0_1.stage ((cfgM m).slots t 1)) fullShare ((dats m Inv 0 c).before 1 t d))
    ∗ (∃ d, owns (c : Thread nD τ) (spec0_2.stage ((cfgM m).slots t 2)) fullShare ((dats m Inv 0 c).before 2 t d))
    ∗ (∃ d, owns (c : Thread nD τ) (spec0_3.stage ((cfgM m).slots t 3)) fullShare ((dats m Inv 0 c).before 3 t d))
    ∗ (∃ d, owns (c : Thread nD τ) (spec0_4.stage ((cfgM m).slots t 4)) fullShare ((dats m Inv 0 c).before 4 t d))
    ∗ (∃ d, owns (c : Thread nD τ) (spec0_5.stage ((cfgM m).slots t 5)) fullShare ((dats m Inv 0 c).before 5 t d))
    ∗ (∃ d, owns (c : Thread nD τ) (spec0_6.stage ((cfgM m).slots t 6)) fullShare ((dats m Inv 0 c).before 6 t d))
    ∗ (∃ d, owns (c : Thread nD τ) (spec0_7.stage ((cfgM m).slots t 7)) fullShare ((dats m Inv 0 c).before 7 t d))
    ∗ (∃ d, owns (c : Thread nD τ) (spec0_8.stage ((cfgM m).slots t 8)) fullShare ((dats m Inv 0 c).before 8 t d))
    ∗ (∃ Y, ⌜((dats m Inv 0 c).toRRel forgets0 (outRel m Out)).Finds 9 t Y⌝ ∗ owns (c : Thread nD τ) (spec0_9.stage ((cfgM m).slots t 9)) fullShare Y))

def bodyPost (c : Dev nD) (t : Fin (cfgM m).N) : sProp 𝕄 :=
  iprop((dats m Inv 0 c).Φ t.succ ∗ (dats m Inv 0 c).owesAt () t.succ
    ∗ owns (c : Thread nD τ) (spec0_0.stage ((cfgM m).slots t 0)) fullShare ((dats m Inv 0 c).after 0 t)
    ∗ owns (c : Thread nD τ) (spec0_1.stage ((cfgM m).slots t 1)) fullShare ((dats m Inv 0 c).after 1 t)
    ∗ owns (c : Thread nD τ) (spec0_2.stage ((cfgM m).slots t 2)) fullShare ((dats m Inv 0 c).after 2 t)
    ∗ owns (c : Thread nD τ) (spec0_3.stage ((cfgM m).slots t 3)) fullShare ((dats m Inv 0 c).after 3 t)
    ∗ owns (c : Thread nD τ) (spec0_4.stage ((cfgM m).slots t 4)) fullShare ((dats m Inv 0 c).after 4 t)
    ∗ owns (c : Thread nD τ) (spec0_5.stage ((cfgM m).slots t 5)) fullShare ((dats m Inv 0 c).after 5 t)
    ∗ owns (c : Thread nD τ) (spec0_6.stage ((cfgM m).slots t 6)) fullShare ((dats m Inv 0 c).after 6 t)
    ∗ owns (c : Thread nD τ) (spec0_7.stage ((cfgM m).slots t 7)) fullShare ((dats m Inv 0 c).after 7 t)
    ∗ owns (c : Thread nD τ) (spec0_8.stage ((cfgM m).slots t 8)) fullShare ((dats m Inv 0 c).after 8 t)
    ∗ (∃ X, ⌜outRel m Out 9 t X⌝ ∗ owns (c : Thread nD τ) (spec0_9.stage ((cfgM m).slots t 9)) fullShare X))

/-- The body at any point: its inputs hold their blocks, the invariant lends it the scratch and the tables. -/
theorem sound_body (c : Dev nD) (hK : Kept m Inv Out c) (t : Fin (cfgM m).N) :
    bodyPre m Inv Out c t ⊢ wp frame (wpE (defs₀ (F := F)) Variants.none c none) Set.univ (bodyAt m t) (fun _ => bodyPost m Inv Out c t) := by
  unfold bodyPre bodyPost bodyAt
  simp only [before_0, before_1, before_2, before_3, before_4, before_5, before_6, before_7, before_8]
  rw [show (dats m Inv 0 c).owesAt () t.succ = (dats m Inv 0 c).owesAt () t.castSucc from rfl,
    after_0, after_1, after_2, after_3, after_4, after_5, after_6, after_7, after_8]
  rw [show (dats m Inv 0 c).Φ t.succ = iprop((∃ d0 d1 d2, ⌜Inv t.succ d0 d1 d2⌝ ∗ owns (c : Thread nD τ) (Memref.whole cc0_scratch0) fullShare d0 ∗ owns (c : Thread nD τ) (Memref.whole cc0_scratch1) fullShare d1 ∗ owns (c : Thread nD τ) (Memref.whole cc0_scratch2) fullShare d2)
      ∗ (∃ r, prngReg c r) ∗ tabPt c tabQ (tbl m 0) ∗ tabPt c tabK (tbl m 1)) from rfl,
    show (dats m Inv 0 c).Φ t.castSucc = iprop((∃ d0 d1 d2, ⌜Inv t.castSucc d0 d1 d2⌝ ∗ owns (c : Thread nD τ) (Memref.whole cc0_scratch0) fullShare d0 ∗ owns (c : Thread nD τ) (Memref.whole cc0_scratch1) fullShare d1 ∗ owns (c : Thread nD τ) (Memref.whole cc0_scratch2) fullShare d2)
      ∗ (∃ r, prngReg c r) ∗ tabPt c tabQ (tbl m 0) ∗ tabPt c tabK (tbl m 1)) from rfl]
  iintro ⟨⟨⟨%s0, %s1, %s2, %hI, HS0, HS1, HS2⟩, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %hF, H9⟩⟩
  iapply (point_run c (grid0.coords t) _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) d9 s0 s1 s2 (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, H7, H8, H9, HS0, HS1, HS2, HT0, HT1⟩
  isplitl [HS0 HS1 HS2 Hg HT0 HT1]
  · isplitl [HS0 HS1 HS2]
    · iexists _; iexists _; iexists _
      isplitr; · ipureintro; exact hK.step t _ _ _ hI
      isplitl [HS0]; · iexact HS0
      isplitl [HS1]; · iexact HS1
      iexact HS2
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr; swap; · iexact H9
  ipureintro; exact hK.out t _ _ _ hI d9

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) (hK : Kept m Inv Out c) : Pipeline.BodyObligationRel (dats (F := F) m Inv 0 c) (defs₀ (F := F)) Variants.none () Set.univ forgets0 (outRel m Out) := fun t => by
  rw [bigSep_W0, bigSep_W0, defs₀_row m]
  exact triple_restated (sound_body m Inv Out c hK t) rfl .rfl fun _ => .rfl

theorem hin (c : Dev nD) (hK : Kept m Inv Out c) : iprop(Pipeline.ΦA spec0 c ∗ Pipeline.ΦT pre0 (tbl m) c) ⊢ (dats m Inv 0 c).Φ 0 := by
  rw [show (dats m Inv 0 c).Φ 0 = iprop((∃ d0 d1 d2, ⌜Inv 0 d0 d1 d2⌝ ∗ owns (c : Thread nD τ) (Memref.whole cc0_scratch0) fullShare d0 ∗ owns (c : Thread nD τ) (Memref.whole cc0_scratch1) fullShare d1 ∗ owns (c : Thread nD τ) (Memref.whole cc0_scratch2) fullShare d2)
      ∗ (∃ r, prngReg c r) ∗ tabPt c tabQ (tbl m 0) ∗ tabPt c tabK (tbl m 1)) from rfl, PhiT0_eq, PhiA0_eq]
  iintro ⟨⟨⟨⟨%s0, HS0⟩, ⟨%s1, HS1⟩, ⟨%s2, HS2⟩⟩, Hg⟩, ⟨HT0, HT1⟩⟩
  isplitl [HS0 HS1 HS2]
  · iexists s0; iexists s1; iexists s2
    isplitr; · ipureintro; exact hK.start _ _ _
    isplitl [HS0]; · iexact HS0
    isplitl [HS1]; · iexact HS1
    iexact HS2
  isplitl [Hg]; · iexact Hg
  isplitl [HT0]; · iexact HT0
  iexact HT1

theorem hout (c : Dev nD) : (dats m Inv 0 c).Φ (Fin.last (cfgM m).N) ⊢ Pipeline.ΦA spec0 c := by
  rw [show (dats m Inv 0 c).Φ (Fin.last (cfgM m).N) = iprop((∃ d0 d1 d2, ⌜Inv (Fin.last (cfgM m).N) d0 d1 d2⌝ ∗ owns (c : Thread nD τ) (Memref.whole cc0_scratch0) fullShare d0 ∗ owns (c : Thread nD τ) (Memref.whole cc0_scratch1) fullShare d1 ∗ owns (c : Thread nD τ) (Memref.whole cc0_scratch2) fullShare d2)
      ∗ (∃ r, prngReg c r) ∗ tabPt c tabQ (tbl m 0) ∗ tabPt c tabK (tbl m 1)) from rfl, PhiA0_eq]
  iintro ⟨⟨%s0, %s1, %s2, %hI, HS0, HS1, HS2⟩, Hg, -⟩
  isplitl [HS0 HS1 HS2]
  · isplitl [HS0]; · iexists s0; iexact HS0
    isplitl [HS1]; · iexists s1; iexact HS1
    iexists s2; iexact HS2
  iexact Hg

set_option backward.isDefEq.respectTransparency.types false in
/-- The launch: every run ends, with the arrays that are only read as they were, the output's tiles as `Out` has
    them and every counter at zero. -/
theorem run_main_quiescent (hK : ∀ c, Kept m Inv Out c) : θ_run defs (onTc (τ := τ) (main (F := F))) (s₀ m ρ) (fun r => (Pipeline.RDat.FramePost ((Pipeline.pin pcfgs fun _ => adm m) 0) (fun c => (dats m Inv 0 c).toRRel forgets0 (outRel m Out)) (V m)) r ∧ r.2.sem = fun _ => 0) :=
  Pipeline.RDat.θ_run_frameP_track_shared (Q' := _) pcfgs (fun _ => adm m) (0 : Fin 1) launch₀0 defs₀ Variants.none (fun c => (dats m Inv 0 c).toRRel forgets0 (outRel m Out)) m ρ main
    (hbody := fun c => (body_obligation m Inv Out c (hK c)).toRRel) (hq := fun _ _ _ => rfl)
    (howed := fun _ _ => rfl) (V := V m) (hmain := hmain m Variants.none) (hA := A_eq m Inv) (hpf := V_pre m)
    (hin := fun c => hin m Inv Out c (hK c)) (hout := hout m Inv)

/-- The claim, at any float values: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m (fun _ _ _ _ => True) c 0).trans (V_of_ne m c (r := main_arg0) (by decide))),
      (Pipeline.RDat.FramePost.arr_in h.1 c 2 rfl).trans ((A_eq m (fun _ _ _ _ => True) c 2).trans (V_of_ne m c (r := main_arg1) (by decide))),
      ((h.1 c).2 main_arg2 (show main_arg2 ∈ Pipeline.restRefs sig spec0 from Pipeline.mem_restRefs_of main_arg2 (by decide) (by decide))).trans (V_of_ne m c (r := main_arg2) (by decide)),
      ((h.1 c).2 main_arg3 (show main_arg3 ∈ Pipeline.restRefs sig spec0 from Pipeline.mem_restRefs_of main_arg3 (by decide) (by decide))).trans (V_of_ne m c (r := main_arg3) (by decide)),
      ((h.1 c).2 main_arg4 (show main_arg4 ∈ Pipeline.restRefs sig spec0 from Pipeline.mem_restRefs_of main_arg4 (by decide) (by decide))).trans (V_of_ne m c (r := main_arg4) (by decide)),
      ((h.1 c).2 main_arg5 (show main_arg5 ∈ Pipeline.restRefs sig spec0 from Pipeline.mem_restRefs_of main_arg5 (by decide) (by decide))).trans (V_of_ne m c (r := main_arg5) (by decide)),
      ((h.1 c).2 main_arg6 (show main_arg6 ∈ Pipeline.restRefs sig spec0 from Pipeline.mem_restRefs_of main_arg6 (by decide) (by decide))).trans (V_of_ne m c (r := main_arg6) (by decide))⟩, h.2⟩)
    (run_main_quiescent m ρ (fun _ _ _ _ => True) (fun _ _ => True) fun _ => ⟨fun _ _ _ => trivial, fun _ _ _ _ _ => trivial, fun _ _ _ _ _ _ => trivial⟩)

end Cert.Proof.DiffIdeal

end
-- ==== Proof.DiffSoftmax.lean ====
/- The softmax in base 2 over a row of scores, over the reals: the weights against a reference point, how the partial sums
   move when the point moves, and that the quotient does not depend on it. A score of −∞ has weight zero. -/
module

public import Idealize.ShloMosaic.PureOps.Ideal
public import Mathlib.Analysis.SpecialFunctions.Pow.Real

@[expose] public section

noncomputable section

namespace Cert.Proof.DiffSoftmax

open Idealize.ShloMosaic
open scoped BigOperators

/-- The weight of a score against a reference point. -/
def wt (μ : ℝ) (x : EReal) : ℝ := if x = ⊥ then 0 else (2 : ℝ) ^ (x.toReal - μ)

theorem wt_nonneg (μ : ℝ) (x : EReal) : 0 ≤ wt μ x := by
  unfold wt; split_ifs
  · exact le_refl _
  · positivity

theorem wt_pos (μ : ℝ) {x : EReal} (h : x ≠ ⊥) : 0 < wt μ x := by
  unfold wt; rw [if_neg h]; positivity

theorem wt_bot (μ : ℝ) : wt μ ⊥ = 0 := by unfold wt; rw [if_pos rfl]

theorem wt_shift (μ ν : ℝ) (x : EReal) : wt ν x = (2 : ℝ) ^ (μ - ν) * wt μ x := by
  unfold wt; split_ifs
  · simp
  · rw [← Real.rpow_add (by norm_num)]; congr 1; ring

theorem exp2_sub (μ : ℝ) {x : EReal} (hx : x ≠ ⊤) : Ideal.exp2 (x - (μ : EReal)) = ((wt μ x : ℝ) : EReal) := by
  induction x with
  | bot => rw [EReal.bot_sub, Ideal.exp2_bot, wt_bot]; rfl
  | top => exact absurd rfl hx
  | coe r =>
    rw [← EReal.coe_sub, Ideal.exp2_coe]; unfold wt
    rw [if_neg (EReal.coe_ne_bot r), EReal.toReal_coe]; rfl

theorem pow_two_sub (μ : ℝ) {x : EReal} (hx : x ≠ ⊤) :
    Ideal.pow ((2 : ℝ) : EReal) (x - (μ : EReal)) = ((wt μ x : ℝ) : EReal) := by
  induction x with
  | bot =>
    rw [EReal.bot_sub, Ideal.pow_coe_bot, if_neg (by norm_num), if_pos (by norm_num), wt_bot]; rfl
  | top => exact absurd rfl hx
  | coe r =>
    rw [← EReal.coe_sub, Ideal.pow_coe_coe]; unfold wt
    rw [if_neg (EReal.coe_ne_bot r), EReal.toReal_coe]; rfl

/-- The quotient of two reals, the divisor not zero. -/
theorem div_coe (a : ℝ) {b : ℝ} (hb : b ≠ 0) : Ideal.div (a : EReal) (b : EReal) = ((a / b : ℝ) : EReal) := by
  unfold Ideal.div
  rw [if_neg (by rw [← EReal.coe_zero, Ne, EReal.coe_eq_coe_iff] at *; exact hb), ← EReal.coe_inv, ← EReal.coe_mul, div_eq_mul_inv]

/-- The partial sums of the first `n` keys: the weights' and the weighted values'. -/
def sumW (x : ℕ → EReal) (v : ℕ → ℝ) (n : ℕ) (μ : ℝ) : ℝ := ∑ k ∈ Finset.range n, wt μ (x k) * v k

theorem sumW_shift (x : ℕ → EReal) (v : ℕ → ℝ) (n : ℕ) (μ ν : ℝ) : sumW x v n ν = (2 : ℝ) ^ (μ - ν) * sumW x v n μ := by
  unfold sumW; rw [Finset.mul_sum]
  exact Finset.sum_congr rfl fun k _ => by rw [wt_shift μ ν, mul_assoc]

theorem sumW_zero (x : ℕ → EReal) (v : ℕ → ℝ) (μ : ℝ) : sumW x v 0 μ = 0 := rfl

theorem sumW_pos (x : ℕ → EReal) {n : ℕ} (μ : ℝ) (hn : 0 < n) (h : x 0 ≠ ⊥) : 0 < sumW x (fun _ => 1) n μ := by
  unfold sumW
  refine Finset.sum_pos' (fun k _ => by rw [mul_one]; exact wt_nonneg _ _) ⟨0, Finset.mem_range.2 hn, ?_⟩
  rw [mul_one]; exact wt_pos _ h

/-- Keys whose score is −∞ add nothing. -/
theorem sumW_extend (x : ℕ → EReal) (v : ℕ → ℝ) {n N : ℕ} (μ : ℝ) (hN : n ≤ N) (h : ∀ k, n ≤ k → k < N → x k = ⊥) :
    sumW x v N μ = sumW x v n μ := by
  unfold sumW
  refine (Finset.sum_subset (fun k hk => Finset.mem_range.2 ((Finset.mem_range.1 hk).trans_le hN)) fun k hk hk' => ?_).symm
  rw [h k (by simpa using hk') (Finset.mem_range.1 hk), wt_bot, zero_mul]

theorem sumW_add (x : ℕ → EReal) (v : ℕ → ℝ) (n : ℕ) (μ : ℝ) (b : ℕ) :
    sumW x v (n + b) μ = sumW x v n μ + ∑ k : Fin b, wt μ (x (n + k.val)) * v (n + k.val) := by
  unfold sumW
  rw [Finset.sum_range_add, Finset.sum_range (fun k => wt μ (x (n + k)) * v (n + k))]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- One tile of keys: the maximum's new point, the old sum rescaled, the tile's weighted values added. -/
theorem step (x : ℕ → EReal) (v : ℕ → ℝ) (n b : ℕ) (hx : ∀ k, x k ≠ ⊤) (μ ν : ℝ) :
    Ideal.exp2 ((μ : EReal) - (ν : EReal)) * ((sumW x v n μ : ℝ) : EReal)
      + ∑ k : Fin b, Ideal.exp2 (x (n + k.val) - (ν : EReal)) * ((v (n + k.val) : ℝ) : EReal)
    = ((sumW x v (n + b) ν : ℝ) : EReal) := by
  rw [sumW_add, EReal.coe_add, sumW_shift x v n μ ν, EReal.coe_mul, ← EReal.coe_sub, Ideal.exp2_coe, coe_sum]
  congr 1
  exact Finset.sum_congr rfl fun k _ => by rw [exp2_sub ν (hx _), EReal.coe_mul]

theorem step_one (x : ℕ → EReal) (n b : ℕ) (hx : ∀ k, x k ≠ ⊤) (μ ν : ℝ) :
    Ideal.exp2 ((μ : EReal) - (ν : EReal)) * ((sumW x (fun _ => 1) n μ : ℝ) : EReal)
      + ∑ k : Fin b, Ideal.exp2 (x (n + k.val) - (ν : EReal))
    = ((sumW x (fun _ => 1) (n + b) ν : ℝ) : EReal) := by
  rw [← step x (fun _ => 1) n b hx μ ν]
  congr 1
  exact Finset.sum_congr rfl fun k _ => by rw [EReal.coe_one, mul_one]

/-- A maximum of a real and of scores below ⊤ is a real. -/
theorem max_real (μ : ℝ) {r : EReal} (hr : r ≠ ⊤) : ∃ ν : ℝ, max (μ : EReal) r = (ν : EReal) := by
  induction r with
  | bot => exact ⟨μ, max_eq_left bot_le⟩
  | top => exact absurd rfl hr
  | coe r => exact ⟨max μ r, (EReal.coe_strictMono.monotone.map_max (a := μ) (b := r)).symm⟩

theorem fold_ne_top {ι : Type} (s : Finset ι) (b : EReal) (hb : b ≠ ⊤) (f : ι → EReal) (h : ∀ i, f i ≠ ⊤) : s.fold max b f ≠ ⊤ := by
  classical
  induction s using Finset.induction_on with
  | empty => simpa using hb
  | insert a s ha ih =>
    rw [Finset.fold_insert ha]
    exact (max_lt (lt_top_iff_ne_top.2 (h a)) (lt_top_iff_ne_top.2 ih)).ne

theorem le_fold {ι : Type} (s : Finset ι) (b : EReal) (f : ι → EReal) {i : ι} (hi : i ∈ s) : f i ≤ s.fold max b f :=
  Finset.le_fold_max (c := f i) |>.2 (.inr ⟨i, hi, le_refl _⟩)

/-- The weighted mean of the values. -/
def soft (x : ℕ → EReal) (v : ℕ → ℝ) (n : ℕ) : ℝ := sumW x v n 0 / sumW x (fun _ => 1) n 0

theorem quot (x : ℕ → EReal) (v : ℕ → ℝ) {n : ℕ} (hn : 0 < n) (h : x 0 ≠ ⊥) (μ : ℝ) :
    Ideal.div ((sumW x v n μ : ℝ) : EReal) ((sumW x (fun _ => 1) n μ : ℝ) : EReal) = ((soft x v n : ℝ) : EReal) := by
  rw [div_coe _ (sumW_pos x μ hn h).ne']
  congr 1
  unfold soft
  rw [sumW_shift x v n 0 μ, sumW_shift x (fun _ => 1) n 0 μ]
  exact mul_div_mul_left _ _ (by positivity)

/-- One probability, and the mean as the sum of the probabilities times the values. -/
def prob (x : ℕ → EReal) (n : ℕ) (k : ℕ) : ℝ := wt 0 (x k) / sumW x (fun _ => 1) n 0

theorem quot_prob (x : ℕ → EReal) {n : ℕ} (hn : 0 < n) (h : x 0 ≠ ⊥) (μ : ℝ) (k : ℕ) :
    Ideal.div ((wt μ (x k) : ℝ) : EReal) ((sumW x (fun _ => 1) n μ : ℝ) : EReal) = ((prob x n k : ℝ) : EReal) := by
  rw [div_coe _ (sumW_pos x μ hn h).ne']
  congr 1
  unfold prob
  rw [wt_shift 0 μ, sumW_shift x (fun _ => 1) n 0 μ]
  exact mul_div_mul_left _ _ (by positivity)

theorem soft_eq (x : ℕ → EReal) (v : ℕ → ℝ) (n : ℕ) : soft x v n = ∑ k ∈ Finset.range n, prob x n k * v k := by
  unfold soft prob
  rw [show sumW x v n 0 = ∑ k ∈ Finset.range n, wt 0 (x k) * v k from rfl, Finset.sum_div]
  exact Finset.sum_congr rfl fun k _ => by ring

theorem soft_extend (x : ℕ → EReal) (v : ℕ → ℝ) {n N : ℕ} (hN : n ≤ N) (h : ∀ k, n ≤ k → k < N → x k = ⊥) :
    soft x v N = soft x v n := by
  unfold soft; rw [sumW_extend x v 0 hN h, sumW_extend x (fun _ => 1) 0 hN h]

/-- The difference of two rows' probabilities, times the values, summed: the difference of the two means. -/
theorem diff_sum (x y : ℕ → EReal) (v : ℕ → ℝ) (lam : ℝ) (n : ℕ) :
    ∑ k : Fin n, ((v k.val : ℝ) : EReal) * (((prob x n k.val : ℝ) : EReal) - (lam : EReal) * ((prob y n k.val : ℝ) : EReal))
      = ((soft x v n - lam * soft y v n : ℝ) : EReal) := by
  rw [soft_eq, soft_eq, Finset.mul_sum, ← Finset.sum_sub_distrib, Finset.sum_range, coe_sum]
  refine Finset.sum_congr rfl fun k _ => ?_
  rw [← EReal.coe_mul, ← EReal.coe_sub, ← EReal.coe_mul]
  congr 1; ring

end Cert.Proof.DiffSoftmax
-- ==== Proof.DiffTile.lean ====
/- One tile of keys at the ideal instance, read at an index: the new running maximum, the weights against it, and the
   rescaled sum and product. The four tiles the body folds (below the diagonal and on it, for each of the two branches)
   are this one at their scores. -/
module

public import proofs.«01_k».proof.Proof.DiffIdealRun
public import proofs.«01_k».proof.Proof.DiffSoftmax
public import Idealize.ShloMosaic.Lib.MatmulPlain
public import Idealize.ShloMosaic.Lib.ValueIdx
public import Idealize.ShloMosaic.Lib.IdealHost
public import Idealize.ShloMosaic.Lib.WordCmp
public import Idealize.ShloMosaic.Lib.Pipeline.ValueKit.Tiles

@[expose] public section

noncomputable section

namespace Cert.Proof.DiffTile

open Cert.DiffIdeal Cert.DiffIdeal.Gen Idealize.ShloMosaic
open Cert.Proof.DiffIdeal (half0 half1 wide0 wide1 col0 col1 both bothW)
open Idealize.ShloMosaic.ValueIdx
open scoped BigOperators

abbrev Tile : Type := FVec Ideal S512x512 .f32

/-- A tile's row maxima and row sums. -/
def rowMx (S : Tile) : FVec Ideal S512 .f32 := multiReduction .maximumf [1] S512 S 0xFF800000#32 reduces_S512x512_S512 (.inl rfl) rfl
def rowSm (S : Tile) : FVec Ideal S512 .f32 := multiReduction .add [1] S512 S 0x00000000#32 reduces_S512x512_S512 (.inl rfl) rfl

/-- The new maximum: the old one, and the tile's row maximum. -/
def tM (S : Tile) (m : Vec Ideal S1x512x128 .f32) : FVec Ideal S512x128 .f32 :=
  maximumf (shapeCast S512x128 m shapeCasts_S1x512x128_S512x128)
    (broadcastTo S512x128 (shapeCast S512x1 (rowMx S) shapeCasts_S512_S512x1) broadcasts_S512x1_S512x128)

/-- The old sum's factor. -/
def tF (S : Tile) (m : Vec Ideal S1x512x128 .f32) : FVec Ideal S512x128 .f32 :=
  exp2 (subf (shapeCast S512x128 m shapeCasts_S1x512x128_S512x128) (tM S m))

/-- The weights. -/
def tP (S : Tile) (m : Vec Ideal S1x512x128 .f32) : FVec Ideal S512x512 .f32 :=
  exp2 (subf S (concatenate S512x512 1 [⟨S512x128, tM S m⟩, ⟨S512x128, tM S m⟩, ⟨S512x128, tM S m⟩, ⟨S512x128, tM S m⟩] concatenates_S512x128_S512x128_S512x128_S512x128_S512x512_d1))

def tL (S : Tile) (m l : Vec Ideal S1x512x128 .f32) : FVec Ideal S1x512x128 .f32 :=
  shapeCast S1x512x128 (addf (mulf (tF S m) (shapeCast S512x128 l shapeCasts_S1x512x128_S512x128))
    (broadcastTo S512x128 (shapeCast S512x1 (rowSm (tP S m)) shapeCasts_S512_S512x1) broadcasts_S512x1_S512x128))
    shapeCasts_S512x128_S1x512x128

def tA (S : Tile) (m : Vec Ideal S1x512x128 .f32) (v : FVec Ideal S512x256 .bf16) (a : Vec Ideal S1x512x256 .f32) : FVec Ideal S1x512x256 .f32 :=
  shapeCast S1x512x256 (addf (mulf (concatenate S512x256 1 [⟨S512x128, tF S m⟩, ⟨S512x128, tF S m⟩] concatenates_S512x128_S512x128_S512x256_d1) (shapeCast S512x256 a shapeCasts_S1x512x256_S512x256))
    (matmul dot_S512x512_S512x256_S512x256_1_0_0_1_n_n none (truncf .bf16 (tP S m) bitsLt_bf16_f32) v (constant S512x256 .f32 0x00000000#32)))
    shapeCasts_S512x256_S1x512x256

/-- A row's maximum over the tile. -/
def rowMax (S : Tile) (r : Fin 512) : EReal := (Finset.univ : Finset (Fin 512)).fold max (Ideal.ofBits .f32 0xFF800000#32) (fun k => S (ix2 r k))

theorem cast3_128 (x : Vec Ideal S1x512x128 .f32) (r : Fin 512) (j : Fin 128) :
    shapeCast S512x128 x shapeCasts_S1x512x128_S512x128 (ix2 r j) = x (ix3 0 r j) :=
  shapeCast_apply x shapeCasts_S1x512x128_S512x128 (ix2 r j) (ix3 0 r j)
    (by rewrite [Shape.rowMajor_val_three, Shape.rowMajor_val_two]; show (0 * 512 + r.val) * 128 + j.val = r.val * 128 + j.val; omega)

theorem cast3_256 (x : Vec Ideal S1x512x256 .f32) (r : Fin 512) (j : Fin 256) :
    shapeCast S512x256 x shapeCasts_S1x512x256_S512x256 (ix2 r j) = x (ix3 0 r j) :=
  shapeCast_apply x shapeCasts_S1x512x256_S512x256 (ix2 r j) (ix3 0 r j)
    (by rewrite [Shape.rowMajor_val_three, Shape.rowMajor_val_two]; show (0 * 512 + r.val) * 256 + j.val = r.val * 256 + j.val; omega)

theorem cast2_128 (x : FVec Ideal S512x128 .f32) (r : Fin 512) (j : Fin 128) :
    shapeCast S1x512x128 x shapeCasts_S512x128_S1x512x128 (ix3 0 r j) = x (ix2 r j) :=
  shapeCast_apply x shapeCasts_S512x128_S1x512x128 (ix3 0 r j) (ix2 r j)
    (by rewrite [Shape.rowMajor_val_three, Shape.rowMajor_val_two]; show r.val * 128 + j.val = (0 * 512 + r.val) * 128 + j.val; omega)

theorem cast2_256 (x : FVec Ideal S512x256 .f32) (r : Fin 512) (j : Fin 256) :
    shapeCast S1x512x256 x shapeCasts_S512x256_S1x512x256 (ix3 0 r j) = x (ix2 r j) :=
  shapeCast_apply x shapeCasts_S512x256_S1x512x256 (ix3 0 r j) (ix2 r j)
    (by rewrite [Shape.rowMajor_val_three, Shape.rowMajor_val_two]; show r.val * 256 + j.val = (0 * 512 + r.val) * 256 + j.val; omega)

/-- A column of row values, spread over the lanes. -/
theorem spread_apply (x : FVec Ideal S512 .f32) (r : Fin 512) (j : Fin 128) :
    broadcastTo S512x128 (shapeCast S512x1 x shapeCasts_S512_S512x1) broadcasts_S512x1_S512x128 (ix2 r j) = x (ix1 r) := by
  rw [broadcastTo_apply _ broadcasts_S512x1_S512x128 (ix2 r j) (ix2 r (0 : Fin 1)) (fun a => match a with
    | ⟨0, _⟩ => by show r.val = if (512 : Nat) = 1 then 0 else r.val; rw [if_neg (by decide)]
    | ⟨1, _⟩ => by show 0 = if (1 : Nat) = 1 then 0 else j.val; rw [if_pos rfl])]
  exact shapeCast_apply x shapeCasts_S512_S512x1 (ix2 r (0 : Fin 1)) (ix1 r)
    (by rewrite [Shape.rowMajor_val_one, Shape.rowMajor_val_two]; show r.val = r.val * 1 + 0; omega)

theorem lift_eq (r k : Fin 512) : reduces_S512x512_S512.lift (ix1 r) k = ix2 r k := by
  funext a; apply Fin.ext
  match a with
  | ⟨0, _⟩ => rfl
  | ⟨1, _⟩ => rfl

theorem rowMx_apply (S : Tile) (r : Fin 512) : rowMx S (ix1 r) = rowMax S r :=
  (Ideal.multiReduction_maximumf_single S 0xFF800000#32 reduces_S512x512_S512 (.inl rfl) rfl (ix1 r)).trans
    (congrArg (fun f => Finset.fold max (Ideal.ofBits .f32 0xFF800000#32) f (Finset.univ : Finset (Fin 512))) (funext fun k => congrArg S (lift_eq r k)))

theorem rowSm_apply (S : Tile) (r : Fin 512) : rowSm S (ix1 r) = ∑ k : Fin 512, S (ix2 r k) :=
  (Ideal.multiReduction_add_single S 0x00000000#32 reduces_S512x512_S512 (.inl rfl) rfl (ix1 r)).trans
    (Finset.sum_congr rfl fun k _ => congrArg S (lift_eq r k))

theorem tM_apply (S : Tile) (m : Vec Ideal S1x512x128 .f32) (r : Fin 512) (j : Fin 128) :
    tM S m (ix2 r j) = max (m (ix3 0 r j)) (rowMax S r) := by
  unfold tM
  rw [maximumf_apply, cast3_128, spread_apply, rowMx_apply]

theorem tF_apply (S : Tile) (m : Vec Ideal S1x512x128 .f32) (r : Fin 512) (j : Fin 128) :
    tF S m (ix2 r j) = Ideal.exp2 (m (ix3 0 r j) - max (m (ix3 0 r j)) (rowMax S r)) := by
  unfold tF
  show Ideal.exp2 (shapeCast S512x128 m shapeCasts_S1x512x128_S512x128 (ix2 r j) - tM S m (ix2 r j)) = _
  rw [cast3_128, tM_apply]

/-- The 512 lanes' value is the 128 lanes' four times. -/
theorem four_apply (M : FVec Ideal S512x128 .f32) (r : Fin 512) (k : Fin 512) :
    concatenate S512x512 1 [⟨S512x128, M⟩, ⟨S512x128, M⟩, ⟨S512x128, M⟩, ⟨S512x128, M⟩] concatenates_S512x128_S512x128_S512x128_S512x128_S512x512_d1 (ix2 r k)
      = M (ix2 r ⟨k.val % 128, Nat.mod_lt _ (by decide)⟩) := by
  have hk := k.isLt
  obtain ⟨n, hn, h4⟩ : ∃ n, k.val / 128 = n ∧ n < 4 := ⟨_, rfl, by omega⟩
  refine concatenate_apply_piece (t := S512x512) 1 [⟨S512x128, M⟩, ⟨S512x128, M⟩, ⟨S512x128, M⟩, ⟨S512x128, M⟩] concatenates_S512x128_S512x128_S512x128_S512x128_S512x512_d1 (ix2 r k) n h4 S512x128 M ?_ rfl (n * 128) ?_
    (ix2 r ⟨k.val % 128, Nat.mod_lt _ (by decide)⟩) (fun b hb => ?_) ?_
  · match n, h4 with
    | 0, _ => rfl
    | 1, _ => rfl
    | 2, _ => rfl
    | 3, _ => rfl
  · clear hn
    match n, h4 with
    | 0, _ => rfl
    | 1, _ => rfl
    | 2, _ => rfl
    | 3, _ => rfl
  · match b, hb with
    | ⟨0, _⟩, _ => rfl
    | ⟨1, _⟩, hb => exact absurd rfl hb
  · show n * 128 + k.val % 128 = k.val; omega

theorem two_apply (M : FVec Ideal S512x128 .f32) (r : Fin 512) (k : Fin 256) :
    concatenate S512x256 1 [⟨S512x128, M⟩, ⟨S512x128, M⟩] concatenates_S512x128_S512x128_S512x256_d1 (ix2 r k)
      = M (ix2 r ⟨k.val % 128, Nat.mod_lt _ (by decide)⟩) := by
  have hk := k.isLt
  obtain ⟨n, hn, h4⟩ : ∃ n, k.val / 128 = n ∧ n < 2 := ⟨_, rfl, by omega⟩
  refine concatenate_apply_piece (t := S512x256) 1 [⟨S512x128, M⟩, ⟨S512x128, M⟩] concatenates_S512x128_S512x128_S512x256_d1 (ix2 r k) n h4 S512x128 M ?_ rfl (n * 128) ?_
    (ix2 r ⟨k.val % 128, Nat.mod_lt _ (by decide)⟩) (fun b hb => ?_) ?_
  · match n, h4 with
    | 0, _ => rfl
    | 1, _ => rfl
  · clear hn
    match n, h4 with
    | 0, _ => rfl
    | 1, _ => rfl
  · match b, hb with
    | ⟨0, _⟩, _ => rfl
    | ⟨1, _⟩, hb => exact absurd rfl hb
  · show n * 128 + k.val % 128 = k.val; omega

theorem tP_apply (S : Tile) (m : Vec Ideal S1x512x128 .f32) (r k : Fin 512) :
    tP S m (ix2 r k) = Ideal.exp2 (S (ix2 r k) - max (m (ix3 0 r ⟨k.val % 128, Nat.mod_lt _ (by decide)⟩)) (rowMax S r)) := by
  unfold tP
  show Ideal.exp2 (S (ix2 r k) - concatenate S512x512 1 _ _ (ix2 r k)) = _
  rw [four_apply, tM_apply]

theorem tL_apply (S : Tile) (m l : Vec Ideal S1x512x128 .f32) (r : Fin 512) (j : Fin 128) :
    tL S m l (ix3 0 r j) = tF S m (ix2 r j) * l (ix3 0 r j) + ∑ k : Fin 512, tP S m (ix2 r k) := by
  unfold tL
  rw [cast2_128, addf_apply, mulf_apply, cast3_128, spread_apply, rowSm_apply]

theorem tA_apply (S : Tile) (m : Vec Ideal S1x512x128 .f32) (v : FVec Ideal S512x256 .bf16) (a : Vec Ideal S1x512x256 .f32) (r : Fin 512) (e : Fin 256) :
    tA S m v a (ix3 0 r e) = tF S m (ix2 r ⟨e.val % 128, Nat.mod_lt _ (by decide)⟩) * a (ix3 0 r e) + ∑ k : Fin 512, tP S m (ix2 r k) * v (ix2 k e) := by
  unfold tA
  rw [cast2_256, addf_apply, mulf_apply, cast3_256, two_apply]
  show _ + _ = _
  congr 1
  refine (Ideal.matmul_plain_apply (M := 512) (K := 512) (N := 256) none _ _ _ r e).trans ?_
  rw [constant_apply]
  show Ideal.ofBits .f32 0#32 + _ = _
  rw [Ideal.ofBits_zero_f32, zero_add]
  rfl

/-- The scores: queries against keys, over one branch's columns. -/
theorem score_apply (q k : Vec Ideal S512x128 .bf16) (r c : Fin 512) :
    k0_pay7 q k (ix2 r c) = ∑ d : Fin 128, q (ix2 r d) * k (ix2 c d) := by
  unfold k0_pay7
  refine (Ideal.matmul_transposedRhs_apply (M := 512) (K := 128) (N := 512) none _ _ _ r c).trans ?_
  rw [constant_apply]
  show Ideal.ofBits .f32 0#32 + _ = _
  rw [Ideal.ofBits_zero_f32, zero_add]

/-- On the diagonal's tile: −∞ where the key comes after the query. -/
theorem mask_apply (r c : Fin 512) : k0_pay24 (ix2 r c) = if c.val ≤ r.val then 1#1 else 0#1 := by
  unfold k0_pay24
  have hr := r.isLt
  have hc := c.isLt
  have e : IntOp.cmpi .sle (BitVec.ofNat 32 (0 * 512 + c.val)) (BitVec.ofNat 32 (0 * 512 + r.val)) = if c.val ≤ r.val then 1#1 else 0#1 := by
    rw [WordCmp.cmpi_sle_ofNat (w := 32) (by omega) (by omega)]
    by_cases h : c.val ≤ r.val
    · rw [if_pos h, decide_eq_true (by omega)]; rfl
    · rw [if_neg h, decide_eq_false (by omega)]; rfl
  exact e

theorem diag_score_apply (q k : Vec Ideal S512x128 .bf16) (r c : Fin 512) :
    k0_pay25 q k (ix2 r c) = if c.val ≤ r.val then ∑ d : Fin 128, q (ix2 r d) * k (ix2 c d) else ⊥ := by
  show (if k0_pay24 (ix2 r c) = 1#1 then k0_pay7 q k (ix2 r c) else (⊥ : EReal)) = _
  rw [mask_apply, score_apply]
  by_cases h : c.val ≤ r.val
  · rw [if_pos h, if_pos h, if_pos rfl]
  · rw [if_neg h, if_neg h, if_neg (by decide)]

/-! The body's tiles are this one. -/

theorem belowM_eq (q k : Vec Ideal S512x256 .bf16) (m : Vec Ideal S2x512x128 .f32) :
    Cert.Proof.DiffIdeal.belowM q k m
      = both (shapeCast S1x512x128 (tM (k0_pay7 (View.ld q col0) (View.ld k col0)) (View.ld m half0)) shapeCasts_S512x128_S1x512x128)
          (shapeCast S1x512x128 (tM (k0_pay7 (View.ld q col1) (View.ld k col1)) (View.ld m half1)) shapeCasts_S512x128_S1x512x128) := rfl
theorem belowL_eq (q k : Vec Ideal S512x256 .bf16) (m l : Vec Ideal S2x512x128 .f32) :
    Cert.Proof.DiffIdeal.belowL q k m l
      = both (tL (k0_pay7 (View.ld q col0) (View.ld k col0)) (View.ld m half0) (View.ld l half0))
          (tL (k0_pay7 (View.ld q col1) (View.ld k col1)) (View.ld m half1) (View.ld l half1)) := rfl
theorem belowA_eq (q k v : Vec Ideal S512x256 .bf16) (m : Vec Ideal S2x512x128 .f32) (a : Vec Ideal S2x512x256 .f32) :
    Cert.Proof.DiffIdeal.belowA q k v m a
      = bothW (tA (k0_pay7 (View.ld q col0) (View.ld k col0)) (View.ld m half0) v (View.ld a wide0))
          (tA (k0_pay7 (View.ld q col1) (View.ld k col1)) (View.ld m half1) v (View.ld a wide1)) := rfl
theorem diagM0_eq (q k : Vec Ideal S512x256 .bf16) (m : Vec Ideal S2x512x128 .f32) :
    Cert.Proof.DiffIdeal.diagM0 q k m = shapeCast S1x512x128 (tM (k0_pay25 (View.ld q col0) (View.ld k col0)) (View.ld m half0)) shapeCasts_S512x128_S1x512x128 := rfl
theorem diagM1_eq (q k : Vec Ideal S512x256 .bf16) (m : Vec Ideal S2x512x128 .f32) :
    Cert.Proof.DiffIdeal.diagM1 q k m = shapeCast S1x512x128 (tM (k0_pay25 (View.ld q col1) (View.ld k col1)) (View.ld m half1)) shapeCasts_S512x128_S1x512x128 := rfl
theorem diagL0_eq (q k : Vec Ideal S512x256 .bf16) (m l : Vec Ideal S2x512x128 .f32) :
    Cert.Proof.DiffIdeal.diagL0 q k m l = tL (k0_pay25 (View.ld q col0) (View.ld k col0)) (View.ld m half0) (View.ld l half0) := rfl
theorem diagL1_eq (q k : Vec Ideal S512x256 .bf16) (m l : Vec Ideal S2x512x128 .f32) :
    Cert.Proof.DiffIdeal.diagL1 q k m l = tL (k0_pay25 (View.ld q col1) (View.ld k col1)) (View.ld m half1) (View.ld l half1) := rfl
theorem diagA0_eq (q k v : Vec Ideal S512x256 .bf16) (m : Vec Ideal S2x512x128 .f32) (a : Vec Ideal S2x512x256 .f32) :
    Cert.Proof.DiffIdeal.diagA0 q k v m a = tA (k0_pay25 (View.ld q col0) (View.ld k col0)) (View.ld m half0) v (View.ld a wide0) := rfl
theorem diagA1_eq (q k v : Vec Ideal S512x256 .bf16) (m : Vec Ideal S2x512x128 .f32) (a : Vec Ideal S2x512x256 .f32) :
    Cert.Proof.DiffIdeal.diagA1 q k v m a = tA (k0_pay25 (View.ld q col1) (View.ld k col1)) (View.ld m half1) v (View.ld a wide1) := rfl

/-! Halves and columns. -/

theorem ld_half0 (x : Vec Ideal S2x512x128 .f32) (r : Fin 512) (j : Fin 128) : View.ld x half0 (ix3 0 r j) = x (ix3 0 r j) :=
  View.ld_unit_apply_of _ _ _ _ _ _ fun a => by
    match a with
    | ⟨0, _⟩ => rfl
    | ⟨1, _⟩ => show r.val = 0 + r.val; omega
    | ⟨2, _⟩ => show j.val = 0 + j.val; omega
theorem ld_half1 (x : Vec Ideal S2x512x128 .f32) (r : Fin 512) (j : Fin 128) : View.ld x half1 (ix3 0 r j) = x (ix3 1 r j) :=
  View.ld_unit_apply_of _ _ _ _ _ _ fun a => by
    match a with
    | ⟨0, _⟩ => rfl
    | ⟨1, _⟩ => show r.val = 0 + r.val; omega
    | ⟨2, _⟩ => show j.val = 0 + j.val; omega
theorem ld_wide0 (x : Vec Ideal S2x512x256 .f32) (r : Fin 512) (j : Fin 256) : View.ld x wide0 (ix3 0 r j) = x (ix3 0 r j) :=
  View.ld_unit_apply_of _ _ _ _ _ _ fun a => by
    match a with
    | ⟨0, _⟩ => rfl
    | ⟨1, _⟩ => show r.val = 0 + r.val; omega
    | ⟨2, _⟩ => show j.val = 0 + j.val; omega
theorem ld_wide1 (x : Vec Ideal S2x512x256 .f32) (r : Fin 512) (j : Fin 256) : View.ld x wide1 (ix3 0 r j) = x (ix3 1 r j) :=
  View.ld_unit_apply_of _ _ _ _ _ _ fun a => by
    match a with
    | ⟨0, _⟩ => rfl
    | ⟨1, _⟩ => show r.val = 0 + r.val; omega
    | ⟨2, _⟩ => show j.val = 0 + j.val; omega
theorem ld_col0 (x : Vec Ideal S512x256 .bf16) (r : Fin 512) (j : Fin 128) : View.ld x col0 (ix2 r j) = x (ix2 r ⟨j.val, by omega⟩) :=
  View.ld_unit_apply_of _ _ _ _ _ _ fun a => by
    match a with
    | ⟨0, _⟩ => show r.val = 0 + r.val; omega
    | ⟨1, _⟩ => show j.val = 0 + j.val; omega
theorem ld_col1 (x : Vec Ideal S512x256 .bf16) (r : Fin 512) (j : Fin 128) : View.ld x col1 (ix2 r j) = x (ix2 r ⟨128 + j.val, by omega⟩) :=
  View.ld_unit_apply_of _ _ _ _ _ _ fun a => by
    match a with
    | ⟨0, _⟩ => show r.val = 0 + r.val; omega
    | ⟨1, _⟩ => show 128 + j.val = 128 + j.val; omega

theorem emb_half0 (r : Fin 512) (j : Fin 128) : half0.emb (ix3 (0 : Fin 1) r j) = ix3 0 r j := by
  funext a; apply Fin.ext
  match a with
  | ⟨0, _⟩ => rfl
  | ⟨1, _⟩ => show 0 + 1 * r.val = r.val; omega
  | ⟨2, _⟩ => show 0 + 1 * j.val = j.val; omega
theorem emb_half1 (r : Fin 512) (j : Fin 128) : half1.emb (ix3 (0 : Fin 1) r j) = ix3 1 r j := by
  funext a; apply Fin.ext
  match a with
  | ⟨0, _⟩ => rfl
  | ⟨1, _⟩ => show 0 + 1 * r.val = r.val; omega
  | ⟨2, _⟩ => show 0 + 1 * j.val = j.val; omega
theorem both_1 (x0 x1 : Vec Ideal S1x512x128 .f32) (r : Fin 512) (j : Fin 128) : both x0 x1 (ix3 1 r j) = x1 (ix3 0 r j) := by
  unfold both
  rw [← emb_half1]; exact View.canon_cons_emb _ _ _ _
theorem both_0 (x0 x1 : Vec Ideal S1x512x128 .f32) (r : Fin 512) (j : Fin 128) : both x0 x1 (ix3 0 r j) = x0 (ix3 0 r j) := by
  unfold both
  refine (View.canon_cons_of_not_mem _ _ ?_).trans ?_
  · exact fun h => absurd (show (1 : ℕ) ≤ 0 from (Rect.mem_set_unit (inb := inb_S2x512x128_S1x512x128_1_0_0).mp h 0).1) (by decide)
  · rw [← emb_half0]; exact View.canon_cons_emb _ _ _ _
theorem emb_wide0 (r : Fin 512) (j : Fin 256) : wide0.emb (ix3 (0 : Fin 1) r j) = ix3 0 r j := by
  funext a; apply Fin.ext
  match a with
  | ⟨0, _⟩ => rfl
  | ⟨1, _⟩ => show 0 + 1 * r.val = r.val; omega
  | ⟨2, _⟩ => show 0 + 1 * j.val = j.val; omega
theorem emb_wide1 (r : Fin 512) (j : Fin 256) : wide1.emb (ix3 (0 : Fin 1) r j) = ix3 1 r j := by
  funext a; apply Fin.ext
  match a with
  | ⟨0, _⟩ => rfl
  | ⟨1, _⟩ => show 0 + 1 * r.val = r.val; omega
  | ⟨2, _⟩ => show 0 + 1 * j.val = j.val; omega
theorem bothW_1 (x0 x1 : Vec Ideal S1x512x256 .f32) (r : Fin 512) (j : Fin 256) : bothW x0 x1 (ix3 1 r j) = x1 (ix3 0 r j) := by
  unfold bothW
  rw [← emb_wide1]; exact View.canon_cons_emb _ _ _ _
theorem bothW_0 (x0 x1 : Vec Ideal S1x512x256 .f32) (r : Fin 512) (j : Fin 256) : bothW x0 x1 (ix3 0 r j) = x0 (ix3 0 r j) := by
  unfold bothW
  refine (View.canon_cons_of_not_mem _ _ ?_).trans ?_
  · exact fun h => absurd (show (1 : ℕ) ≤ 0 from (Rect.mem_set_unit (inb := inb_S2x512x256_S1x512x256_1_0_0).mp h 0).1) (by decide)
  · rw [← emb_wide0]; exact View.canon_cons_emb _ _ _ _

/-! One row of the running softmax. -/

open DiffSoftmax (sumW)

/-- A row after `n` keys: every lane holds the same real maximum `μ`, the weights' sum and the weighted sums against it. -/
def Held (x : ℕ → EReal) (v : Fin 256 → ℕ → ℝ) (n : ℕ) (m l : Fin 128 → EReal) (a : Fin 256 → EReal) : Prop :=
  ∃ μ : ℝ, (∀ j, m j = (μ : EReal)) ∧ (∀ j, l j = ((sumW x (fun _ => 1) n μ : ℝ) : EReal)) ∧ ∀ e, a e = ((sumW x (v e) n μ : ℝ) : EReal)

theorem ofBits_negInf : Ideal.ofBits .f32 0xFF800000#32 = ⊥ := by simp [Ideal.ofBits, Ideal.ieee]

theorem held_tile (x : ℕ → EReal) (v : Fin 256 → ℕ → ℝ) (n : ℕ) (hx : ∀ k, x k ≠ ⊤) (S : Tile) (m l : Vec Ideal S1x512x128 .f32)
    (w : FVec Ideal S512x256 .bf16) (a : Vec Ideal S1x512x256 .f32) (r : Fin 512) (hS : ∀ k : Fin 512, S (ix2 r k) = x (n + k.val))
    (hw : ∀ (k : Fin 512) (e : Fin 256), w (ix2 k e) = ((v e (n + k.val) : ℝ) : EReal))
    (h : Held x v n (fun j => m (ix3 0 r j)) (fun j => l (ix3 0 r j)) (fun e => a (ix3 0 r e))) :
    Held x v (n + 512) (fun j => tM S m (ix2 r j)) (fun j => tL S m l (ix3 0 r j)) (fun e => tA S m w a (ix3 0 r e)) := by
  obtain ⟨μ, hm, hl, ha⟩ := h
  have hr : rowMax S r ≠ ⊤ := DiffSoftmax.fold_ne_top _ _ (by rw [ofBits_negInf]; exact bot_ne_top) _ fun k => by rw [hS k]; exact hx _
  obtain ⟨ν, hν⟩ := DiffSoftmax.max_real μ hr
  have hM : ∀ j, max (m (ix3 0 r j)) (rowMax S r) = (ν : EReal) := fun j => (congrArg (max · _) (hm j)).trans hν
  have hF : ∀ j, tF S m (ix2 r j) = Ideal.exp2 ((μ : EReal) - (ν : EReal)) := fun j => by
    rw [tF_apply, hM]; exact congrArg (fun z => Ideal.exp2 (z - (ν : EReal))) (hm j)
  have hP : ∀ k : Fin 512, tP S m (ix2 r k) = Ideal.exp2 (x (n + k.val) - (ν : EReal)) := fun k => by rw [tP_apply, hM, hS]
  refine ⟨ν, fun j => (tM_apply S m r j).trans (hM j), fun j => ?_, fun e => ?_⟩
  · refine (tL_apply S m l r j).trans ?_
    rw [hF, ← DiffSoftmax.step_one x n 512 hx μ ν]
    refine congrArg₂ (fun a b : EReal => a + b) (congrArg (fun z : EReal => Ideal.exp2 ((μ : EReal) - (ν : EReal)) * z) (hl j)) ?_
    exact Finset.sum_congr rfl fun k _ => hP k
  · refine (tA_apply S m w a r e).trans ?_
    rw [hF, ← DiffSoftmax.step x (v e) n 512 hx μ ν]
    refine congrArg₂ (fun a b : EReal => a + b) (congrArg (fun z : EReal => Ideal.exp2 ((μ : EReal) - (ν : EReal)) * z) (ha e)) ?_
    exact Finset.sum_congr rfl fun k _ => congrArg₂ (fun a b : EReal => a * b) (hP k) (hw k e)

/-- The start of a row: no keys yet. -/
theorem held_init (x : ℕ → EReal) (v : Fin 256 → ℕ → ℝ) (r : Fin 512) (p : Fin 2) :
    Held x v 0 (fun j => k0_pay1 (F := Ideal) (ix3 p r j)) (fun j => k0_pay2 (F := Ideal) (ix3 p r j)) (fun e => k0_pay3 (F := Ideal) (ix3 p r e)) := by
  obtain ⟨μ, hμ⟩ : ∃ μ : ℝ, Ideal.ofBits .f32 0xF0C9F2CA#32 = (μ : EReal) := by
    show ∃ μ : ℝ, Ideal.ieee 8 23 (0xF0C9F2CA#32) = _
    unfold Ideal.ieee
    rw [if_neg (by decide), if_neg (by decide)]
    exact ⟨_, rfl⟩
  refine ⟨μ, fun j => hμ, fun j => ?_, fun e => ?_⟩
  · exact Ideal.ofBits_zero_f32
  · exact Ideal.ofBits_zero_f32

end Cert.Proof.DiffTile
-- ==== Proof.DiffRef.lean ====
/- The reference program of the differential attention, read at an entry: a row's masked scores, its two softmaxes as
   weighted sums over the keys, and the tail after them. -/
module

public import proofs.«01_k».proof.Proof.Gen.DiffRefIdeal.Read
public import proofs.«01_k».proof.Proof.DiffSoftmax
public import Idealize.ShloMosaic.Lib.ValueIdx
public import Idealize.ShloMosaic.Lib.IdealHost
public import Idealize.ShloMosaic.Lib.WordCmp
public import Idealize.ShloMosaic.Lib.KernelVsHost

@[expose] public section

noncomputable section

namespace Cert.Proof.DiffRef

open Cert.DiffRefIdeal Cert.DiffRefIdeal.Gen Cert.DiffRefIdeal.Read Idealize.ShloMosaic
open Idealize.ShloMosaic.ValueIdx
open Cert.Proof.DiffSoftmax (wt sumW soft prob)
open scoped BigOperators

/-- An entry of the queries' and keys' array, and of the values' and gates'. -/
def rd0 (x : S32768x4096.Idx → EReal) (r c : ℕ) : EReal := if h : r < 32768 ∧ c < 4096 then x (ix2 ⟨r, h.1⟩ ⟨c, h.2⟩) else 0
def rd1 (x : S32768x8192.Idx → EReal) (r c : ℕ) : EReal := if h : r < 32768 ∧ c < 8192 then x (ix2 ⟨r, h.1⟩ ⟨c, h.2⟩) else 0

theorem rd0_eq (x : S32768x4096.Idx → EReal) (i : S32768x4096.Idx) (r c : ℕ) (hr : (i 0).val = r) (hc : (i 1).val = c) : x i = rd0 x r c := by
  subst hr hc
  unfold rd0
  rw [dif_pos ⟨(i 0).isLt, (i 1).isLt⟩]
  exact congrArg x (eq_ix2 (n0 := 32768) (n1 := 4096) i)
theorem rd1_eq (x : S32768x8192.Idx → EReal) (i : S32768x8192.Idx) (r c : ℕ) (hr : (i 0).val = r) (hc : (i 1).val = c) : x i = rd1 x r c := by
  subst hr hc
  unfold rd1
  rw [dif_pos ⟨(i 0).isLt, (i 1).isLt⟩]
  exact congrArg x (eq_ix2 (n0 := 32768) (n1 := 8192) i)

/-- Query `R` against key `k`: batch `b`, head `h`, branch `j`. -/
def score (x0 : S32768x4096.Idx → EReal) (b h j R k : ℕ) : EReal :=
  ∑ d : Fin 128, rd0 x0 (b * 16384 + R) (2048 + h * 256 + j * 128 + d.val) * rd0 x0 (b * 16384 + k) (3072 + h * 256 + j * 128 + d.val)

/-- A row's scores, −∞ past the query. -/
def xs (x0 : S32768x4096.Idx → EReal) (b h j R k : ℕ) : EReal := if k ≤ R then score x0 b h j R k else ⊥

/-- Column `e` of the values, down the keys. -/
def vv (x1 : S32768x8192.Idx → EReal) (b h e k : ℕ) : ℝ := (rd1 x1 (b * 16384 + k) (1024 + h * 256 + e)).toReal

/-- The weight of the second softmax. -/
def lam (x3 x4 x5 x6 : S128.Idx → EReal) : EReal :=
  Ideal.exp (∑ k : Fin 128, x3 (ix1 k) * x4 (ix1 k)) - Ideal.exp (∑ k : Fin 128, x5 (ix1 k) * x6 (ix1 k)) + Ideal.ofBits .f32 0x3E4CCCCD#32

/-- The difference of the two softmaxes, times the values. -/
def od (x0 : S32768x4096.Idx → EReal) (x1 : S32768x8192.Idx → EReal) (L : ℝ) (b h R e : ℕ) : ℝ :=
  soft (xs x0 b h 0 R) (vv x1 b h e) 16384 - L * soft (xs x0 b h 1 R) (vv x1 b h e) 16384

/-- Root mean square over the head, the gain, 0.8 and the gate. -/
def tail (o : Fin 256 → EReal) (g s : EReal) (e : Fin 256) : EReal :=
  o e * Ideal.rsqrt (Ideal.div (∑ k : Fin 256, o k * o k) (Ideal.ofBits .f32 0x43800000#32) + Ideal.ofBits .f32 0x3727C5AC#32) * g
    * Ideal.ofBits .f32 0x3F4CCCCD#32 * s

/-- What the launch is given that is finite. -/
structure Fine (x0 : S32768x4096.Idx → EReal) (x1 : S32768x8192.Idx → EReal) (x3 x4 x5 x6 : S128.Idx → EReal) (L : ℝ) : Prop where
  qk : ∀ r c, r < 32768 → 2048 ≤ c → c < 4096 → ∃ y : ℝ, rd0 x0 r c = (y : EReal)
  v : ∀ r c, r < 32768 → 1024 ≤ c → c < 2048 → ∃ y : ℝ, rd1 x1 r c = (y : EReal)
  l : lam x3 x4 x5 x6 = (L : EReal)

variable {x0 : S32768x4096.Idx → EReal} {x1 : S32768x8192.Idx → EReal} {x3 x4 x5 x6 : S128.Idx → EReal} {L : ℝ}

theorem sum_real {n : ℕ} (f : Fin n → EReal) (h : ∀ k, ∃ y : ℝ, f k = (y : EReal)) : ∃ y : ℝ, ∑ k : Fin n, f k = (y : EReal) := by
  choose g hg using h
  exact ⟨∑ k, g k, by rw [DiffSoftmax.coe_sum]; exact Finset.sum_congr rfl fun k _ => hg k⟩

theorem score_real (H : Fine x0 x1 x3 x4 x5 x6 L) {b h j R k : ℕ} (hb : b < 2) (hh : h < 4) (hj : j < 2) (hR : R < 16384) (hk : k < 16384) :
    ∃ y : ℝ, score x0 b h j R k = (y : EReal) := by
  refine sum_real _ fun d => ?_
  have hd := d.isLt
  obtain ⟨y, hy⟩ := H.qk (b * 16384 + R) (2048 + h * 256 + j * 128 + d.val) (by omega) (by omega) (by omega)
  obtain ⟨z, hz⟩ := H.qk (b * 16384 + k) (3072 + h * 256 + j * 128 + d.val) (by omega) (by omega) (by omega)
  exact ⟨y * z, by rw [hy, hz, EReal.coe_mul]⟩

theorem xs_ne_top (H : Fine x0 x1 x3 x4 x5 x6 L) {b h j R : ℕ} (hb : b < 2) (hh : h < 4) (hj : j < 2) (hR : R < 16384) (k : ℕ) :
    xs x0 b h j R k ≠ ⊤ := by
  unfold xs
  by_cases hk : k ≤ R
  · rw [if_pos hk]
    obtain ⟨y, hy⟩ := score_real H hb hh hj hR (by omega : k < 16384)
    rw [hy]; exact EReal.coe_ne_top y
  · rw [if_neg hk]; exact bot_ne_top

theorem xs_zero (H : Fine x0 x1 x3 x4 x5 x6 L) {b h j R : ℕ} (hb : b < 2) (hh : h < 4) (hj : j < 2) (hR : R < 16384) : xs x0 b h j R 0 ≠ ⊥ := by
  unfold xs
  rw [if_pos (Nat.zero_le R)]
  obtain ⟨y, hy⟩ := score_real H hb hh hj hR (by omega : 0 < 16384)
  rw [hy]; exact EReal.coe_ne_bot y

theorem vv_coe (H : Fine x0 x1 x3 x4 x5 x6 L) {b h e k : ℕ} (hb : b < 2) (hh : h < 4) (he : e < 256) (hk : k < 16384) :
    rd1 x1 (b * 16384 + k) (1024 + h * 256 + e) = ((vv x1 b h e k : ℝ) : EReal) := by
  obtain ⟨y, hy⟩ := H.v (b * 16384 + k) (1024 + h * 256 + e) (by omega) (by omega) (by omega)
  unfold vv
  rw [hy, EReal.toReal_coe]

/-! The program's stages. -/

theorem v10_eq (i : S2x16384x4x2x128.Idx) :
    val_main_v10 (F := Ideal) x0 i = rd0 x0 ((i 0).val * 16384 + (i 1).val) (2048 + (i 2).val * 256 + (i 3).val * 128 + (i 4).val) := by
  have h0 : (i 0).val < 2 := (i 0).isLt
  have h1 : (i 1).val < 16384 := (i 1).isLt
  have h2 : (i 2).val < 4 := (i 2).isLt
  have h3 : (i 3).val < 2 := (i 3).isLt
  have h4 : (i 4).val < 128 := (i 4).isLt
  rw [val_main_v10_apply, val_main_v9_apply]
  show val_main_v8 (F := Ideal) x0 (idx_main_v10 i) = _
  rw [val_main_v8_apply]
  refine rd0_eq x0 _ _ _ ?_ ?_
  · show (((((i 0).val * 16384 + (i 1).val) * 4 + (i 2).val) * 2 + (i 3).val) * 128 + (i 4).val) / 1024 = _
    omega
  · show 2048 + (((((i 0).val * 16384 + (i 1).val) * 4 + (i 2).val) * 2 + (i 3).val) * 128 + (i 4).val) % 1024 = _
    omega

theorem v13_eq (i : S2x16384x4x2x128.Idx) :
    val_main_v13 (F := Ideal) x0 i = rd0 x0 ((i 0).val * 16384 + (i 1).val) (3072 + (i 2).val * 256 + (i 3).val * 128 + (i 4).val) := by
  have h0 : (i 0).val < 2 := (i 0).isLt
  have h1 : (i 1).val < 16384 := (i 1).isLt
  have h2 : (i 2).val < 4 := (i 2).isLt
  have h3 : (i 3).val < 2 := (i 3).isLt
  have h4 : (i 4).val < 128 := (i 4).isLt
  rw [val_main_v13_apply, val_main_v12_apply]
  show val_main_v11 (F := Ideal) x0 (idx_main_v13 i) = _
  rw [val_main_v11_apply]
  refine rd0_eq x0 _ _ _ ?_ ?_
  · show (((((i 0).val * 16384 + (i 1).val) * 4 + (i 2).val) * 2 + (i 3).val) * 128 + (i 4).val) / 1024 = _
    omega
  · show 3072 + (((((i 0).val * 16384 + (i 1).val) * 4 + (i 2).val) * 2 + (i 3).val) * 128 + (i 4).val) % 1024 = _
    omega

theorem v16_eq (i : S2x16384x4x256.Idx) :
    val_main_v16 (F := Ideal) x1 i = rd1 x1 ((i 0).val * 16384 + (i 1).val) (1024 + (i 2).val * 256 + (i 3).val) := by
  have h0 : (i 0).val < 2 := (i 0).isLt
  have h1 : (i 1).val < 16384 := (i 1).isLt
  have h2 : (i 2).val < 4 := (i 2).isLt
  have h3 : (i 3).val < 256 := (i 3).isLt
  rw [val_main_v16_apply, val_main_v15_apply]
  show val_main_v14 (F := Ideal) x1 (idx_main_v16 i) = _
  rw [val_main_v14_apply]
  refine rd1_eq x1 _ _ _ ?_ ?_
  · show ((((i 0).val * 16384 + (i 1).val) * 4 + (i 2).val) * 256 + (i 3).val) / 1024 = _
    omega
  · show 1024 + ((((i 0).val * 16384 + (i 1).val) * 4 + (i 2).val) * 256 + (i 3).val) % 1024 = _
    omega

theorem v17_eq (i : S2x4x2x16384x16384.Idx) :
    val_main_v17 (F := Ideal) x0 i = score x0 (i 0).val (i 1).val (i 2).val (i 3).val (i 4).val := by
  rw [val_main_v17_apply]
  unfold score
  refine Finset.sum_congr rfl fun d _ => ?_
  rw [v10_eq, v13_eq]

theorem ofBits_negInf : Ideal.ofBits .f32 0xFF800000#32 = ⊥ := by simp [Ideal.ofBits, Ideal.ieee]

theorem v25_eq (i : S2x4x2x16384x16384.Idx) :
    val_main_v25 (F := Ideal) x0 i = xs x0 (i 0).val (i 1).val (i 2).val (i 3).val (i 4).val := by
  have h3 : (i 3).val < 16384 := (i 3).isLt
  have h4 : (i 4).val < 16384 := (i 4).isLt
  rw [val_main_v25_apply, val_main_call0_v1_apply, val_main_v24_apply, val_main_v22_apply, val_main_v19_apply, val_main_v18_apply,
    val_main_v23_apply, val_main_v21_apply, val_main_v20_apply, val_main_call0_v2_apply, val_main_call0_v0_apply, val_main_cst_2_apply, v17_eq]
  have e : IntOp.cmpi .sle (BitVec.ofNat 32 (i 4).val) (BitVec.ofNat 32 (i 3).val) = if (i 4).val ≤ (i 3).val then 1#1 else 0#1 := by
    rw [WordCmp.cmpi_sle_ofNat (w := 32) (by omega) (by omega)]
    by_cases h : (i 4).val ≤ (i 3).val
    · rw [if_pos h, decide_eq_true h]; rfl
    · rw [if_neg h, decide_eq_false h]; rfl
  show Scalar.select (IntOp.cmpi .sle (BitVec.ofNat 32 (i 4).val) (BitVec.ofNat 32 (i 3).val)) _ (Ideal.ofBits .f32 0xFF800000#32) = _
  rw [e, ofBits_negInf]
  unfold xs
  by_cases h : (i 4).val ≤ (i 3).val
  · rw [if_pos h, if_pos h]; rfl
  · rw [if_neg h, if_neg h]; rfl

theorem reduces_last : S2x4x2x16384x16384.Reduces [4] S2x4x2x16384 := by decide +kernel

theorem max_last (y : FVec Ideal S2x4x2x16384x16384 .f32) (i : S2x4x2x16384.Idx) :
    Host.reduce FloatOps.maximumf y (constant S_ .f32 0xFF800000#32) reducesTo_S2x4x2x16384x16384_S2x4x2x16384_d4 h_S_ i
      = (Finset.univ : Finset (Fin 16384)).fold max (Ideal.ofBits .f32 0xFF800000#32) (fun k => y (idx_main_v32 i k)) := by
  refine (congrFun (hostReduce_maximumf_eq_multiReduction (F := Ideal) (φ := .f32) y 0xFF800000#32 reducesTo_S2x4x2x16384x16384_S2x4x2x16384_d4
      h_S_ reduces_last (.inl rfl) rfl) i).trans ?_
  refine (Ideal.multiReduction_maximumf_single y 0xFF800000#32 reduces_last (.inl rfl) rfl i).trans ?_
  refine congrArg (fun f => Finset.fold max (Ideal.ofBits .f32 0xFF800000#32) f (Finset.univ : Finset (Fin 16384))) (funext fun k => congrArg y ?_)
  funext a; apply Fin.ext
  match a with
  | ⟨0, _⟩ => rfl
  | ⟨1, _⟩ => rfl
  | ⟨2, _⟩ => rfl
  | ⟨3, _⟩ => rfl
  | ⟨4, _⟩ => rfl

theorem v27_real (H : Fine x0 x1 x3 x4 x5 x6 L) (i : S2x4x2x16384.Idx) : ∃ μ : ℝ, val_main_v27 (F := Ideal) x0 i = (μ : EReal) := by
  have e : val_main_v27 (F := Ideal) x0 i = (Finset.univ : Finset (Fin 16384)).fold max (Ideal.ofBits .f32 0xFF800000#32)
      (fun k => xs x0 (i 0).val (i 1).val (i 2).val (i 3).val k.val) := by
    refine (max_last (val_main_v25 (F := Ideal) x0) i).trans ?_
    refine congrArg (fun f => Finset.fold max (Ideal.ofBits .f32 0xFF800000#32) f (Finset.univ : Finset (Fin 16384))) (funext fun k => ?_)
    exact v25_eq _
  have hb : (i 0).val < 2 := (i 0).isLt
  have hh : (i 1).val < 4 := (i 1).isLt
  have hj : (i 2).val < 2 := (i 2).isLt
  have hR : (i 3).val < 16384 := (i 3).isLt
  rw [e, ofBits_negInf]
  have ht := DiffSoftmax.fold_ne_top (Finset.univ : Finset (Fin 16384)) ⊥ bot_ne_top (fun k => xs x0 (i 0).val (i 1).val (i 2).val (i 3).val k.val)
    (fun k => xs_ne_top H hb hh hj hR k.val)
  have hl := DiffSoftmax.le_fold (Finset.univ : Finset (Fin 16384)) ⊥ (fun k => xs x0 (i 0).val (i 1).val (i 2).val (i 3).val k.val)
    (Finset.mem_univ (⟨0, by decide⟩ : Fin 16384))
  have hbot : (Finset.univ : Finset (Fin 16384)).fold max ⊥ (fun k => xs x0 (i 0).val (i 1).val (i 2).val (i 3).val k.val) ≠ ⊥ :=
    fun hq => xs_zero H hb hh hj hR (le_bot_iff.mp (hl.trans hq.le))
  exact ⟨_, (EReal.coe_toReal ht hbot).symm⟩

theorem ofBits_two : Ideal.ofBits .f32 0x40000000#32 = ((2 : ℝ) : EReal) := by
  simp [Ideal.ofBits, Ideal.ieee, -EReal.coe_mul]; norm_num

theorem v35_eq (H : Fine x0 x1 x3 x4 x5 x6 L) (i : S2x4x2x16384x16384.Idx) :
    val_main_v35 (F := Ideal) x0 i = ((prob (xs x0 (i 0).val (i 1).val (i 2).val (i 3).val) 16384 (i 4).val : ℝ) : EReal) := by
  have hb : (i 0).val < 2 := (i 0).isLt
  have hh : (i 1).val < 4 := (i 1).isLt
  have hj : (i 2).val < 2 := (i 2).isLt
  have hR : (i 3).val < 16384 := (i 3).isLt
  obtain ⟨μ, hμ⟩ := v27_real H (idx_main_v28 (idx_main_v29 i))
  have e31 : ∀ q : S2x4x2x16384x16384.Idx, idx_main_v28 (idx_main_v29 q) = idx_main_v28 (idx_main_v29 i) →
      val_main_v31 (F := Ideal) x0 q = ((wt μ (xs x0 (q 0).val (q 1).val (q 2).val (q 3).val (q 4).val) : ℝ) : EReal) := fun q hq => by
    rw [val_main_v31_apply, val_main_v26_apply, val_main_cst_3_apply, val_main_v30_apply, v25_eq, val_main_v29_apply, val_main_v28_apply, hq, hμ]
    show Ideal.pow (Ideal.ofBits .f32 0x40000000#32) (_ - _) = _
    rw [ofBits_two]
    exact DiffSoftmax.pow_two_sub μ (xs_ne_top H (q 0).isLt (q 1).isLt (q 2).isLt (q 3).isLt _)
  rw [val_main_v35_apply, e31 i rfl, val_main_v34_apply, val_main_v33_apply, val_main_v32_apply, val_main_cst_5_apply]
  have es : ∑ k : Fin 16384, val_main_v31 (F := Ideal) x0 (idx_main_v32 (idx_main_v33 (idx_main_v34 i)) k)
      = ((sumW (xs x0 (i 0).val (i 1).val (i 2).val (i 3).val) (fun _ => 1) 16384 μ : ℝ) : EReal) := by
    unfold sumW
    rw [← Fin.sum_univ_eq_sum_range (fun k => wt μ (xs x0 (i 0).val (i 1).val (i 2).val (i 3).val k) * 1) 16384, DiffSoftmax.coe_sum]
    refine Finset.sum_congr rfl fun k _ => ?_
    rw [mul_one]
    exact e31 (idx_main_v32 (idx_main_v33 (idx_main_v34 i)) k) rfl
  rw [es]
  show Ideal.div _ (Ideal.ofBits .f32 0x00000000#32 + _) = _
  rw [Ideal.ofBits_zero_f32, zero_add]
  exact DiffSoftmax.quot_prob _ (by decide) (xs_zero H hb hh hj hR) μ _

theorem sum_idx (f : S128.Idx → EReal) : ∑ i : S128.Idx, f i = ∑ k : Fin 128, f (ix1 k) :=
  (Fintype.sum_equiv ⟨fun k : Fin 128 => (ix1 k : S128.Idx), fun i => i 0, fun _ => rfl, fun i => by funext a; match a with | ⟨0, _⟩ => rfl⟩ _ _ fun _ => rfl).symm

theorem v7_eq (i : S_.Idx) : val_main_v7 (F := Ideal) x3 x4 x5 x6 i = lam x3 x4 x5 x6 := by
  rw [val_main_v7_apply, val_main_v6_apply, val_main_v2_apply, val_main_v5_apply, val_main_v1_apply, val_main_v4_apply, val_main_cst_1_apply,
    val_main_cst_apply, val_main_cst_0_apply, sum_idx, sum_idx]
  show Ideal.exp (Ideal.ofBits .f32 0x00000000#32 + _) - Ideal.exp (Ideal.ofBits .f32 0x00000000#32 + _) + _ = _
  rw [Ideal.ofBits_zero_f32, zero_add, zero_add]
  rfl

theorem v42_eq (H : Fine x0 x1 x3 x4 x5 x6 L) (i : S2x4x16384x16384.Idx) :
    val_main_v42 (F := Ideal) x0 x3 x4 x5 x6 i
      = ((prob (xs x0 (i 0).val (i 1).val 0 (i 2).val) 16384 (i 3).val : ℝ) : EReal)
        - (L : EReal) * ((prob (xs x0 (i 0).val (i 1).val 1 (i 2).val) 16384 (i 3).val : ℝ) : EReal) := by
  have h0 : (i 0).val < 2 := (i 0).isLt
  have h1 : (i 1).val < 4 := (i 1).isLt
  have h2 : (i 2).val < 16384 := (i 2).isLt
  have h3 : (i 3).val < 16384 := (i 3).isLt
  have e0 : ((((i 0).val * 4 + (i 1).val) * 16384 + (i 2).val) * 16384 + (i 3).val) / 1073741824 = (i 0).val := by omega
  have e1 : ((((i 0).val * 4 + (i 1).val) * 16384 + (i 2).val) * 16384 + (i 3).val) / 268435456 % 4 = (i 1).val := by omega
  have e2 : ((((i 0).val * 4 + (i 1).val) * 16384 + (i 2).val) * 16384 + (i 3).val) / 16384 % 16384 = (i 2).val := by omega
  have e3 : ((((i 0).val * 4 + (i 1).val) * 16384 + (i 2).val) * 16384 + (i 3).val) % 16384 = (i 3).val := by omega
  rw [val_main_v42_apply, val_main_v37_apply, val_main_v36_apply, v35_eq H, val_main_v41_apply, val_main_v40_apply, v7_eq, H.l,
    val_main_v39_apply, val_main_v38_apply, v35_eq H]
  show ((prob (xs x0 (((((i 0).val * 4 + (i 1).val) * 16384 + (i 2).val) * 16384 + (i 3).val) / 1073741824)
      (((((i 0).val * 4 + (i 1).val) * 16384 + (i 2).val) * 16384 + (i 3).val) / 268435456 % 4) 0
      (((((i 0).val * 4 + (i 1).val) * 16384 + (i 2).val) * 16384 + (i 3).val) / 16384 % 16384)) 16384
      (((((i 0).val * 4 + (i 1).val) * 16384 + (i 2).val) * 16384 + (i 3).val) % 16384) : ℝ) : EReal)
    - (L : EReal) * ((prob (xs x0 (((((i 0).val * 4 + (i 1).val) * 16384 + (i 2).val) * 16384 + (i 3).val) / 1073741824)
      (((((i 0).val * 4 + (i 1).val) * 16384 + (i 2).val) * 16384 + (i 3).val) / 268435456 % 4) (1 + 0)
      (((((i 0).val * 4 + (i 1).val) * 16384 + (i 2).val) * 16384 + (i 3).val) / 16384 % 16384)) 16384
      (((((i 0).val * 4 + (i 1).val) * 16384 + (i 2).val) * 16384 + (i 3).val) % 16384) : ℝ) : EReal) = _
  rw [e0, e1, e2, e3]

theorem v44_eq (H : Fine x0 x1 x3 x4 x5 x6 L) (i : S2x16384x4x256.Idx) :
    val_main_v44 (F := Ideal) x0 x1 x3 x4 x5 x6 i = ((od x0 x1 L (i 0).val (i 2).val (i 1).val (i 3).val : ℝ) : EReal) := by
  rw [val_main_v44_apply, val_main_v43_apply]
  unfold od
  rw [← DiffSoftmax.diff_sum]
  refine Finset.sum_congr rfl fun k _ => ?_
  rw [v42_eq H, v16_eq]
  exact congrArg (fun z : EReal => z * _) (vv_coe H (i 0).isLt (i 2).isLt (i 3).isLt k.isLt)

/-- The reference's result at an entry. -/
theorem v64_eq (H : Fine x0 x1 x3 x4 x5 x6 L) (x2 : S256.Idx → EReal) (i : S32768x1024.Idx) (b R h : ℕ) (e : Fin 256) (hb : b < 2) (hR : R < 16384)
    (hh : h < 4) (h0 : (i 0).val = b * 16384 + R) (h1 : (i 1).val = h * 256 + e.val) :
    val_main_v64 (F := Ideal) x0 x1 x2 x3 x4 x5 x6 i
      = tail (fun k => ((od x0 x1 L b h R k.val : ℝ) : EReal)) (x2 (ix1 e)) (rd1 x1 (b * 16384 + R) (3072 + h * 256 + e.val)) e := by
  have he := e.isLt
  have q0 : ((idx_main_v60 i) 0).val = b := by show ((i 0).val * 1024 + (i 1).val) / 16777216 = b; omega
  have q1 : ((idx_main_v60 i) 1).val = R := by show ((i 0).val * 1024 + (i 1).val) / 1024 % 16384 = R; omega
  have q2 : ((idx_main_v60 i) 2).val = h := by show ((i 0).val * 1024 + (i 1).val) / 256 % 4 = h; omega
  have q3 : ((idx_main_v60 i) 3).val = e.val := by show ((i 0).val * 1024 + (i 1).val) % 256 = e.val; omega
  have s : ∀ k : Fin 256, val_main_v45 (F := Ideal) x0 x1 x3 x4 x5 x6 (idx_main_v46 (idx_main_v47 (idx_main_v53 (idx_main_v60 i))) k)
      = ((od x0 x1 L b h R k.val : ℝ) : EReal) * ((od x0 x1 L b h R k.val : ℝ) : EReal) := fun k => by
    rw [val_main_v45_apply, v44_eq H]
    show ((od x0 x1 L ((idx_main_v60 i) 0).val ((idx_main_v60 i) 2).val ((idx_main_v60 i) 1).val k.val : ℝ) : EReal)
      * ((od x0 x1 L ((idx_main_v60 i) 0).val ((idx_main_v60 i) 2).val ((idx_main_v60 i) 1).val k.val : ℝ) : EReal) = _
    rw [q0, q1, q2]
  have g : x2 (idx_main_v55 (idx_main_v56 (idx_main_v60 i))) = x2 (ix1 e) := congrArg x2 (by
    funext a
    match a with
    | ⟨0, _⟩ => exact Fin.ext q3)
  have t : x1 (idx_main_v61 i) = rd1 x1 (b * 16384 + R) (3072 + h * 256 + e.val) :=
    rd1_eq x1 _ _ _ h0 (by show 3072 + (i 1).val = _; omega)
  rw [val_main_v64_apply, val_main_v63_apply, val_main_v60_apply, val_main_v59_apply, val_main_v57_apply, val_main_v54_apply, v44_eq H,
    val_main_v53_apply, val_main_v52_apply, val_main_v51_apply, val_main_v49_apply, val_main_v47_apply, val_main_v46_apply, val_main_v48_apply,
    val_main_v50_apply, val_main_cst_7_apply, val_main_cst_8_apply, val_main_cst_6_apply, val_main_v56_apply, val_main_v55_apply, g,
    val_main_v58_apply, val_main_cst_9_apply, val_main_v62_apply, val_main_v61_apply, t, Finset.sum_congr rfl fun k _ => s k, q0, q1, q2, q3]
  unfold tail
  show _ * Ideal.rsqrt (Ideal.div (Ideal.ofBits .f32 0x00000000#32 + _) _ + _) * _ * _ * _ = _
  rw [Ideal.ofBits_zero_f32, zero_add]
  rfl

end Cert.Proof.DiffRef
-- ==== Proof.DiffStep.lean ====
/- The scratch of the differential attention at the ideal instance: what the two branches' running maximum, sum and
   product hold after some of the keys, how a tile below the diagonal and one on it take them further, and the output's
   tile read off them. -/
module

public import proofs.«01_k».proof.Proof.DiffTile
public import proofs.«01_k».proof.Proof.DiffRef

@[expose] public section

noncomputable section

namespace Cert.Proof.DiffStep

open Cert.DiffIdeal Cert.DiffIdeal.Gen Idealize.ShloMosaic
open Cert.Proof.DiffIdeal (half0 half1 wide0 wide1 col0 col1 both bothW belowM belowL belowA diagM0 diagM1 diagL0 diagL1 diagA0 diagA1 outTile)
open Cert.Proof.DiffTile Cert.Proof.DiffSoftmax
open Cert.Proof.DiffRef (rd0 rd1 score xs vv lam od tail Fine)
open Idealize.ShloMosaic.ValueIdx
open scoped BigOperators

/-- Both branches' rows after `n` keys. -/
def State (x : Fin 2 → Fin 512 → ℕ → EReal) (v : Fin 256 → ℕ → ℝ) (n : ℕ) (m l : Vec Ideal S2x512x128 .f32) (a : Vec Ideal S2x512x256 .f32) : Prop :=
  ∀ (p : Fin 2) (r : Fin 512), Held (x p r) v n (fun j => m (ix3 p r j)) (fun j => l (ix3 p r j)) (fun e => a (ix3 p r e))

variable (x : Fin 2 → Fin 512 → ℕ → EReal) (v : Fin 256 → ℕ → ℝ)

theorem state_init : State x v 0 (k0_pay1 (F := Ideal)) (k0_pay2 (F := Ideal)) (k0_pay3 (F := Ideal)) := fun p r => held_init _ _ r p

theorem held_congr {y : ℕ → EReal} {w : Fin 256 → ℕ → ℝ} {n : ℕ} {m m' l l' : Fin 128 → EReal} {a a' : Fin 256 → EReal} (h : Held y w n m l a)
    (hm : ∀ j, m' j = m j) (hl : ∀ j, l' j = l j) (ha : ∀ e, a' e = a e) : Held y w n m' l' a' := by
  rw [funext hm, funext hl, funext ha]; exact h

theorem state_tile (n : ℕ) (hx : ∀ p r k, x p r k ≠ ⊤) (S0 S1 : Tile) (hS0 : ∀ r k : Fin 512, S0 (ix2 r k) = x 0 r (n + k.val))
    (hS1 : ∀ r k : Fin 512, S1 (ix2 r k) = x 1 r (n + k.val)) (w : FVec Ideal S512x256 .bf16)
    (hw : ∀ (k : Fin 512) (e : Fin 256), w (ix2 k e) = ((v e (n + k.val) : ℝ) : EReal))
    (m l : Vec Ideal S2x512x128 .f32) (a : Vec Ideal S2x512x256 .f32) (h : State x v n m l a) :
    State x v (n + 512)
      (both (shapeCast S1x512x128 (tM S0 (View.ld m half0)) shapeCasts_S512x128_S1x512x128)
        (shapeCast S1x512x128 (tM S1 (View.ld m half1)) shapeCasts_S512x128_S1x512x128))
      (both (tL S0 (View.ld m half0) (View.ld l half0)) (tL S1 (View.ld m half1) (View.ld l half1)))
      (bothW (tA S0 (View.ld m half0) w (View.ld a wide0)) (tA S1 (View.ld m half1) w (View.ld a wide1))) := by
  intro p r
  match p with
  | ⟨0, _⟩ =>
    have h0 : Held (x 0 r) v n (fun j => View.ld m half0 (ix3 0 r j)) (fun j => View.ld l half0 (ix3 0 r j)) (fun e => View.ld a wide0 (ix3 0 r e)) := by
      exact held_congr (h 0 r) (fun j => ld_half0 m r j) (fun j => ld_half0 l r j) (fun e => ld_wide0 a r e)
    have := held_tile (x 0 r) v n (hx 0 r) S0 (View.ld m half0) (View.ld l half0) w (View.ld a wide0) r (hS0 r) hw h0
    exact held_congr this (fun j => (both_0 _ _ r j).trans (cast2_128 _ r j)) (fun j => both_0 _ _ r j) (fun e => bothW_0 _ _ r e)
  | ⟨1, _⟩ =>
    have h0 : Held (x 1 r) v n (fun j => View.ld m half1 (ix3 0 r j)) (fun j => View.ld l half1 (ix3 0 r j)) (fun e => View.ld a wide1 (ix3 0 r e)) := by
      exact held_congr (h 1 r) (fun j => ld_half1 m r j) (fun j => ld_half1 l r j) (fun e => ld_wide1 a r e)
    have := held_tile (x 1 r) v n (hx 1 r) S1 (View.ld m half1) (View.ld l half1) w (View.ld a wide1) r (hS1 r) hw h0
    exact held_congr this (fun j => (both_1 _ _ r j).trans (cast2_128 _ r j)) (fun j => both_1 _ _ r j) (fun e => bothW_1 _ _ r e)

variable {x0 : S32768x4096.Idx → EReal} {x1 : S32768x8192.Idx → EReal} {x3 x4 x5 x6 : S128.Idx → EReal} {L : ℝ}

/-- What a point's blocks hold: rows of queries, keys and values. -/
structure Blocks (x0 : S32768x4096.Idx → EReal) (x1 : S32768x8192.Idx → EReal) (b h q k : ℕ) (Q K W : Vec Ideal S512x256 .bf16) : Prop where
  fq : ∀ (r : Fin 512) (e : Fin 256), Q (ix2 r e) = rd0 x0 (b * 16384 + (512 * q + r.val)) (2048 + h * 256 + e.val)
  fk : ∀ (r : Fin 512) (e : Fin 256), K (ix2 r e) = rd0 x0 (b * 16384 + (512 * k + r.val)) (3072 + h * 256 + e.val)
  fw : ∀ (r : Fin 512) (e : Fin 256), W (ix2 r e) = rd1 x1 (b * 16384 + (512 * k + r.val)) (1024 + h * 256 + e.val)

/-- The scores of a query tile's rows, masked. -/
def rows (x0 : S32768x4096.Idx → EReal) (b h q : ℕ) : Fin 2 → Fin 512 → ℕ → EReal := fun p r => xs x0 b h p.val (512 * q + r.val)
def vals (x1 : S32768x8192.Idx → EReal) (b h : ℕ) : Fin 256 → ℕ → ℝ := fun e => vv x1 b h e.val

variable {b h q k : ℕ} {Q K W : Vec Ideal S512x256 .bf16}

theorem score0 (B : Blocks x0 x1 b h q k Q K W) (r c : Fin 512) :
    k0_pay7 (View.ld Q col0) (View.ld K col0) (ix2 r c) = score x0 b h 0 (512 * q + r.val) (512 * k + c.val) := by
  rw [score_apply]
  refine Finset.sum_congr rfl fun d _ => congrArg₂ (fun a b : EReal => a * b) ?_ ?_
  · rw [ld_col0, B.fq]; congr 1
  · rw [ld_col0, B.fk]; congr 1

theorem score1 (B : Blocks x0 x1 b h q k Q K W) (r c : Fin 512) :
    k0_pay7 (View.ld Q col1) (View.ld K col1) (ix2 r c) = score x0 b h 1 (512 * q + r.val) (512 * k + c.val) := by
  rw [score_apply]
  refine Finset.sum_congr rfl fun d _ => congrArg₂ (fun a b : EReal => a * b) ?_ ?_
  · rw [ld_col1, B.fq]; congr 1; show 2048 + h * 256 + (128 + d.val) = _; omega
  · rw [ld_col1, B.fk]; congr 1; show 3072 + h * 256 + (128 + d.val) = _; omega

theorem rows_ne_top (H : Fine x0 x1 x3 x4 x5 x6 L) (hb : b < 2) (hh : h < 4) (hq : q < 32) (p : Fin 2) (r : Fin 512) (n : ℕ) : rows x0 b h q p r n ≠ ⊤ :=
  DiffRef.xs_ne_top H hb hh p.isLt (by omega) n

theorem vals_eq (H : Fine x0 x1 x3 x4 x5 x6 L) (hb : b < 2) (hh : h < 4) (hk : k < 32) (B : Blocks x0 x1 b h q k Q K W) (r : Fin 512) (e : Fin 256) :
    W (ix2 r e) = ((vals x1 b h e (512 * k + r.val) : ℝ) : EReal) := by
  rw [B.fw]; exact DiffRef.vv_coe H hb hh e.isLt (by omega)

/-- A tile below the diagonal. -/
theorem state_below (H : Fine x0 x1 x3 x4 x5 x6 L) (hb : b < 2) (hh : h < 4) (hq : q < 32) (hk : k < q) (B : Blocks x0 x1 b h q k Q K W)
    (m l : Vec Ideal S2x512x128 .f32) (a : Vec Ideal S2x512x256 .f32) (hs : State (rows x0 b h q) (vals x1 b h) (512 * k) m l a) :
    State (rows x0 b h q) (vals x1 b h) (512 * (k + 1)) (belowM Q K m) (belowL Q K m l) (belowA Q K W m a) := by
  rw [belowM_eq, belowL_eq, belowA_eq]
  refine state_tile _ _ (512 * k) (rows_ne_top H hb hh hq) _ _ (fun r c => ?_) (fun r c => ?_) W (vals_eq H hb hh (by omega) B) m l a hs
  · rw [score0 B]; unfold rows xs; rw [if_pos (by omega)]; rfl
  · rw [score1 B]; unfold rows xs; rw [if_pos (by omega)]; rfl

theorem diag0 (B : Blocks x0 x1 b h q q Q K W) (r c : Fin 512) :
    k0_pay25 (View.ld Q col0) (View.ld K col0) (ix2 r c) = rows x0 b h q 0 r (512 * q + c.val) := by
  rw [diag_score_apply]
  unfold rows xs
  by_cases hc : c.val ≤ r.val
  · rw [if_pos hc, if_pos (by omega), ← score_apply]; exact score0 B r c
  · rw [if_neg hc, if_neg (by omega)]

theorem diag1 (B : Blocks x0 x1 b h q q Q K W) (r c : Fin 512) :
    k0_pay25 (View.ld Q col1) (View.ld K col1) (ix2 r c) = rows x0 b h q 1 r (512 * q + c.val) := by
  rw [diag_score_apply]
  unfold rows xs
  by_cases hc : c.val ≤ r.val
  · rw [if_pos hc, if_pos (by omega), ← score_apply]; exact score1 B r c
  · rw [if_neg hc, if_neg (by omega)]

/-- The tile on the diagonal. -/
theorem state_diag (H : Fine x0 x1 x3 x4 x5 x6 L) (hb : b < 2) (hh : h < 4) (hq : q < 32) (B : Blocks x0 x1 b h q q Q K W)
    (m l : Vec Ideal S2x512x128 .f32) (a : Vec Ideal S2x512x256 .f32) (hs : State (rows x0 b h q) (vals x1 b h) (512 * q) m l a) :
    State (rows x0 b h q) (vals x1 b h) (512 * (q + 1)) (both (diagM0 Q K m) (diagM1 Q K m)) (both (diagL0 Q K m l) (diagL1 Q K m l))
      (bothW (diagA0 Q K W m a) (diagA1 Q K W m a)) := by
  rw [diagM0_eq, diagM1_eq, diagL0_eq, diagL1_eq, diagA0_eq, diagA1_eq]
  exact state_tile _ _ (512 * q) (rows_ne_top H hb hh hq) _ _ (diag0 B) (diag1 B) W (vals_eq H hb hh hq B) m l a hs

/-! The output's tile. -/

/-- A wide tile's row sums. -/
def rowSmW (S : FVec Ideal S512x256 .f32) : FVec Ideal S512 .f32 := multiReduction .add [1] S512 S 0x00000000#32 reduces_S512x256_S512 (.inl rfl) rfl

theorem lift_eqW (r : Fin 512) (k : Fin 256) : reduces_S512x256_S512.lift (ix1 r) k = ix2 r k := by
  funext a; apply Fin.ext
  match a with
  | ⟨0, _⟩ => rfl
  | ⟨1, _⟩ => rfl

theorem rowSmW_apply (S : FVec Ideal S512x256 .f32) (r : Fin 512) : rowSmW S (ix1 r) = ∑ k : Fin 256, S (ix2 r k) :=
  (Ideal.multiReduction_add_single S 0x00000000#32 reduces_S512x256_S512 (.inl rfl) rfl (ix1 r)).trans
    (Finset.sum_congr rfl fun k _ => congrArg S (lift_eqW r k))

/-- A vector's sum. -/
def oneSm (S : FVec Ideal S1x128 .f32) : FVec Ideal S1 .f32 := multiReduction .add [1] S1 S 0x00000000#32 reduces_S1x128_S1 (.inl rfl) rfl

theorem lift_eq1 (k : Fin 128) : reduces_S1x128_S1.lift (ix1 (0 : Fin 1)) k = ix2 (0 : Fin 1) k := by
  funext a; apply Fin.ext
  match a with
  | ⟨0, _⟩ => rfl
  | ⟨1, _⟩ => rfl

theorem oneSm_apply (S : FVec Ideal S1x128 .f32) : oneSm S (ix1 (0 : Fin 1)) = ∑ k : Fin 128, S (ix2 (0 : Fin 1) k) :=
  (Ideal.multiReduction_add_single S 0x00000000#32 reduces_S1x128_S1 (.inl rfl) rfl (ix1 (0 : Fin 1))).trans
    (Finset.sum_congr rfl fun k _ => congrArg S (lift_eq1 k))

theorem one_cast (x : FVec Ideal S1 .f32) : shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by rewrite [Shape.rowMajor_val_one, Shape.rowMajor_val_two]; rfl)

/-- The weight of the second softmax, as the body computes it. -/
theorem lam_apply (y3 y4 y5 y6 : Vec Ideal S1x128 .f32) (h3 : ∀ k : Fin 128, y3 (ix2 (0 : Fin 1) k) = x3 (ix1 k)) (h4 : ∀ k : Fin 128, y4 (ix2 (0 : Fin 1) k) = x4 (ix1 k))
    (h5 : ∀ k : Fin 128, y5 (ix2 (0 : Fin 1) k) = x5 (ix1 k)) (h6 : ∀ k : Fin 128, y6 (ix2 (0 : Fin 1) k) = x6 (ix1 k)) :
    k0_pay44 y3 y4 y5 y6 (ix2 (0 : Fin 1) (0 : Fin 1)) = lam x3 x4 x5 x6 := by
  unfold k0_pay44
  simp only [shapeCast_self]
  show Ideal.exp (shapeCast S1x1 (oneSm (mulf y3 y4)) shapeCasts_S1_S1x1 (ix2 (0 : Fin 1) (0 : Fin 1)))
    - Ideal.exp (shapeCast S1x1 (oneSm (mulf y5 y6)) shapeCasts_S1_S1x1 (ix2 (0 : Fin 1) (0 : Fin 1))) + Ideal.ofBits .f32 0x3E4CCCCD#32 = _
  rw [one_cast, one_cast, oneSm_apply, oneSm_apply]
  unfold lam
  congr 3
  · exact (Finset.sum_congr rfl fun k _ => congrArg₂ (fun a b : EReal => a * b) (h3 k) (h4 k))
  · exact (Finset.sum_congr rfl fun k _ => congrArg₂ (fun a b : EReal => a * b) (h5 k) (h6 k))

theorem lam_spread (x : FVec Ideal S1x1 .f32) (r : Fin 512) (j : Fin 256) :
    broadcastTo S512x256 x broadcasts_S1x1_S512x256 (ix2 r j) = x (ix2 (0 : Fin 1) (0 : Fin 1)) :=
  broadcastTo_apply _ broadcasts_S1x1_S512x256 (ix2 r j) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else j.val; rw [if_pos rfl])

theorem gain_spread (x : FVec Ideal S1x256 .f32) (r : Fin 512) (j : Fin 256) :
    broadcastTo S512x256 x broadcasts_S1x256_S512x256 (ix2 r j) = x (ix2 (0 : Fin 1) j) :=
  broadcastTo_apply _ broadcasts_S1x256_S512x256 (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])

theorem col_spread (x : FVec Ideal S512x1 .f32) (r : Fin 512) (j : Fin 256) :
    broadcastTo S512x256 x broadcasts_S512x1_S512x256 (ix2 r j) = x (ix2 r (0 : Fin 1)) :=
  broadcastTo_apply _ broadcasts_S512x1_S512x256 (ix2 r j) (ix2 r (0 : Fin 1)) (fun a => match a with
    | ⟨0, _⟩ => by show r.val = if (512 : Nat) = 1 then 0 else r.val; rw [if_neg (by decide)]
    | ⟨1, _⟩ => by show 0 = if (1 : Nat) = 1 then 0 else j.val; rw [if_pos rfl])

theorem col_cast (x : FVec Ideal S512 .f32) (r : Fin 512) : shapeCast S512x1 x shapeCasts_S512_S512x1 (ix2 r (0 : Fin 1)) = x (ix1 r) :=
  shapeCast_apply x shapeCasts_S512_S512x1 (ix2 r (0 : Fin 1)) (ix1 r)
    (by rewrite [Shape.rowMajor_val_one, Shape.rowMajor_val_two]; show r.val = r.val * 1 + 0; omega)

/-- The difference of the two quotients. -/
def dTile (y : FVec Ideal S1x1 .f32) (l0 l1 : Vec Ideal S1x512x128 .f32) (a0 a1 : Vec Ideal S1x512x256 .f32) : FVec Ideal S512x256 .f32 :=
  subf (divf (shapeCast S512x256 a0 shapeCasts_S1x512x256_S512x256)
      (concatenate S512x256 1 [⟨S512x128, shapeCast S512x128 l0 shapeCasts_S1x512x128_S512x128⟩, ⟨S512x128, shapeCast S512x128 l0 shapeCasts_S1x512x128_S512x128⟩] concatenates_S512x128_S512x128_S512x256_d1))
    (mulf (broadcastTo S512x256 y broadcasts_S1x1_S512x256) (divf (shapeCast S512x256 a1 shapeCasts_S1x512x256_S512x256)
      (concatenate S512x256 1 [⟨S512x128, shapeCast S512x128 l1 shapeCasts_S1x512x128_S512x128⟩, ⟨S512x128, shapeCast S512x128 l1 shapeCasts_S1x512x128_S512x128⟩] concatenates_S512x128_S512x128_S512x256_d1)))

theorem dTile_apply (y : FVec Ideal S1x1 .f32) (l0 l1 : Vec Ideal S1x512x128 .f32) (a0 a1 : Vec Ideal S1x512x256 .f32) (r : Fin 512) (e : Fin 256) :
    dTile y l0 l1 a0 a1 (ix2 r e) = Ideal.div (a0 (ix3 0 r e)) (l0 (ix3 0 r ⟨e.val % 128, by omega⟩))
      - y (ix2 (0 : Fin 1) (0 : Fin 1)) * Ideal.div (a1 (ix3 0 r e)) (l1 (ix3 0 r ⟨e.val % 128, by omega⟩)) := by
  unfold dTile
  show Ideal.div (shapeCast S512x256 a0 shapeCasts_S1x512x256_S512x256 (ix2 r e)) (concatenate S512x256 1 _ _ (ix2 r e))
    - (broadcastTo S512x256 y broadcasts_S1x1_S512x256 (ix2 r e)) * Ideal.div (shapeCast S512x256 a1 shapeCasts_S1x512x256_S512x256 (ix2 r e)) (concatenate S512x256 1 _ _ (ix2 r e)) = _
  rw [two_apply, two_apply, cast3_256, cast3_256, cast3_128, cast3_128, lam_spread]

theorem outTile_eq (sg : Vec Ideal S512x256 .bf16) (gain : Vec Ideal S1x256 .f32) (y3 y4 y5 y6 : Vec Ideal S1x128 .f32)
    (l0 l1 : Vec Ideal S1x512x128 .f32) (a0 a1 : Vec Ideal S1x512x256 .f32) (r : Fin 512) (e : Fin 256) :
    outTile sg gain y3 y4 y5 y6 l0 l1 a0 a1 (ix2 r e)
      = tail (fun k => dTile (k0_pay44 y3 y4 y5 y6) l0 l1 a0 a1 (ix2 r k)) (gain (ix2 (0 : Fin 1) e)) (sg (ix2 r e)) e := by
  show dTile (k0_pay44 y3 y4 y5 y6) l0 l1 a0 a1 (ix2 r e)
      * broadcastTo S512x256 (rsqrt (addf (divf (shapeCast S512x1 (rowSmW (mulf (dTile (k0_pay44 y3 y4 y5 y6) l0 l1 a0 a1) (dTile (k0_pay44 y3 y4 y5 y6) l0 l1 a0 a1))) shapeCasts_S512_S512x1)
          (broadcast S512x1 (Scalar.ofBits .f32 0x43800000#32))) (broadcast S512x1 (Scalar.ofBits .f32 0x3727C5AC#32)))) broadcasts_S512x1_S512x256 (ix2 r e)
      * broadcastTo S512x256 (shapeCast S1x256 gain shapeCasts_S1x256_S1x256) broadcasts_S1x256_S512x256 (ix2 r e)
      * Ideal.ofBits .f32 0x3F4CCCCD#32 * sg (ix2 r e) = _
  rw [shapeCast_self, gain_spread, col_spread]
  show _ * Ideal.rsqrt (Ideal.div (shapeCast S512x1 (rowSmW _) shapeCasts_S512_S512x1 (ix2 r (0 : Fin 1))) (Ideal.ofBits .f32 0x43800000#32) + Ideal.ofBits .f32 0x3727C5AC#32) * _ * _ * _ = _
  rw [col_cast, rowSmW_apply]
  rfl

/-- The output's row, of the state after the diagonal's tile. -/
theorem out_row (H : Fine x0 x1 x3 x4 x5 x6 L) (hb : b < 2) (hh : h < 4) (hq : q < 32) (l0 l1 : Vec Ideal S1x512x128 .f32) (a0 a1 : Vec Ideal S1x512x256 .f32)
    (y : FVec Ideal S1x1 .f32) (hy : y (ix2 (0 : Fin 1) (0 : Fin 1)) = (L : EReal)) (m : Vec Ideal S2x512x128 .f32)
    (hs : State (rows x0 b h q) (vals x1 b h) (512 * (q + 1)) m (both l0 l1) (bothW a0 a1)) (r : Fin 512) (e : Fin 256) :
    dTile y l0 l1 a0 a1 (ix2 r e) = ((od x0 x1 L b h (512 * q + r.val) e.val : ℝ) : EReal) := by
  have hend (p : Fin 2) : soft (xs x0 b h p.val (512 * q + r.val)) (vv x1 b h e.val) 16384 = soft (rows x0 b h q p r) (vals x1 b h e) (512 * (q + 1)) :=
    soft_extend (xs x0 b h p.val (512 * q + r.val)) (vv x1 b h e.val) (by omega) fun k hk _ => by unfold xs; rw [if_neg (by omega)]
  have hz (p : Fin 2) : rows x0 b h q p r 0 ≠ ⊥ := DiffRef.xs_zero H hb hh p.isLt (by omega)
  have hd0 : Ideal.div (a0 (ix3 0 r e)) (l0 (ix3 0 r ⟨e.val % 128, by omega⟩)) = ((soft (rows x0 b h q 0 r) (vals x1 b h e) (512 * (q + 1)) : ℝ) : EReal) := by
    obtain ⟨μ, -, hl, ha⟩ := hs 0 r
    have hl' := hl ⟨e.val % 128, by omega⟩
    have ha' := ha e
    simp only [both_0, bothW_0] at hl' ha'
    rw [hl', ha']
    exact quot _ _ (by omega) (hz 0) μ
  have hd1 : Ideal.div (a1 (ix3 0 r e)) (l1 (ix3 0 r ⟨e.val % 128, by omega⟩)) = ((soft (rows x0 b h q 1 r) (vals x1 b h e) (512 * (q + 1)) : ℝ) : EReal) := by
    obtain ⟨μ, -, hl, ha⟩ := hs 1 r
    have hl' := hl ⟨e.val % 128, by omega⟩
    have ha' := ha e
    simp only [both_1, bothW_1] at hl' ha'
    rw [hl', ha']
    exact quot _ _ (by omega) (hz 1) μ
  rw [dTile_apply, hd0, hd1, hy, ← hend 0, ← hend 1]
  unfold od
  rw [EReal.coe_sub, EReal.coe_mul]
  rfl

end Cert.Proof.DiffStep

end
-- ==== Proof.DiffPoint.lean ====
/- The points of the differential attention's grid: which query tile and key tile a point's words name, what the next
   point's are, and what each window's block holds there. -/
module

public import proofs.«01_k».proof.Proof.DiffIdealFrame
public import proofs.«01_k».proof.Proof.DiffStep

@[expose] public section

set_option maxRecDepth 16384

noncomputable section

namespace Cert.Proof.DiffPoint

open Cert.DiffIdeal Cert.DiffIdeal.Gen Idealize.ShloMosaic Idealize.ShloMosaic.TcCoe
open Cert.Proof.DiffIdeal
open Cert.Proof.DiffRef (rd0 rd1 Fine)
open Cert.Proof.DiffStep (Blocks)
open Idealize.ShloMosaic.ValueIdx

/-- The query tile and the key tile of step `n`. -/
def qOf (n : ℕ) : ℕ := (lit0 ⟨n % 528, Nat.mod_lt _ (by decide)⟩).toNat
def kOf (n : ℕ) : ℕ := (lit1 ⟨n % 528, Nat.mod_lt _ (by decide)⟩).toNat

theorem steps : ∀ n : Fin 528, kOf n ≤ qOf n ∧ qOf n < 32
    ∧ (kOf n < qOf n → qOf (n + 1) = qOf n ∧ kOf (n + 1) = kOf n + 1 ∧ n.val + 1 < 528) ∧ (kOf n = qOf n → kOf (n + 1) = 0) := by
  decide +kernel

/-- Every query tile has its diagonal step. -/
theorem diag_at : ∀ q : Fin 32, ∃ n : Fin 528, qOf n = q ∧ kOf n = q := by decide +kernel

theorem kOf_zero : kOf 0 = 0 := by decide +kernel

/-- A point's batch, head and step. -/
theorem c0_val (t : Fin grid0.N) : (grid0.coords t 0).val = t.val / 2112 := by
  rw [Pipeline.Grid.coords_val t 0 (S := 2112) (B := 2) (by decide +kernel) rfl]
  have : t.val < 4224 := t.isLt
  omega
theorem c1_val (t : Fin grid0.N) : (grid0.coords t 1).val = t.val / 528 % 4 :=
  Pipeline.Grid.coords_val t 1 (S := 528) (B := 4) (by decide +kernel) rfl
theorem c2_val (t : Fin grid0.N) : (grid0.coords t 2).val = t.val % 528 := by
  rw [Pipeline.Grid.coords_val t 2 (S := 1) (B := 528) (by decide +kernel) rfl, Nat.div_one]

variable (m : (ℓ : Loc nD τ sig) → Buf (Elt Ideal) ℓ)

theorem ld_step (x : Fin 528 → BitVec 32) (i : grid0.Coords) (y : S1.Idx) :
    View.ld (show Vec Ideal S528 .i32 from fun i => x (S528.rowMajor i)) (Rect.unit (s := S528) (k0_off1 i) S1.size (k0_off1_inb i)) y
      = x ⟨(i 2).val, (i 2).isLt⟩ := by
  have hi : (i 2).val < 528 := (i 2).isLt
  refine (View.ld_unit_apply_of _ _ _ _ y (ix1 (⟨(i 2).val, hi⟩ : Fin 528)) fun a => ?_).trans ?_
  · match a with
    | ⟨0, _⟩ =>
      have h0 : (y 0).val < 1 := (y 0).isLt
      show (i 2).val = (BitVec.ofNat 32 (i 2).val).toNat + (y 0).val
      rw [BitVec.toNat_ofNat, Nat.mod_eq_of_lt (by omega)]
      omega
  · refine congrArg x (Fin.ext ?_)
    rw [Shape.rowMajor_val_one]

theorem word_q (i : grid0.Coords) : wordOf i (tbl m 0) = lit0 ⟨(i 2).val, (i 2).isLt⟩ := by
  unfold wordOf; rw [tbl_0]; exact ld_step lit0 i _
theorem word_k (i : grid0.Coords) : wordOf i (tbl m 1) = lit1 ⟨(i 2).val, (i 2).isLt⟩ := by
  unfold wordOf; rw [tbl_1]; exact ld_step lit1 i _

theorem word_q_toNat (t : Fin grid0.N) : (wordOf (grid0.coords t) (tbl m 0)).toNat = qOf t.val := by
  rw [word_q]; unfold qOf; congr 2; exact Fin.ext (c2_val t)
theorem word_k_toNat (t : Fin grid0.N) : (wordOf (grid0.coords t) (tbl m 1)).toNat = kOf t.val := by
  rw [word_k]; unfold kOf; congr 2; exact Fin.ext (c2_val t)

/-! The body's conditions. -/

theorem isFirst_iff {k : BitVec 32} (hk : k.toNat < 32) : isFirst k = 1#1 ↔ k.toNat = 0 := by
  obtain ⟨b, rfl⟩ : ∃ b : Fin 32, k = BitVec.ofNat 32 b.val := ⟨⟨k.toNat, hk⟩, by simp⟩
  clear hk; revert b; decide +kernel

theorem isBelow_iff {q k : BitVec 32} (hq : q.toNat < 32) (hk : k.toNat < 32) : isBelow q k = 1#1 ↔ k.toNat < q.toNat := by
  obtain ⟨a, rfl⟩ : ∃ a : Fin 32, q = BitVec.ofNat 32 a.val := ⟨⟨q.toNat, hq⟩, by simp⟩
  obtain ⟨b, rfl⟩ : ∃ b : Fin 32, k = BitVec.ofNat 32 b.val := ⟨⟨k.toNat, hk⟩, by simp⟩
  clear hq hk; revert a b; decide +kernel

theorem isDiag_iff {q k : BitVec 32} (hq : q.toNat < 32) (hk : k.toNat < 32) : k0_cond3 q k = 1#1 ↔ k.toNat = q.toNat := by
  obtain ⟨a, rfl⟩ : ∃ a : Fin 32, q = BitVec.ofNat 32 a.val := ⟨⟨q.toNat, hq⟩, by simp⟩
  obtain ⟨b, rfl⟩ : ∃ b : Fin 32, k = BitVec.ofNat 32 b.val := ⟨⟨k.toNat, hk⟩, by simp⟩
  clear hq hk; revert a b; decide +kernel

/-! The windows' blocks. -/

theorem row_q (t : Fin (cfgM m).N) : (Scalar.addi (Scalar.muli (BitVec.ofNat 32 (grid0.coords t 0).val) (BitVec.ofNat 32 32)) (wordOf (grid0.coords t) (tbl m 0))).toNat
    = t.val / 2112 * 32 + qOf t.val := by
  rw [row_eq (batch_lt _) _ (by rw [word_q]; exact (words_lt _).1), word_q_toNat, c0_val]
theorem row_k (t : Fin (cfgM m).N) : (Scalar.addi (Scalar.muli (BitVec.ofNat 32 (grid0.coords t 0).val) (BitVec.ofNat 32 32)) (wordOf (grid0.coords t) (tbl m 1))).toNat
    = t.val / 2112 * 32 + kOf t.val := by
  rw [row_eq (batch_lt _) _ (by rw [word_k]; exact (words_lt _).2), word_k_toNat, c0_val]
theorem col_n (t : Fin (cfgM m).N) {n : ℕ} (hn : n ≤ 12) : (Scalar.addi (BitVec.ofNat 32 n) (BitVec.ofNat 32 (grid0.coords t 1).val)).toNat = n + t.val / 528 % 4 := by
  rw [col_eq (head_lt _) hn, c1_val]
theorem col_0 (t : Fin (cfgM m).N) : (BitVec.ofNat 32 (grid0.coords t 1).val).toNat = t.val / 528 % 4 := by
  rw [BitVec.toNat_ofNat, Nat.mod_eq_of_lt (by have := head_lt (grid0.coords t); omega), c1_val]

theorem idx0 (t : Fin (cfgM m).N) : ((cfgM m).win 0).index t (0 : Fin 2) = t.val / 2112 * 32 + qOf t.val ∧ ((cfgM m).win 0).index t (1 : Fin 2) = 8 + t.val / 528 % 4 :=
  ⟨row_q m t, col_n m t (n := 8) (by decide)⟩
theorem idx1 (t : Fin (cfgM m).N) : ((cfgM m).win 1).index t (0 : Fin 2) = t.val / 2112 * 32 + kOf t.val ∧ ((cfgM m).win 1).index t (1 : Fin 2) = 12 + t.val / 528 % 4 :=
  ⟨row_k m t, col_n m t (n := 12) (by decide)⟩
theorem idx2 (t : Fin (cfgM m).N) : ((cfgM m).win 2).index t (0 : Fin 2) = t.val / 2112 * 32 + kOf t.val ∧ ((cfgM m).win 2).index t (1 : Fin 2) = 4 + t.val / 528 % 4 :=
  ⟨row_k m t, col_n m t (n := 4) (by decide)⟩
theorem idx3 (t : Fin (cfgM m).N) : ((cfgM m).win 3).index t (0 : Fin 2) = t.val / 2112 * 32 + qOf t.val ∧ ((cfgM m).win 3).index t (1 : Fin 2) = 12 + t.val / 528 % 4 :=
  ⟨row_q m t, col_n m t (n := 12) (by decide)⟩
theorem idx9 (t : Fin (cfgM m).N) : ((cfgM m).win 9).index t (0 : Fin 2) = t.val / 2112 * 32 + qOf t.val ∧ ((cfgM m).win 9).index t (1 : Fin 2) = t.val / 528 % 4 :=
  ⟨row_q m t, col_0 m t⟩

variable (c : Dev nD)

abbrev X0 : S32768x4096.Idx → EReal := m ((c : Thread nD τ).loc main_arg0)
abbrev X1 : S32768x8192.Idx → EReal := m ((c : Thread nD τ).loc main_arg1)
abbrev X2 : S256.Idx → EReal := m ((c : Thread nD τ).loc main_arg2)
abbrev X3 : S128.Idx → EReal := m ((c : Thread nD τ).loc main_arg3)
abbrev X4 : S128.Idx → EReal := m ((c : Thread nD τ).loc main_arg4)
abbrev X5 : S128.Idx → EReal := m ((c : Thread nD τ).loc main_arg5)
abbrev X6 : S128.Idx → EReal := m ((c : Thread nD τ).loc main_arg6)

theorem blk0 (t : Fin (cfgM m).N) (r : Fin 512) (e : Fin 256) :
    iblk m c 0 t (ix2 r e) = rd0 (X0 m c) (t.val / 2112 * 16384 + (512 * qOf t.val + r.val)) (2048 + t.val / 528 % 4 * 256 + e.val) := by
  show (V m c main_arg0 : S32768x4096.Idx → EReal) ((((cfgM m).win 0).rect t).emb (ix2 r e)) = _
  rw [V_of_ne m c (by decide)]
  refine DiffRef.rd0_eq _ _ _ _ ?_ ?_
  · rw [((cfgM m).win 0).rect_emb_val t (ix2 r e) (0 : Fin 2), (idx0 m t).1]; show _ * 512 + r.val = _; omega
  · rw [((cfgM m).win 0).rect_emb_val t (ix2 r e) (1 : Fin 2), (idx0 m t).2]; show _ * 256 + e.val = _; omega

theorem blk1 (t : Fin (cfgM m).N) (r : Fin 512) (e : Fin 256) :
    iblk m c 1 t (ix2 r e) = rd0 (X0 m c) (t.val / 2112 * 16384 + (512 * kOf t.val + r.val)) (3072 + t.val / 528 % 4 * 256 + e.val) := by
  show (V m c main_arg0 : S32768x4096.Idx → EReal) ((((cfgM m).win 1).rect t).emb (ix2 r e)) = _
  rw [V_of_ne m c (by decide)]
  refine DiffRef.rd0_eq _ _ _ _ ?_ ?_
  · rw [((cfgM m).win 1).rect_emb_val t (ix2 r e) (0 : Fin 2), (idx1 m t).1]; show _ * 512 + r.val = _; omega
  · rw [((cfgM m).win 1).rect_emb_val t (ix2 r e) (1 : Fin 2), (idx1 m t).2]; show _ * 256 + e.val = _; omega

theorem blk2 (t : Fin (cfgM m).N) (r : Fin 512) (e : Fin 256) :
    iblk m c 2 t (ix2 r e) = rd1 (X1 m c) (t.val / 2112 * 16384 + (512 * kOf t.val + r.val)) (1024 + t.val / 528 % 4 * 256 + e.val) := by
  show (V m c main_arg1 : S32768x8192.Idx → EReal) ((((cfgM m).win 2).rect t).emb (ix2 r e)) = _
  rw [V_of_ne m c (by decide)]
  refine DiffRef.rd1_eq _ _ _ _ ?_ ?_
  · rw [((cfgM m).win 2).rect_emb_val t (ix2 r e) (0 : Fin 2), (idx2 m t).1]; show _ * 512 + r.val = _; omega
  · rw [((cfgM m).win 2).rect_emb_val t (ix2 r e) (1 : Fin 2), (idx2 m t).2]; show _ * 256 + e.val = _; omega

theorem blk3 (t : Fin (cfgM m).N) (r : Fin 512) (e : Fin 256) :
    iblk m c 3 t (ix2 r e) = rd1 (X1 m c) (t.val / 2112 * 16384 + (512 * qOf t.val + r.val)) (3072 + t.val / 528 % 4 * 256 + e.val) := by
  show (V m c main_arg1 : S32768x8192.Idx → EReal) ((((cfgM m).win 3).rect t).emb (ix2 r e)) = _
  rw [V_of_ne m c (by decide)]
  refine DiffRef.rd1_eq _ _ _ _ ?_ ?_
  · rw [((cfgM m).win 3).rect_emb_val t (ix2 r e) (0 : Fin 2), (idx3 m t).1]; show _ * 512 + r.val = _; omega
  · rw [((cfgM m).win 3).rect_emb_val t (ix2 r e) (1 : Fin 2), (idx3 m t).2]; show _ * 256 + e.val = _; omega

theorem blocks (t : Fin (cfgM m).N) :
    Blocks (X0 m c) (X1 m c) (t.val / 2112) (t.val / 528 % 4) (qOf t.val) (kOf t.val) (iblk m c 0 t) (iblk m c 1 t) (iblk m c 2 t) :=
  ⟨blk0 m c t, blk1 m c t, blk2 m c t⟩

theorem blk4 (t : Fin (cfgM m).N) (e : Fin 256) : iblk m c 4 t (ix2 (0 : Fin 1) e) = X2 m c (ix1 e) := by
  show (V m c main_v0 : S1x256.Idx → EReal) ((((cfgM m).win 4).rect t).emb (ix2 (0 : Fin 1) e)) = _
  rw [show (((cfgM m).win 4).rect t).emb (ix2 (0 : Fin 1) e) = ix2 (0 : Fin 1) e from Shape.idx_ext₂
    (by rw [((cfgM m).win 4).rect_emb_val t (ix2 (0 : Fin 1) e) (0 : Fin 2)]; rfl)
    (by rw [((cfgM m).win 4).rect_emb_val t (ix2 (0 : Fin 1) e) (1 : Fin 2)]; show 0 * 256 + e.val = e.val; omega), V_main_v0]
  exact congrArg (X2 m c) (by funext a; match a with | ⟨0, _⟩ => rfl)

theorem blk5 (t : Fin (cfgM m).N) (e : Fin 128) : iblk m c 5 t (ix2 (0 : Fin 1) e) = X3 m c (ix1 e) := by
  show (V m c main_v1 : S1x128.Idx → EReal) ((((cfgM m).win 5).rect t).emb (ix2 (0 : Fin 1) e)) = _
  rw [show (((cfgM m).win 5).rect t).emb (ix2 (0 : Fin 1) e) = ix2 (0 : Fin 1) e from Shape.idx_ext₂
    (by rw [((cfgM m).win 5).rect_emb_val t (ix2 (0 : Fin 1) e) (0 : Fin 2)]; rfl)
    (by rw [((cfgM m).win 5).rect_emb_val t (ix2 (0 : Fin 1) e) (1 : Fin 2)]; show 0 * 128 + e.val = e.val; omega), V_main_v1]
  exact congrArg (X3 m c) (by funext a; match a with | ⟨0, _⟩ => rfl)

theorem blk6 (t : Fin (cfgM m).N) (e : Fin 128) : iblk m c 6 t (ix2 (0 : Fin 1) e) = X4 m c (ix1 e) := by
  show (V m c main_v2 : S1x128.Idx → EReal) ((((cfgM m).win 6).rect t).emb (ix2 (0 : Fin 1) e)) = _
  rw [show (((cfgM m).win 6).rect t).emb (ix2 (0 : Fin 1) e) = ix2 (0 : Fin 1) e from Shape.idx_ext₂
    (by rw [((cfgM m).win 6).rect_emb_val t (ix2 (0 : Fin 1) e) (0 : Fin 2)]; rfl)
    (by rw [((cfgM m).win 6).rect_emb_val t (ix2 (0 : Fin 1) e) (1 : Fin 2)]; show 0 * 128 + e.val = e.val; omega), V_main_v2]
  exact congrArg (X4 m c) (by funext a; match a with | ⟨0, _⟩ => rfl)

theorem blk7 (t : Fin (cfgM m).N) (e : Fin 128) : iblk m c 7 t (ix2 (0 : Fin 1) e) = X5 m c (ix1 e) := by
  show (V m c main_v3 : S1x128.Idx → EReal) ((((cfgM m).win 7).rect t).emb (ix2 (0 : Fin 1) e)) = _
  rw [show (((cfgM m).win 7).rect t).emb (ix2 (0 : Fin 1) e) = ix2 (0 : Fin 1) e from Shape.idx_ext₂
    (by rw [((cfgM m).win 7).rect_emb_val t (ix2 (0 : Fin 1) e) (0 : Fin 2)]; rfl)
    (by rw [((cfgM m).win 7).rect_emb_val t (ix2 (0 : Fin 1) e) (1 : Fin 2)]; show 0 * 128 + e.val = e.val; omega), V_main_v3]
  exact congrArg (X5 m c) (by funext a; match a with | ⟨0, _⟩ => rfl)

theorem blk8 (t : Fin (cfgM m).N) (e : Fin 128) : iblk m c 8 t (ix2 (0 : Fin 1) e) = X6 m c (ix1 e) := by
  show (V m c main_v4 : S1x128.Idx → EReal) ((((cfgM m).win 8).rect t).emb (ix2 (0 : Fin 1) e)) = _
  rw [show (((cfgM m).win 8).rect t).emb (ix2 (0 : Fin 1) e) = ix2 (0 : Fin 1) e from Shape.idx_ext₂
    (by rw [((cfgM m).win 8).rect_emb_val t (ix2 (0 : Fin 1) e) (0 : Fin 2)]; rfl)
    (by rw [((cfgM m).win 8).rect_emb_val t (ix2 (0 : Fin 1) e) (1 : Fin 2)]; show 0 * 128 + e.val = e.val; omega), V_main_v4]
  exact congrArg (X6 m c) (by funext a; match a with | ⟨0, _⟩ => rfl)

end Cert.Proof.DiffPoint

end
-- ==== Proof.DiffKept.lean ====
/- The differential attention's launch at the ideal instance, on arguments that are finite: the scratch holds the partial
   sums of the point's query tile, and every tile written back is the reference's. -/
module

public import proofs.«01_k».proof.Proof.DiffPoint
public import Idealize.ShloMosaic.Lib.Pipeline.ArrRel

@[expose] public section

set_option maxRecDepth 16384

noncomputable section

namespace Cert.Proof.DiffKept

open Cert.DiffIdeal Cert.DiffIdeal.Gen Idealize.ShloMosaic Idealize.ShloMosaic.TcCoe Idealize.SL.Sem
open Cert.Proof.DiffIdeal Cert.Proof.DiffPoint
open Cert.Proof.DiffRef (Fine od tail lam)
open Cert.Proof.DiffStep (State Blocks rows vals)
open Idealize.ShloMosaic.ValueIdx
open Idealize.ShloMosaic.Pipeline (Dat Cfg Window)

theorem next (t : ℕ) : kOf t ≤ qOf t ∧ qOf t < 32 ∧ (kOf t < qOf t → qOf (t + 1) = qOf t ∧ kOf (t + 1) = kOf t + 1 ∧ t % 528 + 1 < 528)
    ∧ (kOf t = qOf t → kOf (t + 1) = 0) := by
  have hq (n : ℕ) : qOf (n % 528) = qOf n := by unfold qOf; congr 2; exact Fin.ext (Nat.mod_mod _ _)
  have hk (n : ℕ) : kOf (n % 528) = kOf n := by unfold kOf; congr 2; exact Fin.ext (Nat.mod_mod _ _)
  have hq1 : qOf (t % 528 + 1) = qOf (t + 1) := by rw [← hq (t % 528 + 1), ← hq (t + 1)]; congr 1; omega
  have hk1 : kOf (t % 528 + 1) = kOf (t + 1) := by rw [← hk (t % 528 + 1), ← hk (t + 1)]; congr 1; omega
  have h := steps ⟨t % 528, Nat.mod_lt _ (by decide)⟩
  simp only [hq, hk, hq1, hk1] at h
  exact h

theorem leaves : ∀ n : Fin 528, kOf n = qOf n → n.val + 1 < 528 → qOf (n + 1) ≠ qOf n := by decide +kernel

theorem leaves' (t : ℕ) (h : kOf t = qOf t) (ht : t % 528 + 1 < 528) : qOf (t + 1) ≠ qOf t := by
  have hq (n : ℕ) : qOf (n % 528) = qOf n := by unfold qOf; congr 2; exact Fin.ext (Nat.mod_mod _ _)
  have hk (n : ℕ) : kOf (n % 528) = kOf n := by unfold kOf; congr 2; exact Fin.ext (Nat.mod_mod _ _)
  have hq1 : qOf (t % 528 + 1) = qOf (t + 1) := by rw [← hq (t % 528 + 1), ← hq (t + 1)]; congr 1; omega
  have h' := leaves ⟨t % 528, Nat.mod_lt _ (by decide)⟩
  simp only [hq, hk, hq1] at h'
  exact h' h ht

variable (m : (ℓ : Loc nD τ sig) → Buf (Elt Ideal) ℓ) (ρ : Dev nD → PrngReg)

/-- The reference's array. -/
def G : S32768x1024.Idx → EReal :=
  Cert.DiffRefIdeal.Read.val_main_v64 (F := Ideal) (X0 m 0) (X1 m 0) (X2 m 0) (X3 m 0) (X4 m 0) (X5 m 0) (X6 m 0)

/-- Before point `t`: nothing where a query tile begins, the partial sums over the keys before it elsewhere. -/
def Inv (t : Fin ((cfgM m).N + 1)) (d0 d1 : Vec Ideal S2x512x128 .f32) (d2 : Vec Ideal S2x512x256 .f32) : Prop :=
  kOf t.val = 0 ∨ State (rows (X0 m 0) (t.val / 2112) (t.val / 528 % 4) (qOf t.val)) (vals (X1 m 0) (t.val / 2112) (t.val / 528 % 4)) (512 * kOf t.val) d0 d1 d2

/-- After point `t`: where the query tile ends, the reference's tile. -/
def Out (t : Fin (cfgM m).N) (X : Vec Ideal S512x256 .bf16) : Prop :=
  kOf t.val = qOf t.val → ∀ (r : Fin 512) (e : Fin 256), X (ix2 r e) = G m ((((cfgM m).win 9).rect t).emb (ix2 r e))

theorem mid_start {x : Fin 2 → Fin 512 → ℕ → EReal} {v : Fin 256 → ℕ → ℝ} {w : BitVec 32} {k : ℕ} (hw : w.toNat < 32) (hk : w.toNat = k)
    {d0 d1 : Vec Ideal S2x512x128 .f32} {d2 : Vec Ideal S2x512x256 .f32} (h : k = 0 ∨ State x v (512 * k) d0 d1 d2) :
    State x v (512 * k) (if isFirst w = 1#1 then k0_pay1 (F := Ideal) else d0) (if isFirst w = 1#1 then k0_pay2 (F := Ideal) else d1)
      (if isFirst w = 1#1 then k0_pay3 (F := Ideal) else d2) := by
  by_cases h0 : k = 0
  · have hf : isFirst w = 1#1 := (isFirst_iff hw).2 (hk.trans h0)
    rw [if_pos hf, if_pos hf, if_pos hf, h0]
    exact DiffStep.state_init x v
  · have hf : ¬ isFirst w = 1#1 := fun e => h0 (hk.symm.trans ((isFirst_iff hw).1 e))
    rw [if_neg hf, if_neg hf, if_neg hf]
    exact h.resolve_left h0

variable {L : ℝ} (H : Fine (X0 m 0) (X1 m 0) (X3 m 0) (X4 m 0) (X5 m 0) (X6 m 0) L)

include H in
theorem keep_step (t : Fin (cfgM m).N) (d0 d1 : Vec Ideal S2x512x128 .f32) (d2 : Vec Ideal S2x512x256 .f32)
    (hI : kOf t.val = 0 ∨ State (rows (X0 m 0) (t.val / 2112) (t.val / 528 % 4) (qOf t.val)) (vals (X1 m 0) (t.val / 2112) (t.val / 528 % 4)) (512 * kOf t.val) d0 d1 d2) :
    Inv m t.succ (nM (grid0.coords t) (tbl m 0) (tbl m 1) (iblk m 0 0 t) (iblk m 0 1 t) d0) (nL (grid0.coords t) (tbl m 0) (tbl m 1) (iblk m 0 0 t) (iblk m 0 1 t) d0 d1)
      (nA (grid0.coords t) (tbl m 0) (tbl m 1) (iblk m 0 0 t) (iblk m 0 1 t) (iblk m 0 2 t) d0 d2) := by
  have ht : t.val < 4224 := t.isLt
  obtain ⟨hle, hq, hlt, heq⟩ := next t.val
  have hb : t.val / 2112 < 2 := by omega
  have hh : t.val / 528 % 4 < 4 := by omega
  have wq := word_q_toNat m t
  have wk := word_k_toNat m t
  have hwq : (wordOf (grid0.coords t) (tbl m 0)).toNat < 32 := by rw [wq]; exact hq
  have hwk : (wordOf (grid0.coords t) (tbl m 1)).toNat < 32 := by rw [wk]; omega
  have hs := mid_start hwk wk hI
  rcases Nat.lt_or_ge (kOf t.val) (qOf t.val) with hk | hk
  · obtain ⟨n1, n2, n3⟩ := hlt hk
    right
    have hd : ¬ k0_cond3 (wordOf (grid0.coords t) (tbl m 0)) (wordOf (grid0.coords t) (tbl m 1)) = 1#1 := fun e => by
      have := (isDiag_iff hwq hwk).1 e; omega
    have hbl : isBelow (wordOf (grid0.coords t) (tbl m 0)) (wordOf (grid0.coords t) (tbl m 1)) = 1#1 := (isBelow_iff hwq hwk).2 (by omega)
    show State (rows (X0 m 0) ((t.val + 1) / 2112) ((t.val + 1) / 528 % 4) (qOf (t.val + 1))) (vals (X1 m 0) ((t.val + 1) / 2112) ((t.val + 1) / 528 % 4)) (512 * kOf (t.val + 1)) _ _ _
    rw [n1, n2, show (t.val + 1) / 2112 = t.val / 2112 by omega, show (t.val + 1) / 528 = t.val / 528 by omega]
    unfold nM nL nA midM midL midA
    rw [if_neg hd, if_neg hd, if_neg hd, if_pos hbl, if_pos hbl, if_pos hbl]
    exact DiffStep.state_below H hb hh hq hk (blocks m 0 t) _ _ _ hs
  · left; exact heq (le_antisymm hle hk)

include H in
theorem keep_out (t : Fin (cfgM m).N) (d0 d1 : Vec Ideal S2x512x128 .f32) (d2 : Vec Ideal S2x512x256 .f32)
    (hI : kOf t.val = 0 ∨ State (rows (X0 m 0) (t.val / 2112) (t.val / 528 % 4) (qOf t.val)) (vals (X1 m 0) (t.val / 2112) (t.val / 528 % 4)) (512 * kOf t.val) d0 d1 d2) (x : Vec Ideal S512x256 .bf16) (hk : kOf t.val = qOf t.val) (r : Fin 512) (e : Fin 256) :
    nO (grid0.coords t) (tbl m 0) (tbl m 1) (iblk m 0 0 t) (iblk m 0 1 t) (iblk m 0 2 t) (iblk m 0 3 t) (iblk m 0 4 t) (iblk m 0 5 t) (iblk m 0 6 t) (iblk m 0 7 t) (iblk m 0 8 t) x d0 d1 d2 (ix2 r e)
      = G m ((((cfgM m).win 9).rect t).emb (ix2 r e)) := by
  have ht : t.val < 4224 := t.isLt
  obtain ⟨hle, hq, hlt, heq⟩ := next t.val
  have hb : t.val / 2112 < 2 := by omega
  have hh : t.val / 528 % 4 < 4 := by omega
  have wq := word_q_toNat m t
  have wk := word_k_toNat m t
  have hwq : (wordOf (grid0.coords t) (tbl m 0)).toNat < 32 := by rw [wq]; exact hq
  have hwk : (wordOf (grid0.coords t) (tbl m 1)).toNat < 32 := by rw [wk]; omega
  have hs := mid_start hwk wk hI
  have hd : k0_cond3 (wordOf (grid0.coords t) (tbl m 0)) (wordOf (grid0.coords t) (tbl m 1)) = 1#1 := (isDiag_iff hwq hwk).2 (by omega)
  have hbl : ¬ isBelow (wordOf (grid0.coords t) (tbl m 0)) (wordOf (grid0.coords t) (tbl m 1)) = 1#1 := fun e => by
    have := (isBelow_iff hwq hwk).1 e; omega
  have B : Blocks (X0 m 0) (X1 m 0) (t.val / 2112) (t.val / 528 % 4) (qOf t.val) (qOf t.val) (iblk m 0 0 t) (iblk m 0 1 t) (iblk m 0 2 t) := by
    have := blocks m 0 t; rw [hk] at this; exact this
  rw [hk] at hs
  have hs' := DiffStep.state_diag H hb hh hq B _ _ _ hs
  unfold nO midM midL midA
  rw [if_pos hd, if_neg hbl, if_neg hbl, if_neg hbl]
  refine (DiffStep.outTile_eq (iblk m 0 3 t) (iblk m 0 4 t) (iblk m 0 5 t) (iblk m 0 6 t) (iblk m 0 7 t) (iblk m 0 8 t) _ _ _ _ r e).trans ?_
  have hlam := (DiffStep.lam_apply (iblk m 0 5 t) (iblk m 0 6 t) (iblk m 0 7 t) (iblk m 0 8 t) (blk5 m 0 t) (blk6 m 0 t) (blk7 m 0 t) (blk8 m 0 t)).trans H.l
  rw [show (fun k => DiffStep.dTile _ _ _ _ _ (ix2 r k)) = _ from funext fun k => DiffStep.out_row H hb hh hq _ _ _ _ _ hlam _ hs' r k,
    blk4, blk3]
  symm
  refine DiffRef.v64_eq H (X2 m 0) _ (t.val / 2112) (512 * qOf t.val + r.val) (t.val / 528 % 4) e hb (by omega) hh ?_ ?_
  · rw [((cfgM m).win 9).rect_emb_val t (ix2 r e) (0 : Fin 2), (idx9 m t).1]; show _ * 512 + r.val = _; omega
  · rw [((cfgM m).win 9).rect_emb_val t (ix2 r e) (1 : Fin 2), (idx9 m t).2]; rfl

theorem keep_start (d0 d1 : Vec Ideal S2x512x128 .f32) (d2 : Vec Ideal S2x512x256 .f32) : Inv m 0 d0 d1 d2 := by
  unfold Inv
  left
  rw [Fin.val_zero]
  exact kOf_zero

include H in
theorem kept_step (t : Fin (cfgM m).N) (d0 d1 : Vec Ideal S2x512x128 .f32) (d2 : Vec Ideal S2x512x256 .f32) (hI : Inv m t.castSucc d0 d1 d2) :
    Inv m t.succ (nM (grid0.coords t) (tbl m 0) (tbl m 1) (iblk m 0 0 t) (iblk m 0 1 t) d0) (nL (grid0.coords t) (tbl m 0) (tbl m 1) (iblk m 0 0 t) (iblk m 0 1 t) d0 d1)
      (nA (grid0.coords t) (tbl m 0) (tbl m 1) (iblk m 0 0 t) (iblk m 0 1 t) (iblk m 0 2 t) d0 d2) := by
  unfold Inv at hI
  rw [Fin.val_castSucc] at hI
  exact keep_step m H t d0 d1 d2 hI

include H in
theorem kept_out (t : Fin (cfgM m).N) (d0 d1 : Vec Ideal S2x512x128 .f32) (d2 : Vec Ideal S2x512x256 .f32) (hI : Inv m t.castSucc d0 d1 d2)
    (x : Vec Ideal S512x256 .bf16) :
    Out m t (nO (grid0.coords t) (tbl m 0) (tbl m 1) (iblk m 0 0 t) (iblk m 0 1 t) (iblk m 0 2 t) (iblk m 0 3 t) (iblk m 0 4 t) (iblk m 0 5 t) (iblk m 0 6 t) (iblk m 0 7 t) (iblk m 0 8 t) x d0 d1 d2) := by
  unfold Inv at hI
  rw [Fin.val_castSucc] at hI
  unfold Out
  intro hk r e
  exact keep_out m H t d0 d1 d2 hI x hk r e

include H in
theorem kept : Kept m (Inv m) (Out m) (0 : Dev nD) where
  start := keep_start m
  step := kept_step m H
  out := kept_out m H

/-! What is written back. -/

theorem flush_diag (t : Fin (cfgM m).N) (h : ((cfgM m).win 9).flush t = true) : kOf t.val = qOf t.val := by
  obtain ⟨hle, hq, hlt, heq⟩ := next t.val
  by_contra hne
  obtain ⟨n1, n2, n3⟩ := hlt (by omega)
  have ht : t.val < 4224 := t.isLt
  have h1 : t.val + 1 < (cfgM m).N := by show t.val + 1 < 4224; omega
  have hidx : ((cfgM m).win 9).index ⟨t.val + 1, h1⟩ = ((cfgM m).win 9).index t := by
    funext a
    match a with
    | ⟨0, _⟩ =>
      refine (idx9 m ⟨t.val + 1, h1⟩).1.trans (Eq.trans ?_ (idx9 m t).1.symm)
      show (t.val + 1) / 2112 * 32 + qOf (t.val + 1) = _
      rw [n1]; omega
    | ⟨1, _⟩ =>
      refine (idx9 m ⟨t.val + 1, h1⟩).2.trans (Eq.trans ?_ (idx9 m t).2.symm)
      show (t.val + 1) / 528 % 4 = _
      omega
  unfold Window.flush at h
  rw [Bool.and_eq_true, Bool.or_eq_true] at h
  rcases h.2 with h | h
  · have : t.val + 1 = (cfgM m).N := of_decide_eq_true h
    omega
  · obtain ⟨_, hx⟩ := of_decide_eq_true h
    exact hx hidx

theorem diag_flush (t : Fin (cfgM m).N) (h : kOf t.val = qOf t.val) : ((cfgM m).win 9).flush t = true := by
  have ht : t.val < 4224 := t.isLt
  unfold Window.flush
  rw [Bool.and_eq_true, Bool.or_eq_true]
  refine ⟨rfl, ?_⟩
  by_cases hl : t.val + 1 = 4224
  · left; exact decide_eq_true hl
  · right
    have h1 : t.val + 1 < (cfgM m).N := by show t.val + 1 < 4224; omega
    refine decide_eq_true ⟨h1, fun e => ?_⟩
    have e0 := congrFun e (0 : Fin 2)
    have e1 := congrFun e (1 : Fin 2)
    rw [(idx9 m ⟨t.val + 1, h1⟩).1, (idx9 m t).1] at e0
    rw [(idx9 m ⟨t.val + 1, h1⟩).2, (idx9 m t).2] at e1
    have e0' : (t.val + 1) / 2112 * 32 + qOf (t.val + 1) = t.val / 2112 * 32 + qOf t.val := e0
    have e1' : (t.val + 1) / 528 % 4 = t.val / 528 % 4 := e1
    by_cases hn : t.val % 528 + 1 < 528
    · have := leaves' t.val h hn; omega
    · omega

theorem cover (i : S32768x1024.Idx) : ∃ t : Fin (cfgM m).N, ((cfgM m).win 9).flush t = true ∧ i ∈ (((cfgM m).win 9).blk t).view.set := by
  have b0 : (i 0).val < 32768 := (i 0).isLt
  have b1 : (i 1).val < 1024 := (i 1).isLt
  obtain ⟨n, hq, hk⟩ := diag_at ⟨(i 0).val % 16384 / 512, by omega⟩
  have hn : n.val < 528 := n.isLt
  have hlt : (i 0).val / 16384 * 2112 + (i 1).val / 256 * 528 + n.val < 4224 := by omega
  let t : Fin (cfgM m).N := ⟨(i 0).val / 16384 * 2112 + (i 1).val / 256 * 528 + n.val, hlt⟩
  have hmod : ((i 0).val / 16384 * 2112 + (i 1).val / 256 * 528 + n.val) % 528 = n.val % 528 := by omega
  have htq : qOf t.val = (i 0).val % 16384 / 512 := by
    rw [← (show _ = (i 0).val % 16384 / 512 from hq)]; unfold qOf; congr 2; exact Fin.ext hmod
  have htk : kOf t.val = (i 0).val % 16384 / 512 := by
    rw [← (show _ = (i 0).val % 16384 / 512 from hk)]; unfold kOf; congr 2; exact Fin.ext hmod
  refine ⟨t, diag_flush m t (htk.trans htq.symm), ?_⟩
  have e : (((cfgM m).win 9).rect t).emb (ix2 (⟨(i 0).val % 512, Nat.mod_lt _ (by omega)⟩ : Fin 512) (⟨(i 1).val % 256, Nat.mod_lt _ (by omega)⟩ : Fin 256)) = i := by
    refine Shape.idx_ext₂ ?_ ?_
    · refine (((cfgM m).win 9).rect_emb_val t _ (0 : Fin 2)).trans ?_
      rw [(idx9 m t).1, htq]
      show (((i 0).val / 16384 * 2112 + (i 1).val / 256 * 528 + n.val) / 2112 * 32 + (i 0).val % 16384 / 512) * 512 + (i 0).val % 512 = (i 0).val
      omega
    · refine (((cfgM m).win 9).rect_emb_val t _ (1 : Fin 2)).trans ?_
      rw [(idx9 m t).2]
      show ((i 0).val / 16384 * 2112 + (i 1).val / 256 * 528 + n.val) / 528 % 4 * 256 + (i 1).val % 256 = (i 1).val
      omega
  rw [← e]
  exact (((cfgM m).win 9).blk t).view.emb_mem_set _

end Cert.Proof.DiffKept

end
-- ==== Proof.DiffValue.lean ====
/- The differential attention at the ideal instance: on arguments that are finite where they are read, the launch ends with
   the reference's array. -/
module

public import proofs.«01_k».proof.Defs
public import proofs.«01_k».proof.Proof.Gen.Diff
public import proofs.«01_k».proof.Proof.Gen.Diff.Launch
public import proofs.«01_k».proof.Proof.Gen.Diff.Skeleton
public import proofs.«01_k».proof.Proof.Gen.DiffIdeal
public import proofs.«01_k».proof.Proof.Gen.DiffIdeal.Launch
public import proofs.«01_k».proof.Proof.Gen.DiffIdeal.Skeleton
public import proofs.«01_k».proof.Proof.Gen.DiffRefIdeal.Run
public import proofs.«01_k».proof.Proof.Gen.DiffRefIdeal.Read
public import proofs.«01_k».proof.Proof.DiffKept

@[expose] public section

set_option maxRecDepth 16384

noncomputable section

namespace Cert.Proof.DiffValue

open Cert.DiffIdeal Cert.DiffIdeal.Gen Idealize.ShloMosaic Idealize.ShloMosaic.TcCoe Idealize.SL.Sem
open Cert.Proof.DiffIdeal Cert.Proof.DiffPoint Cert.Proof.DiffKept
open Cert.Proof.DiffRef (Fine lam rd0 rd1 sum_real)
open Idealize.ShloMosaic.ValueIdx Idealize.ShloMosaic.StableHlo
open Idealize.ShloMosaic.Pipeline (Dat RDat)

/-! What the precondition gives. -/

theorem real_of {a : EReal} (h : Ideal.cmp .olt (max a (-a)) (Ideal.ofBits .f32 0x7F800000#32) = 1#1) : ∃ y : ℝ, a = (y : EReal) := by
  have htop : Ideal.ofBits .f32 0x7F800000#32 = ⊤ := by simp [Ideal.ofBits, Ideal.ieee]
  rw [htop] at h
  induction a using EReal.rec with
  | bot => simp [Ideal.cmp] at h
  | coe y => exact ⟨y, rfl⟩
  | top => simp [Ideal.cmp] at h

theorem fifth : ∃ y : ℝ, Ideal.ofBits .f32 0x3E4CCCCD#32 = (y : EReal) := by
  refine ⟨13421773 / 67108864, ?_⟩
  simp [Ideal.ofBits, Ideal.ieee, -EReal.coe_mul]
  norm_num

theorem prod_real {x y : S128.Idx → EReal} (hx : ∀ i, ∃ a : ℝ, x i = (a : EReal)) (hy : ∀ i, ∃ a : ℝ, y i = (a : EReal)) :
    ∃ a : ℝ, ∑ k : Fin 128, x (ix1 k) * y (ix1 k) = (a : EReal) :=
  sum_real _ fun k => by
    obtain ⟨a, ha⟩ := hx (ix1 k)
    obtain ⟨b, hb⟩ := hy (ix1 k)
    exact ⟨a * b, by rw [ha, hb, EReal.coe_mul]⟩

theorem lam_real {x3 x4 x5 x6 : S128.Idx → EReal} (h3 : ∀ i, ∃ a : ℝ, x3 i = (a : EReal)) (h4 : ∀ i, ∃ a : ℝ, x4 i = (a : EReal))
    (h5 : ∀ i, ∃ a : ℝ, x5 i = (a : EReal)) (h6 : ∀ i, ∃ a : ℝ, x6 i = (a : EReal)) : ∃ L : ℝ, lam x3 x4 x5 x6 = (L : EReal) := by
  obtain ⟨a, ha⟩ := prod_real h3 h4
  obtain ⟨b, hb⟩ := prod_real h5 h6
  obtain ⟨c, hc⟩ := fifth
  refine ⟨Real.exp a - Real.exp b + c, ?_⟩
  unfold lam
  rw [ha, hb, hc, EReal.coe_add, EReal.coe_sub]
  rfl

variable (m : (ℓ : Loc nD τ sig) → Buf (Elt Ideal) ℓ) (ρ : Dev nD → PrngReg)

theorem fine [hPre_finite : Cert.Pre_finite.Facts] (h : Cert.Pre_DiffIdeal_finite m) :
    ∃ L : ℝ, Fine (X0 m 0) (X1 m 0) (X3 m 0) (X4 m 0) (X5 m 0) (X6 m 0) L := by
  obtain ⟨h1, h2, h3, h4, h5, h6⟩ := h 0
  have f (i : S128.Idx) : ∃ y : ℝ, X3 m 0 i = (y : EReal) := real_of (congrFun h3 i)
  obtain ⟨L, hL⟩ := lam_real f (fun i => real_of (congrFun h4 i)) (fun i => real_of (congrFun h5 i)) (fun i => real_of (congrFun h6 i))
  refine ⟨L, ⟨fun r c hr hc hc' => ?_, fun r c hr hc hc' => ?_, hL⟩⟩
  · have e : extractStridedSlice Cert.Pre_finite.S32768x2048 ![0, 2048] (X0 m 0) hPre_finite.slices_S32768x4096_S32768x2048_0_2048
        (ix2 (⟨r, hr⟩ : Fin 32768) (⟨c - 2048, by omega⟩ : Fin 2048)) = X0 m 0 (ix2 (⟨r, hr⟩ : Fin 32768) (⟨c, hc'⟩ : Fin 4096)) :=
      extractStridedSlice_apply _ _ _ _ _ fun a => by
        match a with
        | ⟨0, _⟩ => show r = 0 + r; omega
        | ⟨1, _⟩ => show c = 2048 + (c - 2048); omega
    obtain ⟨y, hy⟩ := real_of (congrFun h1 (ix2 (⟨r, hr⟩ : Fin 32768) (⟨c - 2048, by omega⟩ : Fin 2048)))
    refine ⟨y, Eq.trans ?_ (e.symm.trans hy)⟩
    unfold rd0
    rw [dif_pos ⟨hr, hc'⟩]
  · have e : extractStridedSlice Cert.Pre_finite.S32768x1024 ![0, 1024] (X1 m 0) hPre_finite.slices_S32768x8192_S32768x1024_0_1024
        (ix2 (⟨r, hr⟩ : Fin 32768) (⟨c - 1024, by omega⟩ : Fin 1024)) = X1 m 0 (ix2 (⟨r, hr⟩ : Fin 32768) (⟨c, by omega⟩ : Fin 8192)) :=
      extractStridedSlice_apply _ _ _ _ _ fun a => by
        match a with
        | ⟨0, _⟩ => show r = 0 + r; omega
        | ⟨1, _⟩ => show c = 1024 + (c - 1024); omega
    obtain ⟨y, hy⟩ := real_of (congrFun h2 (ix2 (⟨r, hr⟩ : Fin 32768) (⟨c - 1024, by omega⟩ : Fin 1024)))
    refine ⟨y, Eq.trans ?_ (e.symm.trans hy)⟩
    unfold rd1
    rw [dif_pos ⟨hr, by omega⟩]

/-! The launch's result. -/

theorem result {r : PUnit × MemSt nD τ sig (Elt Ideal)}
    (h : RDat.FramePost ((Pipeline.pin pcfgs fun _ => adm m) 0) (fun c => (dats m (Inv m) 0 c).toRRel forgets0 (outRel m (Out m))) (V m) r) :
    r.2.mem (((0 : Dev nD).tc : Thread nD τ).loc main_v5) = G m := by
  obtain ⟨after, hL, hA⟩ := RDat.FramePost.exists_exact h (0 : Dev nD)
  refine (hA 9).trans ?_
  refine Dat.arrAt_eq_of_emb (cfg := cfgM m) (c := (0 : Dev nD)) (((dats m (Inv m) 0 0).toRRel forgets0 (outRel m (Out m))).withAfter after) 9 (G m) (fun t hf y => ?_) (cover m)
  have ho : Out m t (after 9 t) := (dats m (Inv m) 0 0).toRRel_leaves (fgt := forgets0) (Rl := outRel m (Out m)) (w := (9 : Fin 10)) rfl (hL 9 t hf)
  obtain ⟨p, q, rfl⟩ : ∃ (p : Fin 512) (q : Fin 256), y = ix2 p q := ⟨y (0 : Fin 2), y (1 : Fin 2), eq_ix2 (n0 := 512) (n1 := 256) y⟩
  exact ho (flush_diag m t hf) p q

theorem preserves : Cert.preserves_Diff_DiffIdeal := IdealRules.named_const.statement _ _ _ _ _ rfl

theorem algebraic [hDiffIdeal : Cert.DiffIdeal.Facts] [hDiffRefIdeal : Cert.DiffRefIdeal.Facts] [hPre_finite : Cert.Pre_finite.Facts] :
    Cert.algebraic_DiffIdeal_DiffRefIdeal_pre_finite := by
  intro m g m' g' hpre hag
  obtain ⟨L, H⟩ := fine m hpre
  refine ⟨fun _ => G m, ?_, ?_⟩
  · refine (θ_run defs _ _).mono (fun r h c => ?_) (run_main_quiescent m g (Inv m) (Out m) fun c => by
      obtain rfl : c = 0 := Subsingleton.elim _ _
      exact kept m H)
    obtain rfl : c = 0 := Subsingleton.elim _ _
    exact ⟨result m h.1,
      (RDat.FramePost.arr_in h.1 0 0 rfl).trans ((A_eq m (Inv m) 0 0).trans (V_of_ne m 0 (r := main_arg0) (by decide))),
      (RDat.FramePost.arr_in h.1 0 2 rfl).trans ((A_eq m (Inv m) 0 2).trans (V_of_ne m 0 (r := main_arg1) (by decide))),
      ((h.1 0).2 main_arg2 (show main_arg2 ∈ Pipeline.restRefs sig spec0 from Pipeline.mem_restRefs_of main_arg2 (by decide) (by decide))).trans (V_of_ne m 0 (r := main_arg2) (by decide)),
      ((h.1 0).2 main_arg3 (show main_arg3 ∈ Pipeline.restRefs sig spec0 from Pipeline.mem_restRefs_of main_arg3 (by decide) (by decide))).trans (V_of_ne m 0 (r := main_arg3) (by decide)),
      ((h.1 0).2 main_arg4 (show main_arg4 ∈ Pipeline.restRefs sig spec0 from Pipeline.mem_restRefs_of main_arg4 (by decide) (by decide))).trans (V_of_ne m 0 (r := main_arg4) (by decide)),
      ((h.1 0).2 main_arg5 (show main_arg5 ∈ Pipeline.restRefs sig spec0 from Pipeline.mem_restRefs_of main_arg5 (by decide) (by decide))).trans (V_of_ne m 0 (r := main_arg5) (by decide)),
      ((h.1 0).2 main_arg6 (show main_arg6 ∈ Pipeline.restRefs sig spec0 from Pipeline.mem_restRefs_of main_arg6 (by decide) (by decide))).trans (V_of_ne m 0 (r := main_arg6) (by decide))⟩
  · refine (θ_run _ _ _).mono (fun r h c => ⟨(h c).1.trans ?_, (h c).2⟩) (Cert.DiffRefIdeal.Value.run m' g')
    obtain rfl : c = 0 := Subsingleton.elim _ _
    obtain ⟨a0, a1, a2, a3, a4, a5, a6⟩ := hag 0
    refine (Cert.DiffRefIdeal.Read.val_main_v64_eq _ _).trans ?_
    rw [a0, a1, a2, a3, a4, a5, a6]
    rfl

end Cert.Proof.DiffValue

end
-- ==== Proof.MergeValue.lean ====
/- The merge of the two branches at the ideal instance: each branch's product with its weights, times its gate, added. -/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.MatmulPlain
public import Idealize.ShloMosaic.Lib.ValueIdx

@[expose] public section

noncomputable section

namespace Cert.Proof.MergeValue

open Cert.MergeIdeal Cert.MergeIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- Column `a + c` of the gates' array. -/
def col (a : ℕ) (ha : a + 2048 ≤ 8192) (c : Fin 2048) : Fin 8192 := ⟨a + c.val, by omega⟩

/-- The whole array: gate times product, over the two branches. -/
def G (x0 x1 : S32768x1024.Idx → EReal) (x2 x3 : S1024x2048.Idx → EReal) (x4 : S32768x8192.Idx → EReal) : S32768x2048.Idx → EReal :=
  fun i => x4 (ix2 (i 0) (col 4096 (by omega) (i 1))) * (∑ k : Fin 1024, x0 (ix2 (i 0) k) * x2 (ix2 k (i 1)))
    + x4 (ix2 (i 0) (col 6144 (by omega) (i 1))) * (∑ k : Fin 1024, x1 (ix2 (i 0) k) * x3 (ix2 k (i 1)))

/-- Which block each window holds at a point. -/
theorem idx_facts : ∀ t : Fin cfg0.N,
    (win0_0.index t 0 = t.val / 4 ∧ win0_0.index t 1 = 0) ∧ (win0_1.index t 0 = t.val / 4 ∧ win0_1.index t 1 = 0)
    ∧ (win0_2.index t 0 = 0 ∧ win0_2.index t 1 = t.val % 4) ∧ (win0_3.index t 0 = 0 ∧ win0_3.index t 1 = t.val % 4)
    ∧ (win0_4.index t 0 = t.val / 4 ∧ win0_4.index t 1 = 8 + t.val % 4) ∧ (win0_5.index t 0 = t.val / 4 ∧ win0_5.index t 1 = 12 + t.val % 4)
    ∧ (win0_6.index t 0 = t.val / 4 ∧ win0_6.index t 1 = t.val % 4) :=
  (by decide +kernel : ∀ t : Fin grid0.N, _)

/-- The first branch's weights as the region finds them. -/
theorem V_v0 (c : Dev nD) : (V m c main_v0 : S1024x2048.Idx → EReal) = m ((c : Thread nD τ).loc main_arg2) := by
  have h : @Eq (FVec Ideal S1024x2048 .bf16) (V m c main_v0)
      (truncf .bf16 (m ((c : Thread nD τ).loc main_arg2) : FVec Ideal S1024x2048 .f32) bitsLt_bf16_f32) := by
    show StableHlo.after hostOps0 _ _ = _
    after_results
  rw [h]; rfl

/-- The second branch's weights as the region finds them. -/
theorem V_v1 (c : Dev nD) : (V m c main_v1 : S1024x2048.Idx → EReal) = m ((c : Thread nD τ).loc main_arg3) := by
  have h : @Eq (FVec Ideal S1024x2048 .bf16) (V m c main_v1)
      (truncf .bf16 (m ((c : Thread nD τ).loc main_arg3) : FVec Ideal S1024x2048 .f32) bitsLt_bf16_f32) := by
    show StableHlo.after hostOps0 _ _ = _
    after_results
  rw [h]; rfl

theorem pay_apply (v0 : Vec Ideal S1024x1024 .bf16) (v1 : Vec Ideal S1024x512 .bf16) (v4 : Vec Ideal S1024x1024 .bf16)
    (v5 : Vec Ideal S1024x512 .bf16) (v8 v11 : Vec Ideal S1024x512 .bf16) (r : Fin 1024) (c : Fin 512) :
    k0_pay1 v0 v1 v4 v5 v8 v11 (ix2 r c) = v8 (ix2 r c) * (∑ k : Fin 1024, v0 (ix2 r k) * v1 (ix2 k c))
      + v11 (ix2 r c) * (∑ k : Fin 1024, v4 (ix2 r k) * v5 (ix2 k c)) := by
  unfold k0_pay1
  rw [truncf_apply, addf_apply, mulf_apply, mulf_apply, extf_apply, extf_apply, shapeCast_self, shapeCast_self]
  have h (a : FVec Ideal S1024x1024 .bf16) (b : FVec Ideal S1024x512 .bf16) :
      matmul dot_S1024x1024_S1024x512_S1024x512_1_0_0_1_n_n none a b (constant (F := Ideal) S1024x512 .f32 0x00000000#32) (ix2 r c)
        = (∑ k : Fin 1024, (a (ix2 r k) : EReal) * b (ix2 k c) : EReal) := by
    refine (Ideal.matmul_plain_apply (M := 1024) (K := 1024) (N := 512) none a b _ r c).trans ?_
    rw [constant_apply, Ideal.ofBits_zero_f32, zero_add]
  rw [h, h]

theorem out_apply (x0 x1 : Vec Ideal S1024x1024 .bf16) (x2 x3 x4 x5 : Vec Ideal S1024x512 .bf16) (r : Fin 1024) (c : Fin 512) :
    out0_6 x0 x1 x2 x3 x4 x5 (ix2 r c) = x4 (ix2 r c) * (∑ k : Fin 1024, x0 (ix2 r k) * x2 (ix2 k c))
      + x5 (ix2 r c) * (∑ k : Fin 1024, x1 (ix2 r k) * x3 (ix2 k c)) := by
  have hz : (![0, 0] : Fin 2 → Nat) = fun _ => 0 := by funext a; fin_cases a <;> rfl
  unfold out0_6
  rw [View.canon_unit_zero hz, pay_apply]
  have e1 (x : Vec Ideal S1024x1024 .bf16) : View.ld x r0_0 = x := View.ld_unit_zero (S := S1024x1024) hz _ x
  have e2 (x : Vec Ideal S1024x512 .bf16) : View.ld x r0_1 = x := View.ld_unit_zero (S := S1024x512) hz _ x
  rw [e1, e1, e2, e2, e2, e2]

/-- What a point writes back is its block of the array. -/
theorem flushed_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨⟨h00, h01⟩, ⟨h10, h11⟩, ⟨h20, h21⟩, ⟨h30, h31⟩, ⟨h40, h41⟩, ⟨h50, h51⟩, h60, h61⟩ := idx_facts t
  rw [Value.flushed6]
  funext y
  obtain ⟨r, q, rfl⟩ : ∃ (r : Fin 1024) (q : Fin 512), y = ix2 r q := ⟨y 0, y 1, eq_ix2 (n0 := 1024) (n1 := 512) y⟩
  refine (out_apply (iblk m c 0 t) (iblk m c 1 t) (iblk m c 2 t) (iblk m c 3 t) (iblk m c 4 t) (iblk m c 5 t) r q).trans ?_
  have hr : (((win0_6.rect t).emb (ix2 r q)) 0 : ℕ) = t.val / 4 * 1024 + r := by rw [win0_6.rect_emb_val t (ix2 r q) 0, h60]; rfl
  have hq : (((win0_6.rect t).emb (ix2 r q)) 1 : ℕ) = t.val % 4 * 512 + q := by rw [win0_6.rect_emb_val t (ix2 r q) 1, h61]; rfl
  show _ = G _ _ _ _ _ ((win0_6.rect t).emb (ix2 r q))
  unfold G
  have e4 : iblk m c 4 t (ix2 r q) = (m ((c : Thread nD τ).loc main_arg4) : S32768x8192.Idx → EReal)
      (ix2 (((win0_6.rect t).emb (ix2 r q)) 0) (col 4096 (by omega) (((win0_6.rect t).emb (ix2 r q)) 1))) := by
    show (V m c main_arg4 : S32768x8192.Idx → EReal) ((win0_4.rect t).emb (ix2 r q)) = _
    rw [V_main_arg4]
    refine congrArg _ (Shape.idx_ext₂ ?_ ?_)
    · rw [win0_4.rect_emb_val t (ix2 r q) 0, h40]; exact hr.symm
    · rw [win0_4.rect_emb_val t (ix2 r q) 1, h41]
      show (8 + t.val % 4) * 512 + q.val = 4096 + (((win0_6.rect t).emb (ix2 r q)) 1 : ℕ)
      rw [hq]; omega
  have e5 : iblk m c 5 t (ix2 r q) = (m ((c : Thread nD τ).loc main_arg4) : S32768x8192.Idx → EReal)
      (ix2 (((win0_6.rect t).emb (ix2 r q)) 0) (col 6144 (by omega) (((win0_6.rect t).emb (ix2 r q)) 1))) := by
    show (V m c main_arg4 : S32768x8192.Idx → EReal) ((win0_5.rect t).emb (ix2 r q)) = _
    rw [V_main_arg4]
    refine congrArg _ (Shape.idx_ext₂ ?_ ?_)
    · rw [win0_5.rect_emb_val t (ix2 r q) 0, h50]; exact hr.symm
    · rw [win0_5.rect_emb_val t (ix2 r q) 1, h51]
      show (12 + t.val % 4) * 512 + q.val = 6144 + (((win0_6.rect t).emb (ix2 r q)) 1 : ℕ)
      rw [hq]; omega
  have e0 (k : Fin 1024) : iblk m c 0 t (ix2 r k) = (m ((c : Thread nD τ).loc main_arg0) : S32768x1024.Idx → EReal) (ix2 (((win0_6.rect t).emb (ix2 r q)) 0) k) := by
    show (V m c main_arg0 : S32768x1024.Idx → EReal) ((win0_0.rect t).emb (ix2 r k)) = _
    rw [V_main_arg0]
    refine congrArg _ (Shape.idx_ext₂ ?_ ?_)
    · rw [win0_0.rect_emb_val t (ix2 r k) 0, h00]; exact hr.symm
    · rw [win0_0.rect_emb_val t (ix2 r k) 1, h01]; show 0 * 1024 + k.val = k.val; omega
  have e1 (k : Fin 1024) : iblk m c 1 t (ix2 r k) = (m ((c : Thread nD τ).loc main_arg1) : S32768x1024.Idx → EReal) (ix2 (((win0_6.rect t).emb (ix2 r q)) 0) k) := by
    show (V m c main_arg1 : S32768x1024.Idx → EReal) ((win0_1.rect t).emb (ix2 r k)) = _
    rw [V_main_arg1]
    refine congrArg _ (Shape.idx_ext₂ ?_ ?_)
    · rw [win0_1.rect_emb_val t (ix2 r k) 0, h10]; exact hr.symm
    · rw [win0_1.rect_emb_val t (ix2 r k) 1, h11]; show 0 * 1024 + k.val = k.val; omega
  have e2 (k : Fin 1024) : iblk m c 2 t (ix2 k q) = (m ((c : Thread nD τ).loc main_arg2) : S1024x2048.Idx → EReal) (ix2 k (((win0_6.rect t).emb (ix2 r q)) 1)) := by
    show (V m c main_v0 : S1024x2048.Idx → EReal) ((win0_2.rect t).emb (ix2 k q)) = _
    rw [V_v0]
    refine congrArg _ (Shape.idx_ext₂ ?_ ?_)
    · rw [win0_2.rect_emb_val t (ix2 k q) 0, h20]; show 0 * 1024 + k.val = k.val; omega
    · rw [win0_2.rect_emb_val t (ix2 k q) 1, h21]; exact hq.symm
  have e3 (k : Fin 1024) : iblk m c 3 t (ix2 k q) = (m ((c : Thread nD τ).loc main_arg3) : S1024x2048.Idx → EReal) (ix2 k (((win0_6.rect t).emb (ix2 r q)) 1)) := by
    show (V m c main_v1 : S1024x2048.Idx → EReal) ((win0_3.rect t).emb (ix2 k q)) = _
    rw [V_v1]
    refine congrArg _ (Shape.idx_ext₂ ?_ ?_)
    · rw [win0_3.rect_emb_val t (ix2 k q) 0, h30]; show 0 * 1024 + k.val = k.val; omega
    · rw [win0_3.rect_emb_val t (ix2 k q) 1, h31]; exact hq.symm
  exact congrArg₂ (fun a b : EReal => a + b)
    (congrArg₂ (fun a b : EReal => a * b) e4 (Finset.sum_congr rfl fun k _ => congrArg₂ (fun a b : EReal => a * b) (e0 k) (e2 k)))
    (congrArg₂ (fun a b : EReal => a * b) e5 (Finset.sum_congr rfl fun k _ => congrArg₂ (fun a b : EReal => a * b) (e1 k) (e3 k)))

/-- The blocks fill the array. -/
theorem cover (i : S32768x2048.Idx) : ∃ t : Fin cfg0.N, (cfg0.win 6).flush t = true ∧ i ∈ ((cfg0.win 6).blk t).view.set := by
  have b0 : (i 0).val < 32768 := (i 0).isLt
  have b1 : (i 1).val < 2048 := (i 1).isLt
  let t : Fin cfg0.N := ⟨(i 0).val / 1024 * 4 + (i 1).val / 512, by rw [show cfg0.N = 128 from N_0]; omega⟩
  obtain ⟨-, -, -, -, -, -, h30, h31⟩ := idx_facts t
  refine ⟨t, flush0_6 t, ?_⟩
  have e : (win0_6.rect t).emb (ix2 (⟨(i 0).val % 1024, Nat.mod_lt _ (by omega)⟩ : Fin 1024) (⟨(i 1).val % 512, Nat.mod_lt _ (by omega)⟩ : Fin 512)) = i := by
    refine Shape.idx_ext₂ ?_ ?_
    · rw [win0_6.rect_emb_val t _ 0, h30]
      show ((i 0).val / 1024 * 4 + (i 1).val / 512) / 4 * 1024 + (i 0).val % 1024 = (i 0).val
      omega
    · rw [win0_6.rect_emb_val t _ 1, h31]
      show ((i 0).val / 1024 * 4 + (i 1).val / 512) % 4 * 512 + (i 1).val % 512 = (i 1).val
      omega
  rw [← e]
  exact ((cfg0.win 6).blk t).view.emb_mem_set _

theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushed_eq m c t) cover

open Cert.MergeRefIdeal.Read in
/-- The reference's array is the same. -/
theorem ref_eq (x0 x1 : S32768x1024.Idx → EReal) (x2 x3 : S1024x2048.Idx → EReal) (x4 : S32768x8192.Idx → EReal) :
    val_main_v11 (F := Ideal) x0 x1 x2 x3 x4 = G x0 x1 x2 x3 x4 := by
  funext i
  rw [val_main_v11_apply, val_main_v10_apply, val_main_v6_apply, val_main_v9_apply, val_main_v5_apply, val_main_v8_apply,
    val_main_v4_apply, val_main_v7_apply, val_main_v1_apply, val_main_v3_apply]
  have e4 : idx_main_v4 i = ix2 (i 0) (col 4096 (by omega) (i 1)) := Shape.idx_ext₂ rfl rfl
  have e7 : idx_main_v7 i = ix2 (i 0) (col 6144 (by omega) (i 1)) := Shape.idx_ext₂ rfl rfl
  have l1 (k : Fin 1024) : lidx_main_v1 i k = ix2 (i 0) k := Shape.idx_ext₂ rfl rfl
  have r1 (k : Fin 1024) : ridx_main_v1 i k = ix2 k (i 1) := Shape.idx_ext₂ rfl rfl
  have l3 (k : Fin 1024) : lidx_main_v3 i k = ix2 (i 0) k := Shape.idx_ext₂ rfl rfl
  have r3 (k : Fin 1024) : ridx_main_v3 i k = ix2 k (i 1) := Shape.idx_ext₂ rfl rfl
  simp only [val_main_v0_apply, val_main_v2_apply, e4, e7, l1, r1, l3, r3]
  rfl

theorem algebraic [hMergeIdeal : Cert.MergeIdeal.Facts] [hMergeRefIdeal : Cert.MergeRefIdeal.Facts] : Cert.algebraic_MergeIdeal_MergeRefIdeal := by
  intro m g m' g' _ hag
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.MergeRefIdeal.Value.run m' g')
    obtain ⟨a0, a1, a2, a3, a4⟩ := hag c
    rw [a0, a1, a2, a3, a4]
    exact (Cert.MergeRefIdeal.Read.val_main_v11_eq _ _ _ _ _).trans (ref_eq _ _ _ _ _)

end Cert.Proof.MergeValue

end
-- ==== Proof.OutValue.lean ====
/- The output projection at the ideal instance: the array is the input stream plus the product of the merged branches with
   the projection's weights. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.MatmulPlain
public import Idealize.ShloMosaic.Lib.ValueIdx

@[expose] public section

noncomputable section

namespace Cert.Proof.OutValue

open Cert.OutIdeal Cert.OutIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The whole array: the stream plus the product. -/
def G (x0 : S32768x2048.Idx → EReal) (x1 : S2048x2048.Idx → EReal) (x2 : S32768x2048.Idx → EReal) : S32768x2048.Idx → EReal :=
  fun i => x2 i + ∑ k : Fin 2048, x0 (ix2 (i 0) k) * x1 (ix2 k (i 1))

/-- Which block each window holds at a point. -/
theorem idx_facts : ∀ t : Fin cfg0.N,
    win0_0.index t 0 = t.val / 4 ∧ win0_0.index t 1 = 0 ∧ win0_1.index t 0 = 0 ∧ win0_1.index t 1 = t.val % 4
    ∧ win0_2.index t 0 = t.val / 4 ∧ win0_2.index t 1 = t.val % 4 ∧ win0_3.index t 0 = t.val / 4 ∧ win0_3.index t 1 = t.val % 4 :=
  (by decide +kernel : ∀ t : Fin grid0.N, _)

/-- The weights as the region finds them. -/
theorem V_v0 (c : Dev nD) : (V m c main_v0 : S2048x2048.Idx → EReal) = m ((c : Thread nD τ).loc main_arg1) := by
  have h : @Eq (FVec Ideal S2048x2048 .bf16) (V m c main_v0)
      (truncf .bf16 (m ((c : Thread nD τ).loc main_arg1) : FVec Ideal S2048x2048 .f32) bitsLt_bf16_f32) := by
    show StableHlo.after hostOps0 _ _ = _
    after_results
  rw [h]; rfl

theorem pay_apply (v0 : Vec Ideal S1024x512 .f32) (v1 : Vec Ideal S1024x2048 .bf16) (v2 : Vec Ideal S2048x512 .bf16) (r : Fin 1024) (c : Fin 512) :
    k0_pay1 v0 v1 v2 (ix2 r c) = v0 (ix2 r c) + ∑ k : Fin 2048, v1 (ix2 r k) * v2 (ix2 k c) := by
  unfold k0_pay1
  rw [addf_apply, shapeCast_self]
  refine congrArg (v0 (ix2 r c) + ·) ?_
  refine (Ideal.matmul_plain_apply (M := 1024) (K := 2048) (N := 512) none v1 v2 _ r c).trans ?_
  rw [constant_apply, Ideal.ofBits_zero_f32, zero_add]

theorem out_apply (x0 : Vec Ideal S1024x2048 .bf16) (x1 : Vec Ideal S2048x512 .bf16) (x2 : Vec Ideal S1024x512 .f32) (r : Fin 1024) (c : Fin 512) :
    out0_3 x0 x1 x2 (ix2 r c) = x2 (ix2 r c) + ∑ k : Fin 2048, x0 (ix2 r k) * x1 (ix2 k c) := by
  have hz : (![0, 0] : Fin 2 → Nat) = fun _ => 0 := by funext a; fin_cases a <;> rfl
  unfold out0_3
  rw [View.canon_unit_zero hz, pay_apply]
  rw [View.ld_unit_zero (S := S1024x512) hz, View.ld_unit_zero (S := S1024x2048) hz, View.ld_unit_zero (S := S2048x512) hz]

/-- What a point writes back is its block of the array. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨h00, h01, h10, h11, h20, h21, h30, h31⟩ := idx_facts t
  rw [Value.flushed3]
  funext y
  obtain ⟨r, q, rfl⟩ : ∃ (r : Fin 1024) (q : Fin 512), y = ix2 r q := ⟨y 0, y 1, eq_ix2 (n0 := 1024) (n1 := 512) y⟩
  refine (out_apply (iblk m c 0 t) (iblk m c 1 t) (iblk m c 2 t) r q).trans ?_
  have hr : (((win0_3.rect t).emb (ix2 r q)) 0 : ℕ) = t.val / 4 * 1024 + r := by rw [win0_3.rect_emb_val t (ix2 r q) 0, h30]; rfl
  have hq : (((win0_3.rect t).emb (ix2 r q)) 1 : ℕ) = t.val % 4 * 512 + q := by rw [win0_3.rect_emb_val t (ix2 r q) 1, h31]; rfl
  show _ = G _ _ _ ((win0_3.rect t).emb (ix2 r q))
  unfold G
  have e2 : iblk m c 2 t (ix2 r q) = (m ((c : Thread nD τ).loc main_arg2) : S32768x2048.Idx → EReal) ((win0_3.rect t).emb (ix2 r q)) := by
    show (V m c main_arg2 : S32768x2048.Idx → EReal) ((win0_2.rect t).emb (ix2 r q)) = _
    rw [V_main_arg2]
    refine congrArg _ (Shape.idx_ext₂ ?_ ?_)
    · rw [hr, win0_2.rect_emb_val t (ix2 r q) 0, h20]; rfl
    · rw [hq, win0_2.rect_emb_val t (ix2 r q) 1, h21]; rfl
  refine congrArg₂ (fun a b : EReal => a + b) e2 (Finset.sum_congr rfl fun k _ => ?_)
  have e0 : iblk m c 0 t (ix2 r k) = (m ((c : Thread nD τ).loc main_arg0) : S32768x2048.Idx → EReal) (ix2 (((win0_3.rect t).emb (ix2 r q)) 0) k) := by
    show (V m c main_arg0 : S32768x2048.Idx → EReal) ((win0_0.rect t).emb (ix2 r k)) = _
    rw [V_main_arg0]
    refine congrArg _ (Shape.idx_ext₂ ?_ ?_)
    · rw [win0_0.rect_emb_val t (ix2 r k) 0, h00]; exact hr.symm
    · rw [win0_0.rect_emb_val t (ix2 r k) 1, h01]; show 0 * 2048 + k.val = k.val; omega
  have e1 : iblk m c 1 t (ix2 k q) = (m ((c : Thread nD τ).loc main_arg1) : S2048x2048.Idx → EReal) (ix2 k (((win0_3.rect t).emb (ix2 r q)) 1)) := by
    show (V m c main_v0 : S2048x2048.Idx → EReal) ((win0_1.rect t).emb (ix2 k q)) = _
    rw [V_v0]
    refine congrArg _ (Shape.idx_ext₂ ?_ ?_)
    · rw [win0_1.rect_emb_val t (ix2 k q) 0, h10]; show 0 * 2048 + k.val = k.val; omega
    · rw [win0_1.rect_emb_val t (ix2 k q) 1, h11]; exact hq.symm
  exact congrArg₂ (fun a b : EReal => a * b) e0 e1

/-- The blocks fill the array. -/
theorem cover (i : S32768x2048.Idx) : ∃ t : Fin cfg0.N, (cfg0.win 3).flush t = true ∧ i ∈ ((cfg0.win 3).blk t).view.set := by
  have b0 : (i 0).val < 32768 := (i 0).isLt
  have b1 : (i 1).val < 2048 := (i 1).isLt
  let t : Fin cfg0.N := ⟨(i 0).val / 1024 * 4 + (i 1).val / 512, by rw [show cfg0.N = 128 from N_0]; omega⟩
  obtain ⟨-, -, -, -, -, -, h30, h31⟩ := idx_facts t
  refine ⟨t, flush0_3 t, ?_⟩
  have e : (win0_3.rect t).emb (ix2 (⟨(i 0).val % 1024, Nat.mod_lt _ (by omega)⟩ : Fin 1024) (⟨(i 1).val % 512, Nat.mod_lt _ (by omega)⟩ : Fin 512)) = i := by
    refine Shape.idx_ext₂ ?_ ?_
    · rw [win0_3.rect_emb_val t _ 0, h30]
      show ((i 0).val / 1024 * 4 + (i 1).val / 512) / 4 * 1024 + (i 0).val % 1024 = (i 0).val
      omega
    · rw [win0_3.rect_emb_val t _ 1, h31]
      show ((i 0).val / 1024 * 4 + (i 1).val / 512) % 4 * 512 + (i 1).val % 512 = (i 1).val
      omega
  rw [← e]
  exact ((cfg0.win 3).blk t).view.emb_mem_set _

theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

open Cert.OutRefIdeal.Read in
/-- The reference's array is the same. -/
theorem ref_eq (x0 : S32768x2048.Idx → EReal) (x1 : S2048x2048.Idx → EReal) (x2 : S32768x2048.Idx → EReal) :
    val_main_v2 (F := Ideal) x0 x1 x2 = G x0 x1 x2 := by
  funext i
  rw [val_main_v2_apply, val_main_v1_apply]
  refine congrArg (x2 i + ·) (Finset.sum_congr rfl fun k _ => ?_)
  have e0 : lidx_main_v1 i k = ix2 (i 0) k := Shape.idx_ext₂ rfl rfl
  have e1 : ridx_main_v1 i k = ix2 k (i 1) := Shape.idx_ext₂ rfl rfl
  rw [val_main_v0_apply, e0, e1]
  rfl

theorem algebraic [hOutIdeal : Cert.OutIdeal.Facts] [hOutRefIdeal : Cert.OutRefIdeal.Facts] : Cert.algebraic_OutIdeal_OutRefIdeal := by
  intro m g m' g' _ hag
  refine ⟨fun c => G (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.OutRefIdeal.Value.run m' g')
    obtain ⟨a0, a1, a2⟩ := hag c
    rw [a0, a1, a2]
    exact (Cert.OutRefIdeal.Read.val_main_v2_eq _ _ _).trans (ref_eq _ _ _)

end Cert.Proof.OutValue

end
-- ==== Proof.lean ====
module

public import proofs.«01_k».proof.Defs
public import proofs.«01_k».proof.Proof.Gen.Kernel
public import proofs.«01_k».proof.Proof.Frame
public import proofs.«01_k».proof.Proof.Gen.Pre_finite
public import proofs.«01_k».proof.Proof.DiffFrame
public import proofs.«01_k».proof.Proof.NormValue
public import proofs.«01_k».proof.Proof.VgValue
public import proofs.«01_k».proof.Proof.QkValue
public import proofs.«01_k».proof.Proof.DiffValue
public import proofs.«01_k».proof.Proof.MergeValue
public import proofs.«01_k».proof.Proof.OutValue
/- Version v10: the selected attention's frame, and the values of the calls around it. -/

@[expose] public section

noncomputable section

namespace Cert.Proof

open Idealize.ShloMosaic Idealize.SL.Sem

/-- Each call ends without fault, leaves its arguments as they were and every counter at zero; where a reference is named, it computes the same. -/
theorem claim : Cert.Claim := by
  refine ⟨Cert.Kernel.Gen.facts, Cert.Norm.Gen.facts, Cert.NormIdeal.Gen.facts, Cert.NormRefIdeal.Gen.facts, Cert.Vg.Gen.facts, Cert.VgIdeal.Gen.facts, Cert.VgRefIdeal.Gen.facts, Cert.Qk.Gen.facts, Cert.QkIdeal.Gen.facts, Cert.QkRefIdeal.Gen.facts, Cert.Diff.Gen.facts, Cert.DiffIdeal.Gen.facts, Cert.DiffRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Pre_finite.Gen.facts, ?_⟩
  refine ⟨fun m ρ _ => Cert.Proof.Kernel.frame m ρ,
    fun m ρ _ => Cert.Norm.Gen.frame m ρ,
    fun m ρ _ => Cert.NormIdeal.Gen.frame m ρ,
    fun m ρ _ => (θ_run _ _ _).mono (fun r h => ⟨fun c => (h c).2, sem_eq_zero_of_no_sems (by decide) r.2⟩) (Cert.NormRefIdeal.Value.run m ρ),
    fun m ρ _ => Cert.Vg.Gen.frame m ρ,
    fun m ρ _ => Cert.VgIdeal.Gen.frame m ρ,
    fun m ρ _ => (θ_run _ _ _).mono (fun r h => ⟨fun c => (h c).2, sem_eq_zero_of_no_sems (by decide) r.2⟩) (Cert.VgRefIdeal.Value.run m ρ),
    fun m ρ _ => Cert.Qk.Gen.frame m ρ,
    fun m ρ _ => Cert.QkIdeal.Gen.frame m ρ,
    fun m ρ _ => (θ_run _ _ _).mono (fun r h => ⟨fun c => (h c).2, sem_eq_zero_of_no_sems (by decide) r.2⟩) (Cert.QkRefIdeal.Value.run m ρ),
    fun m ρ _ => Cert.Proof.Diff.frame m ρ,
    fun m ρ _ => Cert.Proof.DiffIdeal.frame m ρ,
    fun m ρ _ => Cert.Proof.DiffIdeal.frame m ρ,
    fun m ρ _ => (θ_run _ _ _).mono (fun r h => ⟨fun c => (h c).2, sem_eq_zero_of_no_sems (by decide) r.2⟩) (Cert.DiffRefIdeal.Value.run m ρ),
    fun m ρ _ => (θ_run _ _ _).mono (fun r h => ⟨fun c => (h c).2, sem_eq_zero_of_no_sems (by decide) r.2⟩) (Cert.DiffRefIdeal.Value.run m ρ),
    fun m ρ _ => Cert.Merge.Gen.frame m ρ,
    fun m ρ _ => Cert.MergeIdeal.Gen.frame m ρ,
    fun m ρ _ => (θ_run _ _ _).mono (fun r h => ⟨fun c => (h c).2, sem_eq_zero_of_no_sems (by decide) r.2⟩) (Cert.MergeRefIdeal.Value.run m ρ),
    fun m ρ _ => Cert.Out.Gen.frame m ρ,
    fun m ρ _ => Cert.OutIdeal.Gen.frame m ρ,
    fun m ρ _ => (θ_run _ _ _).mono (fun r h => ⟨fun c => (h c).2, sem_eq_zero_of_no_sems (by decide) r.2⟩) (Cert.OutRefIdeal.Value.run m ρ),
    trivial,
    Cert.Proof.NormValue.algebraic,
    trivial,
    Cert.Proof.VgValue.algebraic,
    trivial,
    Cert.Proof.QkValue.algebraic,
    Cert.Proof.DiffValue.preserves,
    Cert.Proof.DiffValue.algebraic,
    trivial,
    Cert.Proof.MergeValue.algebraic,
    trivial,
    Cert.Proof.OutValue.algebraic⟩

end Cert.Proof

end
